-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![32768, 1024]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S16384x1024 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Pre_ids_in_range_ReferenceIdeal.lean ====
abbrev S2048 : Shape := ⟨1, ![2048]⟩
abbrev S32768x1024 : Shape := ⟨2, ![32768, 1024]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : IVec S2048 32) (main_arg1 : FVec F S32768x1024 .f32) : IVec S2048 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  main_v4
-- ==== Kernel.lean ====
abbrev S2048 : Shape := ⟨1, ![2048]⟩
abbrev S16384x1024 : Shape := ⟨2, ![16384, 1024]⟩
abbrev S2048x1 : Shape := ⟨2, ![2048, 1]⟩
abbrev S2048x1024 : Shape := ⟨2, ![2048, 1024]⟩
abbrev S1024x1024 : Shape := ⟨2, ![1024, 1024]⟩
abbrev S8 : Shape := ⟨1, ![8]⟩
abbrev S_ : Shape := ⟨0, ![]⟩
abbrev S1 : Shape := ⟨1, ![1]⟩
abbrev S1x1024 : Shape := ⟨2, ![1, 1024]⟩
abbrev S128x1 : Shape := ⟨2, ![128, 1]⟩
abbrev S128x1024 : Shape := ⟨2, ![128, 1024]⟩

abbrev nBuf : Space → Nat
  | .hbm => 4
  | .vmem => 7
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S2048x1, .i32⟩
  | .hbm, ⟨3, _⟩ => ⟨S2048x1024, .f32⟩
  | .local _ .vmem, ⟨0, _⟩ => ⟨S2048x1, .i32⟩
  | .local _ .vmem, ⟨1, _⟩ => ⟨S2048x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .smem, ⟨0, _⟩ => ⟨S2048, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v16 : BitVec 32 := Scalar.muli v9 c1_i32_8
  let v17 : BitVec 32 := Scalar.addi v15 v16
  v17.toNat
def k0_dev2 (d0 : Dev nD) : Nat :=
  let c0_i32_11 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_10 : BitVec 32 := 4#32
  let v18 : BitVec 32 := Scalar.muli v10 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
@[reducible] def k0_t1_loop : Scf.Loop 32 :=
  let c0_i32_17 : BitVec 32 := 0#32
  let c16_i32 : BitVec 32 := 16#32
  let v28 : BitVec 32 := Scalar.addi c0_i32_17 c16_i32
  let c1_i32_18 : BitVec 32 := 1#32
  ⟨c0_i32_17, v28, c1_i32_18⟩
def k0_off1 (d0 : Dev nD) (k0_t1 : Fin k0_t1_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c0_i32_652 : BitVec 32 := 0#32
  let c0_i32_17 : BitVec 32 := 0#32
  let c1_i32_18 : BitVec 32 := 1#32
  let arg14 : BitVec 32 := Scf.iv c0_i32_17 c1_i32_18 k0_t1
  let c8_i32 : BitVec 32 := 8#32
  let v748 : BitVec 32 := Scalar.muli arg14 c8_i32
  let v749 : BitVec 32 := Scalar.addi c0_i32_652 v748
  let c0_i32_653 : BitVec 32 := 0#32
  let v750 : BitVec 32 := Scalar.addi v749 c0_i32_653
  let v751 : BitVec 32 := Scalar.addi v25 v750
  let v752 : Index := Scalar.indexCast v751
  ![v752.toNat]
def k0_off2 (k0_t1 : Fin k0_t1_loop.trips) : Fin 2 → Nat :=
  let c0_i32_652 : BitVec 32 := 0#32
  let c0_i32_17 : BitVec 32 := 0#32
  let c1_i32_18 : BitVec 32 := 1#32
  let arg14 : BitVec 32 := Scf.iv c0_i32_17 c1_i32_18 k0_t1
  let c8_i32 : BitVec 32 := 8#32
  let v748 : BitVec 32 := Scalar.muli arg14 c8_i32
  let v749 : BitVec 32 := Scalar.addi c0_i32_652 v748
  let c0_i32_653 : BitVec 32 := 0#32
  let v750 : BitVec 32 := Scalar.addi v749 c0_i32_653
  let c0_i32_656 : BitVec 32 := 0#32
  ![v750.toNat, 0]
def k0_off3 (d0 : Dev nD) (v753 : BitVec 32) : Fin 2 → Nat :=
  let c16383_i32 : BitVec 32 := 16383#32
  let c0_i32_654 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v754 : BitVec 32 := Scalar.subi v753 v24
  let v755 : BitVec 32 := Scalar.maxsi c0_i32_654 v754
  let v756 : BitVec 32 := Scalar.minsi c16383_i32 v755
  let c0_i32_657 : BitVec 32 := 0#32
  ![v756.toNat, 0]

def k0_chk1 (d0 : Dev nD) (v753 : BitVec 32) : Prop :=
  (∀ a, (k0_off3 d0 v753) a + S1x1024.size a ≤ S16384x1024.size a)
theorem k0_off3_inb : ∀ (d0 : Dev nD) (v753 : BitVec 32) (k0_hw1 : k0_chk1 d0 v753), ∀ a, (k0_off3 d0 v753) a + S1x1024.size a ≤ S16384x1024.size a := fun d0 v753 k0_hw1 => k0_hw1

def k0_off4 (d0 : Dev nD) (k0_t1 : Fin k0_t1_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c0_i32_659 : BitVec 32 := 0#32
  let c0_i32_17 : BitVec 32 := 0#32
  let c1_i32_18 : BitVec 32 := 1#32
  let arg14 : BitVec 32 := Scf.iv c0_i32_17 c1_i32_18 k0_t1
  let c8_i32_658 : BitVec 32 := 8#32
  let v761 : BitVec 32 := Scalar.muli arg14 c8_i32_658
  let v762 : BitVec 32 := Scalar.addi c0_i32_659 v761
  let c1_i32_660 : BitVec 32 := 1#32
  let v763 : BitVec 32 := Scalar.addi v762 c1_i32_660
  let v764 : BitVec 32 := Scalar.addi v25 v763
  let v765 : Index := Scalar.indexCast v764
  ![v765.toNat]
def k0_off5 (k0_t1 : Fin k0_t1_loop.trips) : Fin 2 → Nat :=
  let c0_i32_659 : BitVec 32 := 0#32
  let c0_i32_17 : BitVec 32 := 0#32
  let c1_i32_18 : BitVec 32 := 1#32
  let arg14 : BitVec 32 := Scf.iv c0_i32_17 c1_i32_18 k0_t1
  let c8_i32_658 : BitVec 32 := 8#32
  let v761 : BitVec 32 := Scalar.muli arg14 c8_i32_658
  let v762 : BitVec 32 := Scalar.addi c0_i32_659 v761
  let c1_i32_660 : BitVec 32 := 1#32
  let v763 : BitVec 32 := Scalar.addi v762 c1_i32_660
  let c0_i32_664 : BitVec 32 := 0#32
  ![v763.toNat, 0]
def k0_off6 (d0 : Dev nD) (v766 : BitVec 32) : Fin 2 → Nat :=
  let c16383_i32_662 : BitVec 32 := 16383#32
  let c0_i32_661 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v767 : BitVec 32 := Scalar.subi v766 v24
  let v768 : BitVec 32 := Scalar.maxsi c0_i32_661 v767
  let v769 : BitVec 32 := Scalar.minsi c16383_i32_662 v768
  let c0_i32_665 : BitVec 32 := 0#32
  ![v769.toNat, 0]

def k0_chk2 (d0 : Dev nD) (v766 : BitVec 32) : Prop :=
  (∀ a, (k0_off6 d0 v766) a + S1x1024.size a ≤ S16384x1024.size a)
theorem k0_off6_inb : ∀ (d0 : Dev nD) (v766 : BitVec 32) (k0_hw2 : k0_chk2 d0 v766), ∀ a, (k0_off6 d0 v766) a + S1x1024.size a ≤ S16384x1024.size a := fun d0 v766 k0_hw2 => k0_hw2

def k0_off7 (d0 : Dev nD) (k0_t1 : Fin k0_t1_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c0_i32_667 : BitVec 32 := 0#32
  let c0_i32_17 : BitVec 32 := 0#32
  let c1_i32_18 : BitVec 32 := 1#32
  let arg14 : BitVec 32 := Scf.iv c0_i32_17 c1_i32_18 k0_t1
  let c8_i32_666 : BitVec 32 := 8#32
  let v774 : BitVec 32 := Scalar.muli arg14 c8_i32_666
  let v775 : BitVec 32 := Scalar.addi c0_i32_667 v774
  let c2_i32_668 : BitVec 32 := 2#32
  let v776 : BitVec 32 := Scalar.addi v775 c2_i32_668
  let v777 : BitVec 32 := Scalar.addi v25 v776
  let v778 : Index := Scalar.indexCast v777
  ![v778.toNat]
def k0_off8 (k0_t1 : Fin k0_t1_loop.trips) : Fin 2 → Nat :=
  let c0_i32_667 : BitVec 32 := 0#32
  let c0_i32_17 : BitVec 32 := 0#32
  let c1_i32_18 : BitVec 32 := 1#32
  let arg14 : BitVec 32 := Scf.iv c0_i32_17 c1_i32_18 k0_t1
  let c8_i32_666 : BitVec 32 := 8#32
  let v774 : BitVec 32 := Scalar.muli arg14 c8_i32_666
  let v775 : BitVec 32 := Scalar.addi c0_i32_667 v774
  let c2_i32_668 : BitVec 32 := 2#32
  let v776 : BitVec 32 := Scalar.addi v775 c2_i32_668
  let c0_i32_672 : BitVec 32 := 0#32
  ![v776.toNat, 0]
def k0_off9 (d0 : Dev nD) (v779 : BitVec 32) : Fin 2 → Nat :=
  let c16383_i32_670 : BitVec 32 := 16383#32
  let c0_i32_669 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v780 : BitVec 32 := Scalar.subi v779 v24
  let v781 : BitVec 32 := Scalar.maxsi c0_i32_669 v780
  let v782 : BitVec 32 := Scalar.minsi c16383_i32_670 v781
  let c0_i32_673 : BitVec 32 := 0#32
  ![v782.toNat, 0]

def k0_chk3 (d0 : Dev nD) (v779 : BitVec 32) : Prop :=
  (∀ a, (k0_off9 d0 v779) a + S1x1024.size a ≤ S16384x1024.size a)
theorem k0_off9_inb : ∀ (d0 : Dev nD) (v779 : BitVec 32) (k0_hw3 : k0_chk3 d0 v779), ∀ a, (k0_off9 d0 v779) a + S1x1024.size a ≤ S16384x1024.size a := fun d0 v779 k0_hw3 => k0_hw3

def k0_off10 (d0 : Dev nD) (k0_t1 : Fin k0_t1_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c0_i32_675 : BitVec 32 := 0#32
  let c0_i32_17 : BitVec 32 := 0#32
  let c1_i32_18 : BitVec 32 := 1#32
  let arg14 : BitVec 32 := Scf.iv c0_i32_17 c1_i32_18 k0_t1
  let c8_i32_674 : BitVec 32 := 8#32
  let v787 : BitVec 32 := Scalar.muli arg14 c8_i32_674
  let v788 : BitVec 32 := Scalar.addi c0_i32_675 v787
  let c3_i32_676 : BitVec 32 := 3#32
  let v789 : BitVec 32 := Scalar.addi v788 c3_i32_676
  let v790 : BitVec 32 := Scalar.addi v25 v789
  let v791 : Index := Scalar.indexCast v790
  ![v791.toNat]
def k0_off11 (k0_t1 : Fin k0_t1_loop.trips) : Fin 2 → Nat :=
  let c0_i32_675 : BitVec 32 := 0#32
  let c0_i32_17 : BitVec 32 := 0#32
  let c1_i32_18 : BitVec 32 := 1#32
  let arg14 : BitVec 32 := Scf.iv c0_i32_17 c1_i32_18 k0_t1
  let c8_i32_674 : BitVec 32 := 8#32
  let v787 : BitVec 32 := Scalar.muli arg14 c8_i32_674
  let v788 : BitVec 32 := Scalar.addi c0_i32_675 v787
  let c3_i32_676 : BitVec 32 := 3#32
  let v789 : BitVec 32 := Scalar.addi v788 c3_i32_676
  let c0_i32_680 : BitVec 32 := 0#32
  ![v789.toNat, 0]
def k0_off12 (d0 : Dev nD) (v792 : BitVec 32) : Fin 2 → Nat :=
  let c16383_i32_678 : BitVec 32 := 16383#32
  let c0_i32_677 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v793 : BitVec 32 := Scalar.subi v792 v24
  let v794 : BitVec 32 := Scalar.maxsi c0_i32_677 v793
  let v795 : BitVec 32 := Scalar.minsi c16383_i32_678 v794
  let c0_i32_681 : BitVec 32 := 0#32
  ![v795.toNat, 0]

def k0_chk4 (d0 : Dev nD) (v792 : BitVec 32) : Prop :=
  (∀ a, (k0_off12 d0 v792) a + S1x1024.size a ≤ S16384x1024.size a)
theorem k0_off12_inb : ∀ (d0 : Dev nD) (v792 : BitVec 32) (k0_hw4 : k0_chk4 d0 v792), ∀ a, (k0_off12 d0 v792) a + S1x1024.size a ≤ S16384x1024.size a := fun d0 v792 k0_hw4 => k0_hw4

def k0_off13 (d0 : Dev nD) (k0_t1 : Fin k0_t1_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c0_i32_683 : BitVec 32 := 0#32
  let c0_i32_17 : BitVec 32 := 0#32
  let c1_i32_18 : BitVec 32 := 1#32
  let arg14 : BitVec 32 := Scf.iv c0_i32_17 c1_i32_18 k0_t1
  let c8_i32_682 : BitVec 32 := 8#32
  let v800 : BitVec 32 := Scalar.muli arg14 c8_i32_682
  let v801 : BitVec 32 := Scalar.addi c0_i32_683 v800
  let c4_i32_684 : BitVec 32 := 4#32
  let v802 : BitVec 32 := Scalar.addi v801 c4_i32_684
  let v803 : BitVec 32 := Scalar.addi v25 v802
  let v804 : Index := Scalar.indexCast v803
  ![v804.toNat]
def k0_off14 (k0_t1 : Fin k0_t1_loop.trips) : Fin 2 → Nat :=
  let c0_i32_683 : BitVec 32 := 0#32
  let c0_i32_17 : BitVec 32 := 0#32
  let c1_i32_18 : BitVec 32 := 1#32
  let arg14 : BitVec 32 := Scf.iv c0_i32_17 c1_i32_18 k0_t1
  let c8_i32_682 : BitVec 32 := 8#32
  let v800 : BitVec 32 := Scalar.muli arg14 c8_i32_682
  let v801 : BitVec 32 := Scalar.addi c0_i32_683 v800
  let c4_i32_684 : BitVec 32 := 4#32
  let v802 : BitVec 32 := Scalar.addi v801 c4_i32_684
  let c0_i32_688 : BitVec 32 := 0#32
  ![v802.toNat, 0]
def k0_off15 (d0 : Dev nD) (v805 : BitVec 32) : Fin 2 → Nat :=
  let c16383_i32_686 : BitVec 32 := 16383#32
  let c0_i32_685 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v806 : BitVec 32 := Scalar.subi v805 v24
  let v807 : BitVec 32 := Scalar.maxsi c0_i32_685 v806
  let v808 : BitVec 32 := Scalar.minsi c16383_i32_686 v807
  let c0_i32_689 : BitVec 32 := 0#32
  ![v808.toNat, 0]

def k0_chk5 (d0 : Dev nD) (v805 : BitVec 32) : Prop :=
  (∀ a, (k0_off15 d0 v805) a + S1x1024.size a ≤ S16384x1024.size a)
theorem k0_off15_inb : ∀ (d0 : Dev nD) (v805 : BitVec 32) (k0_hw5 : k0_chk5 d0 v805), ∀ a, (k0_off15 d0 v805) a + S1x1024.size a ≤ S16384x1024.size a := fun d0 v805 k0_hw5 => k0_hw5

def k0_off16 (d0 : Dev nD) (k0_t1 : Fin k0_t1_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c0_i32_691 : BitVec 32 := 0#32
  let c0_i32_17 : BitVec 32 := 0#32
  let c1_i32_18 : BitVec 32 := 1#32
  let arg14 : BitVec 32 := Scf.iv c0_i32_17 c1_i32_18 k0_t1
  let c8_i32_690 : BitVec 32 := 8#32
  let v813 : BitVec 32 := Scalar.muli arg14 c8_i32_690
  let v814 : BitVec 32 := Scalar.addi c0_i32_691 v813
  let c5_i32_692 : BitVec 32 := 5#32
  let v815 : BitVec 32 := Scalar.addi v814 c5_i32_692
  let v816 : BitVec 32 := Scalar.addi v25 v815
  let v817 : Index := Scalar.indexCast v816
  ![v817.toNat]
def k0_off17 (k0_t1 : Fin k0_t1_loop.trips) : Fin 2 → Nat :=
  let c0_i32_691 : BitVec 32 := 0#32
  let c0_i32_17 : BitVec 32 := 0#32
  let c1_i32_18 : BitVec 32 := 1#32
  let arg14 : BitVec 32 := Scf.iv c0_i32_17 c1_i32_18 k0_t1
  let c8_i32_690 : BitVec 32 := 8#32
  let v813 : BitVec 32 := Scalar.muli arg14 c8_i32_690
  let v814 : BitVec 32 := Scalar.addi c0_i32_691 v813
  let c5_i32_692 : BitVec 32 := 5#32
  let v815 : BitVec 32 := Scalar.addi v814 c5_i32_692
  let c0_i32_696 : BitVec 32 := 0#32
  ![v815.toNat, 0]
def k0_off18 (d0 : Dev nD) (v818 : BitVec 32) : Fin 2 → Nat :=
  let c16383_i32_694 : BitVec 32 := 16383#32
  let c0_i32_693 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v819 : BitVec 32 := Scalar.subi v818 v24
  let v820 : BitVec 32 := Scalar.maxsi c0_i32_693 v819
  let v821 : BitVec 32 := Scalar.minsi c16383_i32_694 v820
  let c0_i32_697 : BitVec 32 := 0#32
  ![v821.toNat, 0]

def k0_chk6 (d0 : Dev nD) (v818 : BitVec 32) : Prop :=
  (∀ a, (k0_off18 d0 v818) a + S1x1024.size a ≤ S16384x1024.size a)
theorem k0_off18_inb : ∀ (d0 : Dev nD) (v818 : BitVec 32) (k0_hw6 : k0_chk6 d0 v818), ∀ a, (k0_off18 d0 v818) a + S1x1024.size a ≤ S16384x1024.size a := fun d0 v818 k0_hw6 => k0_hw6

def k0_off19 (d0 : Dev nD) (k0_t1 : Fin k0_t1_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c0_i32_699 : BitVec 32 := 0#32
  let c0_i32_17 : BitVec 32 := 0#32
  let c1_i32_18 : BitVec 32 := 1#32
  let arg14 : BitVec 32 := Scf.iv c0_i32_17 c1_i32_18 k0_t1
  let c8_i32_698 : BitVec 32 := 8#32
  let v826 : BitVec 32 := Scalar.muli arg14 c8_i32_698
  let v827 : BitVec 32 := Scalar.addi c0_i32_699 v826
  let c6_i32_700 : BitVec 32 := 6#32
  let v828 : BitVec 32 := Scalar.addi v827 c6_i32_700
  let v829 : BitVec 32 := Scalar.addi v25 v828
  let v830 : Index := Scalar.indexCast v829
  ![v830.toNat]
def k0_off20 (k0_t1 : Fin k0_t1_loop.trips) : Fin 2 → Nat :=
  let c0_i32_699 : BitVec 32 := 0#32
  let c0_i32_17 : BitVec 32 := 0#32
  let c1_i32_18 : BitVec 32 := 1#32
  let arg14 : BitVec 32 := Scf.iv c0_i32_17 c1_i32_18 k0_t1
  let c8_i32_698 : BitVec 32 := 8#32
  let v826 : BitVec 32 := Scalar.muli arg14 c8_i32_698
  let v827 : BitVec 32 := Scalar.addi c0_i32_699 v826
  let c6_i32_700 : BitVec 32 := 6#32
  let v828 : BitVec 32 := Scalar.addi v827 c6_i32_700
  let c0_i32_704 : BitVec 32 := 0#32
  ![v828.toNat, 0]
def k0_off21 (d0 : Dev nD) (v831 : BitVec 32) : Fin 2 → Nat :=
  let c16383_i32_702 : BitVec 32 := 16383#32
  let c0_i32_701 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v832 : BitVec 32 := Scalar.subi v831 v24
  let v833 : BitVec 32 := Scalar.maxsi c0_i32_701 v832
  let v834 : BitVec 32 := Scalar.minsi c16383_i32_702 v833
  let c0_i32_705 : BitVec 32 := 0#32
  ![v834.toNat, 0]

def k0_chk7 (d0 : Dev nD) (v831 : BitVec 32) : Prop :=
  (∀ a, (k0_off21 d0 v831) a + S1x1024.size a ≤ S16384x1024.size a)
theorem k0_off21_inb : ∀ (d0 : Dev nD) (v831 : BitVec 32) (k0_hw7 : k0_chk7 d0 v831), ∀ a, (k0_off21 d0 v831) a + S1x1024.size a ≤ S16384x1024.size a := fun d0 v831 k0_hw7 => k0_hw7

def k0_off22 (d0 : Dev nD) (k0_t1 : Fin k0_t1_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c0_i32_707 : BitVec 32 := 0#32
  let c0_i32_17 : BitVec 32 := 0#32
  let c1_i32_18 : BitVec 32 := 1#32
  let arg14 : BitVec 32 := Scf.iv c0_i32_17 c1_i32_18 k0_t1
  let c8_i32_706 : BitVec 32 := 8#32
  let v839 : BitVec 32 := Scalar.muli arg14 c8_i32_706
  let v840 : BitVec 32 := Scalar.addi c0_i32_707 v839
  let c7_i32_708 : BitVec 32 := 7#32
  let v841 : BitVec 32 := Scalar.addi v840 c7_i32_708
  let v842 : BitVec 32 := Scalar.addi v25 v841
  let v843 : Index := Scalar.indexCast v842
  ![v843.toNat]
def k0_off23 (k0_t1 : Fin k0_t1_loop.trips) : Fin 2 → Nat :=
  let c0_i32_707 : BitVec 32 := 0#32
  let c0_i32_17 : BitVec 32 := 0#32
  let c1_i32_18 : BitVec 32 := 1#32
  let arg14 : BitVec 32 := Scf.iv c0_i32_17 c1_i32_18 k0_t1
  let c8_i32_706 : BitVec 32 := 8#32
  let v839 : BitVec 32 := Scalar.muli arg14 c8_i32_706
  let v840 : BitVec 32 := Scalar.addi c0_i32_707 v839
  let c7_i32_708 : BitVec 32 := 7#32
  let v841 : BitVec 32 := Scalar.addi v840 c7_i32_708
  let c0_i32_712 : BitVec 32 := 0#32
  ![v841.toNat, 0]
def k0_off24 (d0 : Dev nD) (v844 : BitVec 32) : Fin 2 → Nat :=
  let c16383_i32_710 : BitVec 32 := 16383#32
  let c0_i32_709 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v845 : BitVec 32 := Scalar.subi v844 v24
  let v846 : BitVec 32 := Scalar.maxsi c0_i32_709 v845
  let v847 : BitVec 32 := Scalar.minsi c16383_i32_710 v846
  let c0_i32_713 : BitVec 32 := 0#32
  ![v847.toNat, 0]

def k0_chk8 (d0 : Dev nD) (v844 : BitVec 32) : Prop :=
  (∀ a, (k0_off24 d0 v844) a + S1x1024.size a ≤ S16384x1024.size a)
theorem k0_off24_inb : ∀ (d0 : Dev nD) (v844 : BitVec 32) (k0_hw8 : k0_chk8 d0 v844), ∀ a, (k0_off24 d0 v844) a + S1x1024.size a ≤ S16384x1024.size a := fun d0 v844 k0_hw8 => k0_hw8

@[reducible] def k0_t2_loop : Scf.Loop 32 :=
  let c0_i32_20 : BitVec 32 := 0#32
  let c16_i32_21 : BitVec 32 := 16#32
  let v29 : BitVec 32 := Scalar.addi c0_i32_20 c16_i32_21
  let c1_i32_22 : BitVec 32 := 1#32
  ⟨c0_i32_20, v29, c1_i32_22⟩
def k0_off25 (d0 : Dev nD) (k0_t2 : Fin k0_t2_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c128_i32_652 : BitVec 32 := 128#32
  let c0_i32_20 : BitVec 32 := 0#32
  let c1_i32_22 : BitVec 32 := 1#32
  let arg14 : BitVec 32 := Scf.iv c0_i32_20 c1_i32_22 k0_t2
  let c8_i32 : BitVec 32 := 8#32
  let v748 : BitVec 32 := Scalar.muli arg14 c8_i32
  let v749 : BitVec 32 := Scalar.addi c128_i32_652 v748
  let c0_i32_653 : BitVec 32 := 0#32
  let v750 : BitVec 32 := Scalar.addi v749 c0_i32_653
  let v751 : BitVec 32 := Scalar.addi v25 v750
  let v752 : Index := Scalar.indexCast v751
  ![v752.toNat]
def k0_off26 (k0_t2 : Fin k0_t2_loop.trips) : Fin 2 → Nat :=
  let c128_i32_652 : BitVec 32 := 128#32
  let c0_i32_20 : BitVec 32 := 0#32
  let c1_i32_22 : BitVec 32 := 1#32
  let arg14 : BitVec 32 := Scf.iv c0_i32_20 c1_i32_22 k0_t2
  let c8_i32 : BitVec 32 := 8#32
  let v748 : BitVec 32 := Scalar.muli arg14 c8_i32
  let v749 : BitVec 32 := Scalar.addi c128_i32_652 v748
  let c0_i32_653 : BitVec 32 := 0#32
  let v750 : BitVec 32 := Scalar.addi v749 c0_i32_653
  let c0_i32_656 : BitVec 32 := 0#32
  ![v750.toNat, 0]
def k0_off27 (d0 : Dev nD) (v753 : BitVec 32) : Fin 2 → Nat :=
  let c16383_i32 : BitVec 32 := 16383#32
  let c0_i32_654 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v754 : BitVec 32 := Scalar.subi v753 v24
  let v755 : BitVec 32 := Scalar.maxsi c0_i32_654 v754
  let v756 : BitVec 32 := Scalar.minsi c16383_i32 v755
  let c0_i32_657 : BitVec 32 := 0#32
  ![v756.toNat, 0]

def k0_chk9 (d0 : Dev nD) (v753 : BitVec 32) : Prop :=
  (∀ a, (k0_off27 d0 v753) a + S1x1024.size a ≤ S16384x1024.size a)
theorem k0_off27_inb : ∀ (d0 : Dev nD) (v753 : BitVec 32) (k0_hw9 : k0_chk9 d0 v753), ∀ a, (k0_off27 d0 v753) a + S1x1024.size a ≤ S16384x1024.size a := fun d0 v753 k0_hw9 => k0_hw9

def k0_off28 (d0 : Dev nD) (k0_t2 : Fin k0_t2_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c128_i32_659 : BitVec 32 := 128#32
  let c0_i32_20 : BitVec 32 := 0#32
  let c1_i32_22 : BitVec 32 := 1#32
  let arg14 : BitVec 32 := Scf.iv c0_i32_20 c1_i32_22 k0_t2
  let c8_i32_658 : BitVec 32 := 8#32
  let v761 : BitVec 32 := Scalar.muli arg14 c8_i32_658
  let v762 : BitVec 32 := Scalar.addi c128_i32_659 v761
  let c1_i32_660 : BitVec 32 := 1#32
  let v763 : BitVec 32 := Scalar.addi v762 c1_i32_660
  let v764 : BitVec 32 := Scalar.addi v25 v763
  let v765 : Index := Scalar.indexCast v764
  ![v765.toNat]
def k0_off29 (k0_t2 : Fin k0_t2_loop.trips) : Fin 2 → Nat :=
  let c128_i32_659 : BitVec 32 := 128#32
  let c0_i32_20 : BitVec 32 := 0#32
  let c1_i32_22 : BitVec 32 := 1#32
  let arg14 : BitVec 32 := Scf.iv c0_i32_20 c1_i32_22 k0_t2
  let c8_i32_658 : BitVec 32 := 8#32
  let v761 : BitVec 32 := Scalar.muli arg14 c8_i32_658
  let v762 : BitVec 32 := Scalar.addi c128_i32_659 v761
  let c1_i32_660 : BitVec 32 := 1#32
  let v763 : BitVec 32 := Scalar.addi v762 c1_i32_660
  let c0_i32_664 : BitVec 32 := 0#32
  ![v763.toNat, 0]
def k0_off30 (d0 : Dev nD) (v766 : BitVec 32) : Fin 2 → Nat :=
  let c16383_i32_662 : BitVec 32 := 16383#32
  let c0_i32_661 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v767 : BitVec 32 := Scalar.subi v766 v24
  let v768 : BitVec 32 := Scalar.maxsi c0_i32_661 v767
  let v769 : BitVec 32 := Scalar.minsi c16383_i32_662 v768
  let c0_i32_665 : BitVec 32 := 0#32
  ![v769.toNat, 0]

def k0_chk10 (d0 : Dev nD) (v766 : BitVec 32) : Prop :=
  (∀ a, (k0_off30 d0 v766) a + S1x1024.size a ≤ S16384x1024.size a)
theorem k0_off30_inb : ∀ (d0 : Dev nD) (v766 : BitVec 32) (k0_hw10 : k0_chk10 d0 v766), ∀ a, (k0_off30 d0 v766) a + S1x1024.size a ≤ S16384x1024.size a := fun d0 v766 k0_hw10 => k0_hw10

def k0_off31 (d0 : Dev nD) (k0_t2 : Fin k0_t2_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c128_i32_667 : BitVec 32 := 128#32
  let c0_i32_20 : BitVec 32 := 0#32
  let c1_i32_22 : BitVec 32 := 1#32
  let arg14 : BitVec 32 := Scf.iv c0_i32_20 c1_i32_22 k0_t2
  let c8_i32_666 : BitVec 32 := 8#32
  let v774 : BitVec 32 := Scalar.muli arg14 c8_i32_666
  let v775 : BitVec 32 := Scalar.addi c128_i32_667 v774
  let c2_i32_668 : BitVec 32 := 2#32
  let v776 : BitVec 32 := Scalar.addi v775 c2_i32_668
  let v777 : BitVec 32 := Scalar.addi v25 v776
  let v778 : Index := Scalar.indexCast v777
  ![v778.toNat]
def k0_off32 (k0_t2 : Fin k0_t2_loop.trips) : Fin 2 → Nat :=
  let c128_i32_667 : BitVec 32 := 128#32
  let c0_i32_20 : BitVec 32 := 0#32
  let c1_i32_22 : BitVec 32 := 1#32
  let arg14 : BitVec 32 := Scf.iv c0_i32_20 c1_i32_22 k0_t2
  let c8_i32_666 : BitVec 32 := 8#32
  let v774 : BitVec 32 := Scalar.muli arg14 c8_i32_666
  let v775 : BitVec 32 := Scalar.addi c128_i32_667 v774
  let c2_i32_668 : BitVec 32 := 2#32
  let v776 : BitVec 32 := Scalar.addi v775 c2_i32_668
  let c0_i32_672 : BitVec 32 := 0#32
  ![v776.toNat, 0]
def k0_off33 (d0 : Dev nD) (v779 : BitVec 32) : Fin 2 → Nat :=
  let c16383_i32_670 : BitVec 32 := 16383#32
  let c0_i32_669 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v780 : BitVec 32 := Scalar.subi v779 v24
  let v781 : BitVec 32 := Scalar.maxsi c0_i32_669 v780
  let v782 : BitVec 32 := Scalar.minsi c16383_i32_670 v781
  let c0_i32_673 : BitVec 32 := 0#32
  ![v782.toNat, 0]

def k0_chk11 (d0 : Dev nD) (v779 : BitVec 32) : Prop :=
  (∀ a, (k0_off33 d0 v779) a + S1x1024.size a ≤ S16384x1024.size a)
theorem k0_off33_inb : ∀ (d0 : Dev nD) (v779 : BitVec 32) (k0_hw11 : k0_chk11 d0 v779), ∀ a, (k0_off33 d0 v779) a + S1x1024.size a ≤ S16384x1024.size a := fun d0 v779 k0_hw11 => k0_hw11

def k0_off34 (d0 : Dev nD) (k0_t2 : Fin k0_t2_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c128_i32_675 : BitVec 32 := 128#32
  let c0_i32_20 : BitVec 32 := 0#32
  let c1_i32_22 : BitVec 32 := 1#32
  let arg14 : BitVec 32 := Scf.iv c0_i32_20 c1_i32_22 k0_t2
  let c8_i32_674 : BitVec 32 := 8#32
  let v787 : BitVec 32 := Scalar.muli arg14 c8_i32_674
  let v788 : BitVec 32 := Scalar.addi c128_i32_675 v787
  let c3_i32_676 : BitVec 32 := 3#32
  let v789 : BitVec 32 := Scalar.addi v788 c3_i32_676
  let v790 : BitVec 32 := Scalar.addi v25 v789
  let v791 : Index := Scalar.indexCast v790
  ![v791.toNat]
def k0_off35 (k0_t2 : Fin k0_t2_loop.trips) : Fin 2 → Nat :=
  let c128_i32_675 : BitVec 32 := 128#32
  let c0_i32_20 : BitVec 32 := 0#32
  let c1_i32_22 : BitVec 32 := 1#32
  let arg14 : BitVec 32 := Scf.iv c0_i32_20 c1_i32_22 k0_t2
  let c8_i32_674 : BitVec 32 := 8#32
  let v787 : BitVec 32 := Scalar.muli arg14 c8_i32_674
  let v788 : BitVec 32 := Scalar.addi c128_i32_675 v787
  let c3_i32_676 : BitVec 32 := 3#32
  let v789 : BitVec 32 := Scalar.addi v788 c3_i32_676
  let c0_i32_680 : BitVec 32 := 0#32
  ![v789.toNat, 0]
def k0_off36 (d0 : Dev nD) (v792 : BitVec 32) : Fin 2 → Nat :=
  let c16383_i32_678 : BitVec 32 := 16383#32
  let c0_i32_677 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v793 : BitVec 32 := Scalar.subi v792 v24
  let v794 : BitVec 32 := Scalar.maxsi c0_i32_677 v793
  let v795 : BitVec 32 := Scalar.minsi c16383_i32_678 v794
  let c0_i32_681 : BitVec 32 := 0#32
  ![v795.toNat, 0]

def k0_chk12 (d0 : Dev nD) (v792 : BitVec 32) : Prop :=
  (∀ a, (k0_off36 d0 v792) a + S1x1024.size a ≤ S16384x1024.size a)
theorem k0_off36_inb : ∀ (d0 : Dev nD) (v792 : BitVec 32) (k0_hw12 : k0_chk12 d0 v792), ∀ a, (k0_off36 d0 v792) a + S1x1024.size a ≤ S16384x1024.size a := fun d0 v792 k0_hw12 => k0_hw12

def k0_off37 (d0 : Dev nD) (k0_t2 : Fin k0_t2_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c128_i32_683 : BitVec 32 := 128#32
  let c0_i32_20 : BitVec 32 := 0#32
  let c1_i32_22 : BitVec 32 := 1#32
  let arg14 : BitVec 32 := Scf.iv c0_i32_20 c1_i32_22 k0_t2
  let c8_i32_682 : BitVec 32 := 8#32
  let v800 : BitVec 32 := Scalar.muli arg14 c8_i32_682
  let v801 : BitVec 32 := Scalar.addi c128_i32_683 v800
  let c4_i32_684 : BitVec 32 := 4#32
  let v802 : BitVec 32 := Scalar.addi v801 c4_i32_684
  let v803 : BitVec 32 := Scalar.addi v25 v802
  let v804 : Index := Scalar.indexCast v803
  ![v804.toNat]
def k0_off38 (k0_t2 : Fin k0_t2_loop.trips) : Fin 2 → Nat :=
  let c128_i32_683 : BitVec 32 := 128#32
  let c0_i32_20 : BitVec 32 := 0#32
  let c1_i32_22 : BitVec 32 := 1#32
  let arg14 : BitVec 32 := Scf.iv c0_i32_20 c1_i32_22 k0_t2
  let c8_i32_682 : BitVec 32 := 8#32
  let v800 : BitVec 32 := Scalar.muli arg14 c8_i32_682
  let v801 : BitVec 32 := Scalar.addi c128_i32_683 v800
  let c4_i32_684 : BitVec 32 := 4#32
  let v802 : BitVec 32 := Scalar.addi v801 c4_i32_684
  let c0_i32_688 : BitVec 32 := 0#32
  ![v802.toNat, 0]
def k0_off39 (d0 : Dev nD) (v805 : BitVec 32) : Fin 2 → Nat :=
  let c16383_i32_686 : BitVec 32 := 16383#32
  let c0_i32_685 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v806 : BitVec 32 := Scalar.subi v805 v24
  let v807 : BitVec 32 := Scalar.maxsi c0_i32_685 v806
  let v808 : BitVec 32 := Scalar.minsi c16383_i32_686 v807
  let c0_i32_689 : BitVec 32 := 0#32
  ![v808.toNat, 0]

def k0_chk13 (d0 : Dev nD) (v805 : BitVec 32) : Prop :=
  (∀ a, (k0_off39 d0 v805) a + S1x1024.size a ≤ S16384x1024.size a)
theorem k0_off39_inb : ∀ (d0 : Dev nD) (v805 : BitVec 32) (k0_hw13 : k0_chk13 d0 v805), ∀ a, (k0_off39 d0 v805) a + S1x1024.size a ≤ S16384x1024.size a := fun d0 v805 k0_hw13 => k0_hw13

def k0_off40 (d0 : Dev nD) (k0_t2 : Fin k0_t2_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c128_i32_691 : BitVec 32 := 128#32
  let c0_i32_20 : BitVec 32 := 0#32
  let c1_i32_22 : BitVec 32 := 1#32
  let arg14 : BitVec 32 := Scf.iv c0_i32_20 c1_i32_22 k0_t2
  let c8_i32_690 : BitVec 32 := 8#32
  let v813 : BitVec 32 := Scalar.muli arg14 c8_i32_690
  let v814 : BitVec 32 := Scalar.addi c128_i32_691 v813
  let c5_i32_692 : BitVec 32 := 5#32
  let v815 : BitVec 32 := Scalar.addi v814 c5_i32_692
  let v816 : BitVec 32 := Scalar.addi v25 v815
  let v817 : Index := Scalar.indexCast v816
  ![v817.toNat]
def k0_off41 (k0_t2 : Fin k0_t2_loop.trips) : Fin 2 → Nat :=
  let c128_i32_691 : BitVec 32 := 128#32
  let c0_i32_20 : BitVec 32 := 0#32
  let c1_i32_22 : BitVec 32 := 1#32
  let arg14 : BitVec 32 := Scf.iv c0_i32_20 c1_i32_22 k0_t2
  let c8_i32_690 : BitVec 32 := 8#32
  let v813 : BitVec 32 := Scalar.muli arg14 c8_i32_690
  let v814 : BitVec 32 := Scalar.addi c128_i32_691 v813
  let c5_i32_692 : BitVec 32 := 5#32
  let v815 : BitVec 32 := Scalar.addi v814 c5_i32_692
  let c0_i32_696 : BitVec 32 := 0#32
  ![v815.toNat, 0]
def k0_off42 (d0 : Dev nD) (v818 : BitVec 32) : Fin 2 → Nat :=
  let c16383_i32_694 : BitVec 32 := 16383#32
  let c0_i32_693 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v819 : BitVec 32 := Scalar.subi v818 v24
  let v820 : BitVec 32 := Scalar.maxsi c0_i32_693 v819
  let v821 : BitVec 32 := Scalar.minsi c16383_i32_694 v820
  let c0_i32_697 : BitVec 32 := 0#32
  ![v821.toNat, 0]

def k0_chk14 (d0 : Dev nD) (v818 : BitVec 32) : Prop :=
  (∀ a, (k0_off42 d0 v818) a + S1x1024.size a ≤ S16384x1024.size a)
theorem k0_off42_inb : ∀ (d0 : Dev nD) (v818 : BitVec 32) (k0_hw14 : k0_chk14 d0 v818), ∀ a, (k0_off42 d0 v818) a + S1x1024.size a ≤ S16384x1024.size a := fun d0 v818 k0_hw14 => k0_hw14

def k0_off43 (d0 : Dev nD) (k0_t2 : Fin k0_t2_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c128_i32_699 : BitVec 32 := 128#32
  let c0_i32_20 : BitVec 32 := 0#32
  let c1_i32_22 : BitVec 32 := 1#32
  let arg14 : BitVec 32 := Scf.iv c0_i32_20 c1_i32_22 k0_t2
  let c8_i32_698 : BitVec 32 := 8#32
  let v826 : BitVec 32 := Scalar.muli arg14 c8_i32_698
  let v827 : BitVec 32 := Scalar.addi c128_i32_699 v826
  let c6_i32_700 : BitVec 32 := 6#32
  let v828 : BitVec 32 := Scalar.addi v827 c6_i32_700
  let v829 : BitVec 32 := Scalar.addi v25 v828
  let v830 : Index := Scalar.indexCast v829
  ![v830.toNat]
def k0_off44 (k0_t2 : Fin k0_t2_loop.trips) : Fin 2 → Nat :=
  let c128_i32_699 : BitVec 32 := 128#32
  let c0_i32_20 : BitVec 32 := 0#32
  let c1_i32_22 : BitVec 32 := 1#32
  let arg14 : BitVec 32 := Scf.iv c0_i32_20 c1_i32_22 k0_t2
  let c8_i32_698 : BitVec 32 := 8#32
  let v826 : BitVec 32 := Scalar.muli arg14 c8_i32_698
  let v827 : BitVec 32 := Scalar.addi c128_i32_699 v826
  let c6_i32_700 : BitVec 32 := 6#32
  let v828 : BitVec 32 := Scalar.addi v827 c6_i32_700
  let c0_i32_704 : BitVec 32 := 0#32
  ![v828.toNat, 0]
def k0_off45 (d0 : Dev nD) (v831 : BitVec 32) : Fin 2 → Nat :=
  let c16383_i32_702 : BitVec 32 := 16383#32
  let c0_i32_701 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v832 : BitVec 32 := Scalar.subi v831 v24
  let v833 : BitVec 32 := Scalar.maxsi c0_i32_701 v832
  let v834 : BitVec 32 := Scalar.minsi c16383_i32_702 v833
  let c0_i32_705 : BitVec 32 := 0#32
  ![v834.toNat, 0]

def k0_chk15 (d0 : Dev nD) (v831 : BitVec 32) : Prop :=
  (∀ a, (k0_off45 d0 v831) a + S1x1024.size a ≤ S16384x1024.size a)
theorem k0_off45_inb : ∀ (d0 : Dev nD) (v831 : BitVec 32) (k0_hw15 : k0_chk15 d0 v831), ∀ a, (k0_off45 d0 v831) a + S1x1024.size a ≤ S16384x1024.size a := fun d0 v831 k0_hw15 => k0_hw15

def k0_off46 (d0 : Dev nD) (k0_t2 : Fin k0_t2_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c128_i32_707 : BitVec 32 := 128#32
  let c0_i32_20 : BitVec 32 := 0#32
  let c1_i32_22 : BitVec 32 := 1#32
  let arg14 : BitVec 32 := Scf.iv c0_i32_20 c1_i32_22 k0_t2
  let c8_i32_706 : BitVec 32 := 8#32
  let v839 : BitVec 32 := Scalar.muli arg14 c8_i32_706
  let v840 : BitVec 32 := Scalar.addi c128_i32_707 v839
  let c7_i32_708 : BitVec 32 := 7#32
  let v841 : BitVec 32 := Scalar.addi v840 c7_i32_708
  let v842 : BitVec 32 := Scalar.addi v25 v841
  let v843 : Index := Scalar.indexCast v842
  ![v843.toNat]
def k0_off47 (k0_t2 : Fin k0_t2_loop.trips) : Fin 2 → Nat :=
  let c128_i32_707 : BitVec 32 := 128#32
  let c0_i32_20 : BitVec 32 := 0#32
  let c1_i32_22 : BitVec 32 := 1#32
  let arg14 : BitVec 32 := Scf.iv c0_i32_20 c1_i32_22 k0_t2
  let c8_i32_706 : BitVec 32 := 8#32
  let v839 : BitVec 32 := Scalar.muli arg14 c8_i32_706
  let v840 : BitVec 32 := Scalar.addi c128_i32_707 v839
  let c7_i32_708 : BitVec 32 := 7#32
  let v841 : BitVec 32 := Scalar.addi v840 c7_i32_708
  let c0_i32_712 : BitVec 32 := 0#32
  ![v841.toNat, 0]
def k0_off48 (d0 : Dev nD) (v844 : BitVec 32) : Fin 2 → Nat :=
  let c16383_i32_710 : BitVec 32 := 16383#32
  let c0_i32_709 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v845 : BitVec 32 := Scalar.subi v844 v24
  let v846 : BitVec 32 := Scalar.maxsi c0_i32_709 v845
  let v847 : BitVec 32 := Scalar.minsi c16383_i32_710 v846
  let c0_i32_713 : BitVec 32 := 0#32
  ![v847.toNat, 0]

def k0_chk16 (d0 : Dev nD) (v844 : BitVec 32) : Prop :=
  (∀ a, (k0_off48 d0 v844) a + S1x1024.size a ≤ S16384x1024.size a)
theorem k0_off48_inb : ∀ (d0 : Dev nD) (v844 : BitVec 32) (k0_hw16 : k0_chk16 d0 v844), ∀ a, (k0_off48 d0 v844) a + S1x1024.size a ≤ S16384x1024.size a := fun d0 v844 k0_hw16 => k0_hw16

@[reducible] def k0_t3_loop : Scf.Loop 32 :=
  let c0_i32_24 : BitVec 32 := 0#32
  let c16_i32_25 : BitVec 32 := 16#32
  let v30 : BitVec 32 := Scalar.addi c0_i32_24 c16_i32_25
  let c1_i32_26 : BitVec 32 := 1#32
  ⟨c0_i32_24, v30, c1_i32_26⟩
def k0_off49 (k0_t3 : Fin k0_t3_loop.trips) (c0_i32_653 : BitVec 32) : Fin 2 → Nat :=
  let c0_i32_652 : BitVec 32 := 0#32
  let c0_i32_24 : BitVec 32 := 0#32
  let c1_i32_26 : BitVec 32 := 1#32
  let arg14 : BitVec 32 := Scf.iv c0_i32_24 c1_i32_26 k0_t3
  let c8_i32 : BitVec 32 := 8#32
  let v748 : BitVec 32 := Scalar.muli arg14 c8_i32
  let v749 : BitVec 32 := Scalar.addi c0_i32_652 v748
  let v750 : BitVec 32 := Scalar.addi v749 c0_i32_653
  let c0_i32_655 : BitVec 32 := 0#32
  ![v750.toNat, 0]
def k0_off50 (d0 : Dev nD) (c0_i32_28 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let v31 : BitVec 32 := Scalar.addi v25 c0_i32_28
  let v32 : Index := Scalar.indexCast v31
  let c0 : Index := 0#32
  ![v32.toNat, 0]
def k0_dev3 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v50 : BitVec 32 := Scalar.muli v2 c4_i32_36
  let v51 : BitVec 32 := Scalar.addi c0_i32_37 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v52 : BitVec 32 := Scalar.muli v5 c2_i32_38
  let v53 : BitVec 32 := Scalar.addi v51 v52
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_39 : BitVec 32 := 1#32
  let v54 : BitVec 32 := Scalar.muli v9 c1_i32_39
  let v55 : BitVec 32 := Scalar.addi v53 v54
  v55.toNat
@[reducible] def k0_t4_loop : Scf.Loop 32 :=
  let c0_i32_44 : BitVec 32 := 0#32
  let c16_i32_45 : BitVec 32 := 16#32
  let v62 : BitVec 32 := Scalar.addi c0_i32_44 c16_i32_45
  let c1_i32_46 : BitVec 32 := 1#32
  ⟨c0_i32_44, v62, c1_i32_46⟩
def k0_off51 (d0 : Dev nD) (k0_t4 : Fin k0_t4_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c256_i32_652 : BitVec 32 := 256#32
  let c0_i32_44 : BitVec 32 := 0#32
  let c1_i32_46 : BitVec 32 := 1#32
  let arg14 : BitVec 32 := Scf.iv c0_i32_44 c1_i32_46 k0_t4
  let c8_i32 : BitVec 32 := 8#32
  let v748 : BitVec 32 := Scalar.muli arg14 c8_i32
  let v749 : BitVec 32 := Scalar.addi c256_i32_652 v748
  let c0_i32_653 : BitVec 32 := 0#32
  let v750 : BitVec 32 := Scalar.addi v749 c0_i32_653
  let v751 : BitVec 32 := Scalar.addi v25 v750
  let v752 : Index := Scalar.indexCast v751
  ![v752.toNat]
def k0_off52 (k0_t4 : Fin k0_t4_loop.trips) : Fin 2 → Nat :=
  let c256_i32_652 : BitVec 32 := 256#32
  let c0_i32_44 : BitVec 32 := 0#32
  let c1_i32_46 : BitVec 32 := 1#32
  let arg14 : BitVec 32 := Scf.iv c0_i32_44 c1_i32_46 k0_t4
  let c8_i32 : BitVec 32 := 8#32
  let v748 : BitVec 32 := Scalar.muli arg14 c8_i32
  let v749 : BitVec 32 := Scalar.addi c256_i32_652 v748
  let c0_i32_653 : BitVec 32 := 0#32
  let v750 : BitVec 32 := Scalar.addi v749 c0_i32_653
  let c0_i32_656 : BitVec 32 := 0#32
  ![v750.toNat, 0]
def k0_off53 (d0 : Dev nD) (v753 : BitVec 32) : Fin 2 → Nat :=
  let c16383_i32 : BitVec 32 := 16383#32
  let c0_i32_654 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v754 : BitVec 32 := Scalar.subi v753 v24
  let v755 : BitVec 32 := Scalar.maxsi c0_i32_654 v754
  let v756 : BitVec 32 := Scalar.minsi c16383_i32 v755
  let c0_i32_657 : BitVec 32 := 0#32
  ![v756.toNat, 0]

def k0_chk17 (d0 : Dev nD) (v753 : BitVec 32) : Prop :=
  (∀ a, (k0_off53 d0 v753) a + S1x1024.size a ≤ S16384x1024.size a)
theorem k0_off53_inb : ∀ (d0 : Dev nD) (v753 : BitVec 32) (k0_hw17 : k0_chk17 d0 v753), ∀ a, (k0_off53 d0 v753) a + S1x1024.size a ≤ S16384x1024.size a := fun d0 v753 k0_hw17 => k0_hw17

def k0_off54 (d0 : Dev nD) (k0_t4 : Fin k0_t4_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c256_i32_659 : BitVec 32 := 256#32
  let c0_i32_44 : BitVec 32 := 0#32
  let c1_i32_46 : BitVec 32 := 1#32
  let arg14 : BitVec 32 := Scf.iv c0_i32_44 c1_i32_46 k0_t4
  let c8_i32_658 : BitVec 32 := 8#32
  let v761 : BitVec 32 := Scalar.muli arg14 c8_i32_658
  let v762 : BitVec 32 := Scalar.addi c256_i32_659 v761
  let c1_i32_660 : BitVec 32 := 1#32
  let v763 : BitVec 32 := Scalar.addi v762 c1_i32_660
  let v764 : BitVec 32 := Scalar.addi v25 v763
  let v765 : Index := Scalar.indexCast v764
  ![v765.toNat]
def k0_off55 (k0_t4 : Fin k0_t4_loop.trips) : Fin 2 → Nat :=
  let c256_i32_659 : BitVec 32 := 256#32
  let c0_i32_44 : BitVec 32 := 0#32
  let c1_i32_46 : BitVec 32 := 1#32
  let arg14 : BitVec 32 := Scf.iv c0_i32_44 c1_i32_46 k0_t4
  let c8_i32_658 : BitVec 32 := 8#32
  let v761 : BitVec 32 := Scalar.muli arg14 c8_i32_658
  let v762 : BitVec 32 := Scalar.addi c256_i32_659 v761
  let c1_i32_660 : BitVec 32 := 1#32
  let v763 : BitVec 32 := Scalar.addi v762 c1_i32_660
  let c0_i32_664 : BitVec 32 := 0#32
  ![v763.toNat, 0]
def k0_off56 (d0 : Dev nD) (v766 : BitVec 32) : Fin 2 → Nat :=
  let c16383_i32_662 : BitVec 32 := 16383#32
  let c0_i32_661 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v767 : BitVec 32 := Scalar.subi v766 v24
  let v768 : BitVec 32 := Scalar.maxsi c0_i32_661 v767
  let v769 : BitVec 32 := Scalar.minsi c16383_i32_662 v768
  let c0_i32_665 : BitVec 32 := 0#32
  ![v769.toNat, 0]

def k0_chk18 (d0 : Dev nD) (v766 : BitVec 32) : Prop :=
  (∀ a, (k0_off56 d0 v766) a + S1x1024.size a ≤ S16384x1024.size a)
theorem k0_off56_inb : ∀ (d0 : Dev nD) (v766 : BitVec 32) (k0_hw18 : k0_chk18 d0 v766), ∀ a, (k0_off56 d0 v766) a + S1x1024.size a ≤ S16384x1024.size a := fun d0 v766 k0_hw18 => k0_hw18

def k0_off57 (d0 : Dev nD) (k0_t4 : Fin k0_t4_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c256_i32_667 : BitVec 32 := 256#32
  let c0_i32_44 : BitVec 32 := 0#32
  let c1_i32_46 : BitVec 32 := 1#32
  let arg14 : BitVec 32 := Scf.iv c0_i32_44 c1_i32_46 k0_t4
  let c8_i32_666 : BitVec 32 := 8#32
  let v774 : BitVec 32 := Scalar.muli arg14 c8_i32_666
  let v775 : BitVec 32 := Scalar.addi c256_i32_667 v774
  let c2_i32_668 : BitVec 32 := 2#32
  let v776 : BitVec 32 := Scalar.addi v775 c2_i32_668
  let v777 : BitVec 32 := Scalar.addi v25 v776
  let v778 : Index := Scalar.indexCast v777
  ![v778.toNat]
def k0_off58 (k0_t4 : Fin k0_t4_loop.trips) : Fin 2 → Nat :=
  let c256_i32_667 : BitVec 32 := 256#32
  let c0_i32_44 : BitVec 32 := 0#32
  let c1_i32_46 : BitVec 32 := 1#32
  let arg14 : BitVec 32 := Scf.iv c0_i32_44 c1_i32_46 k0_t4
  let c8_i32_666 : BitVec 32 := 8#32
  let v774 : BitVec 32 := Scalar.muli arg14 c8_i32_666
  let v775 : BitVec 32 := Scalar.addi c256_i32_667 v774
  let c2_i32_668 : BitVec 32 := 2#32
  let v776 : BitVec 32 := Scalar.addi v775 c2_i32_668
  let c0_i32_672 : BitVec 32 := 0#32
  ![v776.toNat, 0]
def k0_off59 (d0 : Dev nD) (v779 : BitVec 32) : Fin 2 → Nat :=
  let c16383_i32_670 : BitVec 32 := 16383#32
  let c0_i32_669 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v780 : BitVec 32 := Scalar.subi v779 v24
  let v781 : BitVec 32 := Scalar.maxsi c0_i32_669 v780
  let v782 : BitVec 32 := Scalar.minsi c16383_i32_670 v781
  let c0_i32_673 : BitVec 32 := 0#32
  ![v782.toNat, 0]

def k0_chk19 (d0 : Dev nD) (v779 : BitVec 32) : Prop :=
  (∀ a, (k0_off59 d0 v779) a + S1x1024.size a ≤ S16384x1024.size a)
theorem k0_off59_inb : ∀ (d0 : Dev nD) (v779 : BitVec 32) (k0_hw19 : k0_chk19 d0 v779), ∀ a, (k0_off59 d0 v779) a + S1x1024.size a ≤ S16384x1024.size a := fun d0 v779 k0_hw19 => k0_hw19

def k0_off60 (d0 : Dev nD) (k0_t4 : Fin k0_t4_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c256_i32_675 : BitVec 32 := 256#32
  let c0_i32_44 : BitVec 32 := 0#32
  let c1_i32_46 : BitVec 32 := 1#32
  let arg14 : BitVec 32 := Scf.iv c0_i32_44 c1_i32_46 k0_t4
  let c8_i32_674 : BitVec 32 := 8#32
  let v787 : BitVec 32 := Scalar.muli arg14 c8_i32_674
  let v788 : BitVec 32 := Scalar.addi c256_i32_675 v787
  let c3_i32_676 : BitVec 32 := 3#32
  let v789 : BitVec 32 := Scalar.addi v788 c3_i32_676
  let v790 : BitVec 32 := Scalar.addi v25 v789
  let v791 : Index := Scalar.indexCast v790
  ![v791.toNat]
def k0_off61 (k0_t4 : Fin k0_t4_loop.trips) : Fin 2 → Nat :=
  let c256_i32_675 : BitVec 32 := 256#32
  let c0_i32_44 : BitVec 32 := 0#32
  let c1_i32_46 : BitVec 32 := 1#32
  let arg14 : BitVec 32 := Scf.iv c0_i32_44 c1_i32_46 k0_t4
  let c8_i32_674 : BitVec 32 := 8#32
  let v787 : BitVec 32 := Scalar.muli arg14 c8_i32_674
  let v788 : BitVec 32 := Scalar.addi c256_i32_675 v787
  let c3_i32_676 : BitVec 32 := 3#32
  let v789 : BitVec 32 := Scalar.addi v788 c3_i32_676
  let c0_i32_680 : BitVec 32 := 0#32
  ![v789.toNat, 0]
def k0_off62 (d0 : Dev nD) (v792 : BitVec 32) : Fin 2 → Nat :=
  let c16383_i32_678 : BitVec 32 := 16383#32
  let c0_i32_677 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v793 : BitVec 32 := Scalar.subi v792 v24
  let v794 : BitVec 32 := Scalar.maxsi c0_i32_677 v793
  let v795 : BitVec 32 := Scalar.minsi c16383_i32_678 v794
  let c0_i32_681 : BitVec 32 := 0#32
  ![v795.toNat, 0]

def k0_chk20 (d0 : Dev nD) (v792 : BitVec 32) : Prop :=
  (∀ a, (k0_off62 d0 v792) a + S1x1024.size a ≤ S16384x1024.size a)
theorem k0_off62_inb : ∀ (d0 : Dev nD) (v792 : BitVec 32) (k0_hw20 : k0_chk20 d0 v792), ∀ a, (k0_off62 d0 v792) a + S1x1024.size a ≤ S16384x1024.size a := fun d0 v792 k0_hw20 => k0_hw20

def k0_off63 (d0 : Dev nD) (k0_t4 : Fin k0_t4_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c256_i32_683 : BitVec 32 := 256#32
  let c0_i32_44 : BitVec 32 := 0#32
  let c1_i32_46 : BitVec 32 := 1#32
  let arg14 : BitVec 32 := Scf.iv c0_i32_44 c1_i32_46 k0_t4
  let c8_i32_682 : BitVec 32 := 8#32
  let v800 : BitVec 32 := Scalar.muli arg14 c8_i32_682
  let v801 : BitVec 32 := Scalar.addi c256_i32_683 v800
  let c4_i32_684 : BitVec 32 := 4#32
  let v802 : BitVec 32 := Scalar.addi v801 c4_i32_684
  let v803 : BitVec 32 := Scalar.addi v25 v802
  let v804 : Index := Scalar.indexCast v803
  ![v804.toNat]
def k0_off64 (k0_t4 : Fin k0_t4_loop.trips) : Fin 2 → Nat :=
  let c256_i32_683 : BitVec 32 := 256#32
  let c0_i32_44 : BitVec 32 := 0#32
  let c1_i32_46 : BitVec 32 := 1#32
  let arg14 : BitVec 32 := Scf.iv c0_i32_44 c1_i32_46 k0_t4
  let c8_i32_682 : BitVec 32 := 8#32
  let v800 : BitVec 32 := Scalar.muli arg14 c8_i32_682
  let v801 : BitVec 32 := Scalar.addi c256_i32_683 v800
  let c4_i32_684 : BitVec 32 := 4#32
  let v802 : BitVec 32 := Scalar.addi v801 c4_i32_684
  let c0_i32_688 : BitVec 32 := 0#32
  ![v802.toNat, 0]
def k0_off65 (d0 : Dev nD) (v805 : BitVec 32) : Fin 2 → Nat :=
  let c16383_i32_686 : BitVec 32 := 16383#32
  let c0_i32_685 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v806 : BitVec 32 := Scalar.subi v805 v24
  let v807 : BitVec 32 := Scalar.maxsi c0_i32_685 v806
  let v808 : BitVec 32 := Scalar.minsi c16383_i32_686 v807
  let c0_i32_689 : BitVec 32 := 0#32
  ![v808.toNat, 0]

def k0_chk21 (d0 : Dev nD) (v805 : BitVec 32) : Prop :=
  (∀ a, (k0_off65 d0 v805) a + S1x1024.size a ≤ S16384x1024.size a)
theorem k0_off65_inb : ∀ (d0 : Dev nD) (v805 : BitVec 32) (k0_hw21 : k0_chk21 d0 v805), ∀ a, (k0_off65 d0 v805) a + S1x1024.size a ≤ S16384x1024.size a := fun d0 v805 k0_hw21 => k0_hw21

def k0_off66 (d0 : Dev nD) (k0_t4 : Fin k0_t4_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c256_i32_691 : BitVec 32 := 256#32
  let c0_i32_44 : BitVec 32 := 0#32
  let c1_i32_46 : BitVec 32 := 1#32
  let arg14 : BitVec 32 := Scf.iv c0_i32_44 c1_i32_46 k0_t4
  let c8_i32_690 : BitVec 32 := 8#32
  let v813 : BitVec 32 := Scalar.muli arg14 c8_i32_690
  let v814 : BitVec 32 := Scalar.addi c256_i32_691 v813
  let c5_i32_692 : BitVec 32 := 5#32
  let v815 : BitVec 32 := Scalar.addi v814 c5_i32_692
  let v816 : BitVec 32 := Scalar.addi v25 v815
  let v817 : Index := Scalar.indexCast v816
  ![v817.toNat]
def k0_off67 (k0_t4 : Fin k0_t4_loop.trips) : Fin 2 → Nat :=
  let c256_i32_691 : BitVec 32 := 256#32
  let c0_i32_44 : BitVec 32 := 0#32
  let c1_i32_46 : BitVec 32 := 1#32
  let arg14 : BitVec 32 := Scf.iv c0_i32_44 c1_i32_46 k0_t4
  let c8_i32_690 : BitVec 32 := 8#32
  let v813 : BitVec 32 := Scalar.muli arg14 c8_i32_690
  let v814 : BitVec 32 := Scalar.addi c256_i32_691 v813
  let c5_i32_692 : BitVec 32 := 5#32
  let v815 : BitVec 32 := Scalar.addi v814 c5_i32_692
  let c0_i32_696 : BitVec 32 := 0#32
  ![v815.toNat, 0]
def k0_off68 (d0 : Dev nD) (v818 : BitVec 32) : Fin 2 → Nat :=
  let c16383_i32_694 : BitVec 32 := 16383#32
  let c0_i32_693 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v819 : BitVec 32 := Scalar.subi v818 v24
  let v820 : BitVec 32 := Scalar.maxsi c0_i32_693 v819
  let v821 : BitVec 32 := Scalar.minsi c16383_i32_694 v820
  let c0_i32_697 : BitVec 32 := 0#32
  ![v821.toNat, 0]

def k0_chk22 (d0 : Dev nD) (v818 : BitVec 32) : Prop :=
  (∀ a, (k0_off68 d0 v818) a + S1x1024.size a ≤ S16384x1024.size a)
theorem k0_off68_inb : ∀ (d0 : Dev nD) (v818 : BitVec 32) (k0_hw22 : k0_chk22 d0 v818), ∀ a, (k0_off68 d0 v818) a + S1x1024.size a ≤ S16384x1024.size a := fun d0 v818 k0_hw22 => k0_hw22

def k0_off69 (d0 : Dev nD) (k0_t4 : Fin k0_t4_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c256_i32_699 : BitVec 32 := 256#32
  let c0_i32_44 : BitVec 32 := 0#32
  let c1_i32_46 : BitVec 32 := 1#32
  let arg14 : BitVec 32 := Scf.iv c0_i32_44 c1_i32_46 k0_t4
  let c8_i32_698 : BitVec 32 := 8#32
  let v826 : BitVec 32 := Scalar.muli arg14 c8_i32_698
  let v827 : BitVec 32 := Scalar.addi c256_i32_699 v826
  let c6_i32_700 : BitVec 32 := 6#32
  let v828 : BitVec 32 := Scalar.addi v827 c6_i32_700
  let v829 : BitVec 32 := Scalar.addi v25 v828
  let v830 : Index := Scalar.indexCast v829
  ![v830.toNat]
def k0_off70 (k0_t4 : Fin k0_t4_loop.trips) : Fin 2 → Nat :=
  let c256_i32_699 : BitVec 32 := 256#32
  let c0_i32_44 : BitVec 32 := 0#32
  let c1_i32_46 : BitVec 32 := 1#32
  let arg14 : BitVec 32 := Scf.iv c0_i32_44 c1_i32_46 k0_t4
  let c8_i32_698 : BitVec 32 := 8#32
  let v826 : BitVec 32 := Scalar.muli arg14 c8_i32_698
  let v827 : BitVec 32 := Scalar.addi c256_i32_699 v826
  let c6_i32_700 : BitVec 32 := 6#32
  let v828 : BitVec 32 := Scalar.addi v827 c6_i32_700
  let c0_i32_704 : BitVec 32 := 0#32
  ![v828.toNat, 0]
def k0_off71 (d0 : Dev nD) (v831 : BitVec 32) : Fin 2 → Nat :=
  let c16383_i32_702 : BitVec 32 := 16383#32
  let c0_i32_701 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v832 : BitVec 32 := Scalar.subi v831 v24
  let v833 : BitVec 32 := Scalar.maxsi c0_i32_701 v832
  let v834 : BitVec 32 := Scalar.minsi c16383_i32_702 v833
  let c0_i32_705 : BitVec 32 := 0#32
  ![v834.toNat, 0]

def k0_chk23 (d0 : Dev nD) (v831 : BitVec 32) : Prop :=
  (∀ a, (k0_off71 d0 v831) a + S1x1024.size a ≤ S16384x1024.size a)
theorem k0_off71_inb : ∀ (d0 : Dev nD) (v831 : BitVec 32) (k0_hw23 : k0_chk23 d0 v831), ∀ a, (k0_off71 d0 v831) a + S1x1024.size a ≤ S16384x1024.size a := fun d0 v831 k0_hw23 => k0_hw23

def k0_off72 (d0 : Dev nD) (k0_t4 : Fin k0_t4_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c256_i32_707 : BitVec 32 := 256#32
  let c0_i32_44 : BitVec 32 := 0#32
  let c1_i32_46 : BitVec 32 := 1#32
  let arg14 : BitVec 32 := Scf.iv c0_i32_44 c1_i32_46 k0_t4
  let c8_i32_706 : BitVec 32 := 8#32
  let v839 : BitVec 32 := Scalar.muli arg14 c8_i32_706
  let v840 : BitVec 32 := Scalar.addi c256_i32_707 v839
  let c7_i32_708 : BitVec 32 := 7#32
  let v841 : BitVec 32 := Scalar.addi v840 c7_i32_708
  let v842 : BitVec 32 := Scalar.addi v25 v841
  let v843 : Index := Scalar.indexCast v842
  ![v843.toNat]
def k0_off73 (k0_t4 : Fin k0_t4_loop.trips) : Fin 2 → Nat :=
  let c256_i32_707 : BitVec 32 := 256#32
  let c0_i32_44 : BitVec 32 := 0#32
  let c1_i32_46 : BitVec 32 := 1#32
  let arg14 : BitVec 32 := Scf.iv c0_i32_44 c1_i32_46 k0_t4
  let c8_i32_706 : BitVec 32 := 8#32
  let v839 : BitVec 32 := Scalar.muli arg14 c8_i32_706
  let v840 : BitVec 32 := Scalar.addi c256_i32_707 v839
  let c7_i32_708 : BitVec 32 := 7#32
  let v841 : BitVec 32 := Scalar.addi v840 c7_i32_708
  let c0_i32_712 : BitVec 32 := 0#32
  ![v841.toNat, 0]
def k0_off74 (d0 : Dev nD) (v844 : BitVec 32) : Fin 2 → Nat :=
  let c16383_i32_710 : BitVec 32 := 16383#32
  let c0_i32_709 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v845 : BitVec 32 := Scalar.subi v844 v24
  let v846 : BitVec 32 := Scalar.maxsi c0_i32_709 v845
  let v847 : BitVec 32 := Scalar.minsi c16383_i32_710 v846
  let c0_i32_713 : BitVec 32 := 0#32
  ![v847.toNat, 0]

def k0_chk24 (d0 : Dev nD) (v844 : BitVec 32) : Prop :=
  (∀ a, (k0_off74 d0 v844) a + S1x1024.size a ≤ S16384x1024.size a)
theorem k0_off74_inb : ∀ (d0 : Dev nD) (v844 : BitVec 32) (k0_hw24 : k0_chk24 d0 v844), ∀ a, (k0_off74 d0 v844) a + S1x1024.size a ≤ S16384x1024.size a := fun d0 v844 k0_hw24 => k0_hw24

@[reducible] def k0_t5_loop : Scf.Loop 32 :=
  let c0_i32_48 : BitVec 32 := 0#32
  let c16_i32_49 : BitVec 32 := 16#32
  let v63 : BitVec 32 := Scalar.addi c0_i32_48 c16_i32_49
  let c1_i32_50 : BitVec 32 := 1#32
  ⟨c0_i32_48, v63, c1_i32_50⟩
def k0_off75 (k0_t5 : Fin k0_t5_loop.trips) (c0_i32_653 : BitVec 32) : Fin 2 → Nat :=
  let c128_i32_652 : BitVec 32 := 128#32
  let c0_i32_48 : BitVec 32 := 0#32
  let c1_i32_50 : BitVec 32 := 1#32
  let arg14 : BitVec 32 := Scf.iv c0_i32_48 c1_i32_50 k0_t5
  let c8_i32 : BitVec 32 := 8#32
  let v748 : BitVec 32 := Scalar.muli arg14 c8_i32
  let v749 : BitVec 32 := Scalar.addi c128_i32_652 v748
  let v750 : BitVec 32 := Scalar.addi v749 c0_i32_653
  let c0_i32_655 : BitVec 32 := 0#32
  ![v750.toNat, 0]
def k0_dev4 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v83 : BitVec 32 := Scalar.muli v2 c4_i32_60
  let v84 : BitVec 32 := Scalar.addi c0_i32_61 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v85 : BitVec 32 := Scalar.muli v5 c2_i32_62
  let v86 : BitVec 32 := Scalar.addi v84 v85
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_63 : BitVec 32 := 1#32
  let v87 : BitVec 32 := Scalar.muli v9 c1_i32_63
  let v88 : BitVec 32 := Scalar.addi v86 v87
  v88.toNat
@[reducible] def k0_t6_loop : Scf.Loop 32 :=
  let c0_i32_68 : BitVec 32 := 0#32
  let c16_i32_69 : BitVec 32 := 16#32
  let v95 : BitVec 32 := Scalar.addi c0_i32_68 c16_i32_69
  let c1_i32_70 : BitVec 32 := 1#32
  ⟨c0_i32_68, v95, c1_i32_70⟩
def k0_off76 (d0 : Dev nD) (k0_t6 : Fin k0_t6_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c384_i32_652 : BitVec 32 := 384#32
  let c0_i32_68 : BitVec 32 := 0#32
  let c1_i32_70 : BitVec 32 := 1#32
  let arg14 : BitVec 32 := Scf.iv c0_i32_68 c1_i32_70 k0_t6
  let c8_i32 : BitVec 32 := 8#32
  let v748 : BitVec 32 := Scalar.muli arg14 c8_i32
  let v749 : BitVec 32 := Scalar.addi c384_i32_652 v748
  let c0_i32_653 : BitVec 32 := 0#32
  let v750 : BitVec 32 := Scalar.addi v749 c0_i32_653
  let v751 : BitVec 32 := Scalar.addi v25 v750
  let v752 : Index := Scalar.indexCast v751
  ![v752.toNat]
def k0_off77 (k0_t6 : Fin k0_t6_loop.trips) : Fin 2 → Nat :=
  let c384_i32_652 : BitVec 32 := 384#32
  let c0_i32_68 : BitVec 32 := 0#32
  let c1_i32_70 : BitVec 32 := 1#32
  let arg14 : BitVec 32 := Scf.iv c0_i32_68 c1_i32_70 k0_t6
  let c8_i32 : BitVec 32 := 8#32
  let v748 : BitVec 32 := Scalar.muli arg14 c8_i32
  let v749 : BitVec 32 := Scalar.addi c384_i32_652 v748
  let c0_i32_653 : BitVec 32 := 0#32
  let v750 : BitVec 32 := Scalar.addi v749 c0_i32_653
  let c0_i32_656 : BitVec 32 := 0#32
  ![v750.toNat, 0]
def k0_off78 (d0 : Dev nD) (v753 : BitVec 32) : Fin 2 → Nat :=
  let c16383_i32 : BitVec 32 := 16383#32
  let c0_i32_654 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v754 : BitVec 32 := Scalar.subi v753 v24
  let v755 : BitVec 32 := Scalar.maxsi c0_i32_654 v754
  let v756 : BitVec 32 := Scalar.minsi c16383_i32 v755
  let c0_i32_657 : BitVec 32 := 0#32
  ![v756.toNat, 0]

def k0_chk25 (d0 : Dev nD) (v753 : BitVec 32) : Prop :=
  (∀ a, (k0_off78 d0 v753) a + S1x1024.size a ≤ S16384x1024.size a)
theorem k0_off78_inb : ∀ (d0 : Dev nD) (v753 : BitVec 32) (k0_hw25 : k0_chk25 d0 v753), ∀ a, (k0_off78 d0 v753) a + S1x1024.size a ≤ S16384x1024.size a := fun d0 v753 k0_hw25 => k0_hw25

def k0_off79 (d0 : Dev nD) (k0_t6 : Fin k0_t6_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c384_i32_659 : BitVec 32 := 384#32
  let c0_i32_68 : BitVec 32 := 0#32
  let c1_i32_70 : BitVec 32 := 1#32
  let arg14 : BitVec 32 := Scf.iv c0_i32_68 c1_i32_70 k0_t6
  let c8_i32_658 : BitVec 32 := 8#32
  let v761 : BitVec 32 := Scalar.muli arg14 c8_i32_658
  let v762 : BitVec 32 := Scalar.addi c384_i32_659 v761
  let c1_i32_660 : BitVec 32 := 1#32
  let v763 : BitVec 32 := Scalar.addi v762 c1_i32_660
  let v764 : BitVec 32 := Scalar.addi v25 v763
  let v765 : Index := Scalar.indexCast v764
  ![v765.toNat]
def k0_off80 (k0_t6 : Fin k0_t6_loop.trips) : Fin 2 → Nat :=
  let c384_i32_659 : BitVec 32 := 384#32
  let c0_i32_68 : BitVec 32 := 0#32
  let c1_i32_70 : BitVec 32 := 1#32
  let arg14 : BitVec 32 := Scf.iv c0_i32_68 c1_i32_70 k0_t6
  let c8_i32_658 : BitVec 32 := 8#32
  let v761 : BitVec 32 := Scalar.muli arg14 c8_i32_658
  let v762 : BitVec 32 := Scalar.addi c384_i32_659 v761
  let c1_i32_660 : BitVec 32 := 1#32
  let v763 : BitVec 32 := Scalar.addi v762 c1_i32_660
  let c0_i32_664 : BitVec 32 := 0#32
  ![v763.toNat, 0]
def k0_off81 (d0 : Dev nD) (v766 : BitVec 32) : Fin 2 → Nat :=
  let c16383_i32_662 : BitVec 32 := 16383#32
  let c0_i32_661 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v767 : BitVec 32 := Scalar.subi v766 v24
  let v768 : BitVec 32 := Scalar.maxsi c0_i32_661 v767
  let v769 : BitVec 32 := Scalar.minsi c16383_i32_662 v768
  let c0_i32_665 : BitVec 32 := 0#32
  ![v769.toNat, 0]

def k0_chk26 (d0 : Dev nD) (v766 : BitVec 32) : Prop :=
  (∀ a, (k0_off81 d0 v766) a + S1x1024.size a ≤ S16384x1024.size a)
theorem k0_off81_inb : ∀ (d0 : Dev nD) (v766 : BitVec 32) (k0_hw26 : k0_chk26 d0 v766), ∀ a, (k0_off81 d0 v766) a + S1x1024.size a ≤ S16384x1024.size a := fun d0 v766 k0_hw26 => k0_hw26

def k0_off82 (d0 : Dev nD) (k0_t6 : Fin k0_t6_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c384_i32_667 : BitVec 32 := 384#32
  let c0_i32_68 : BitVec 32 := 0#32
  let c1_i32_70 : BitVec 32 := 1#32
  let arg14 : BitVec 32 := Scf.iv c0_i32_68 c1_i32_70 k0_t6
  let c8_i32_666 : BitVec 32 := 8#32
  let v774 : BitVec 32 := Scalar.muli arg14 c8_i32_666
  let v775 : BitVec 32 := Scalar.addi c384_i32_667 v774
  let c2_i32_668 : BitVec 32 := 2#32
  let v776 : BitVec 32 := Scalar.addi v775 c2_i32_668
  let v777 : BitVec 32 := Scalar.addi v25 v776
  let v778 : Index := Scalar.indexCast v777
  ![v778.toNat]
def k0_off83 (k0_t6 : Fin k0_t6_loop.trips) : Fin 2 → Nat :=
  let c384_i32_667 : BitVec 32 := 384#32
  let c0_i32_68 : BitVec 32 := 0#32
  let c1_i32_70 : BitVec 32 := 1#32
  let arg14 : BitVec 32 := Scf.iv c0_i32_68 c1_i32_70 k0_t6
  let c8_i32_666 : BitVec 32 := 8#32
  let v774 : BitVec 32 := Scalar.muli arg14 c8_i32_666
  let v775 : BitVec 32 := Scalar.addi c384_i32_667 v774
  let c2_i32_668 : BitVec 32 := 2#32
  let v776 : BitVec 32 := Scalar.addi v775 c2_i32_668
  let c0_i32_672 : BitVec 32 := 0#32
  ![v776.toNat, 0]
def k0_off84 (d0 : Dev nD) (v779 : BitVec 32) : Fin 2 → Nat :=
  let c16383_i32_670 : BitVec 32 := 16383#32
  let c0_i32_669 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v780 : BitVec 32 := Scalar.subi v779 v24
  let v781 : BitVec 32 := Scalar.maxsi c0_i32_669 v780
  let v782 : BitVec 32 := Scalar.minsi c16383_i32_670 v781
  let c0_i32_673 : BitVec 32 := 0#32
  ![v782.toNat, 0]

def k0_chk27 (d0 : Dev nD) (v779 : BitVec 32) : Prop :=
  (∀ a, (k0_off84 d0 v779) a + S1x1024.size a ≤ S16384x1024.size a)
theorem k0_off84_inb : ∀ (d0 : Dev nD) (v779 : BitVec 32) (k0_hw27 : k0_chk27 d0 v779), ∀ a, (k0_off84 d0 v779) a + S1x1024.size a ≤ S16384x1024.size a := fun d0 v779 k0_hw27 => k0_hw27

def k0_off85 (d0 : Dev nD) (k0_t6 : Fin k0_t6_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c384_i32_675 : BitVec 32 := 384#32
  let c0_i32_68 : BitVec 32 := 0#32
  let c1_i32_70 : BitVec 32 := 1#32
  let arg14 : BitVec 32 := Scf.iv c0_i32_68 c1_i32_70 k0_t6
  let c8_i32_674 : BitVec 32 := 8#32
  let v787 : BitVec 32 := Scalar.muli arg14 c8_i32_674
  let v788 : BitVec 32 := Scalar.addi c384_i32_675 v787
  let c3_i32_676 : BitVec 32 := 3#32
  let v789 : BitVec 32 := Scalar.addi v788 c3_i32_676
  let v790 : BitVec 32 := Scalar.addi v25 v789
  let v791 : Index := Scalar.indexCast v790
  ![v791.toNat]
def k0_off86 (k0_t6 : Fin k0_t6_loop.trips) : Fin 2 → Nat :=
  let c384_i32_675 : BitVec 32 := 384#32
  let c0_i32_68 : BitVec 32 := 0#32
  let c1_i32_70 : BitVec 32 := 1#32
  let arg14 : BitVec 32 := Scf.iv c0_i32_68 c1_i32_70 k0_t6
  let c8_i32_674 : BitVec 32 := 8#32
  let v787 : BitVec 32 := Scalar.muli arg14 c8_i32_674
  let v788 : BitVec 32 := Scalar.addi c384_i32_675 v787
  let c3_i32_676 : BitVec 32 := 3#32
  let v789 : BitVec 32 := Scalar.addi v788 c3_i32_676
  let c0_i32_680 : BitVec 32 := 0#32
  ![v789.toNat, 0]
def k0_off87 (d0 : Dev nD) (v792 : BitVec 32) : Fin 2 → Nat :=
  let c16383_i32_678 : BitVec 32 := 16383#32
  let c0_i32_677 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v793 : BitVec 32 := Scalar.subi v792 v24
  let v794 : BitVec 32 := Scalar.maxsi c0_i32_677 v793
  let v795 : BitVec 32 := Scalar.minsi c16383_i32_678 v794
  let c0_i32_681 : BitVec 32 := 0#32
  ![v795.toNat, 0]

def k0_chk28 (d0 : Dev nD) (v792 : BitVec 32) : Prop :=
  (∀ a, (k0_off87 d0 v792) a + S1x1024.size a ≤ S16384x1024.size a)
theorem k0_off87_inb : ∀ (d0 : Dev nD) (v792 : BitVec 32) (k0_hw28 : k0_chk28 d0 v792), ∀ a, (k0_off87 d0 v792) a + S1x1024.size a ≤ S16384x1024.size a := fun d0 v792 k0_hw28 => k0_hw28

def k0_off88 (d0 : Dev nD) (k0_t6 : Fin k0_t6_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c384_i32_683 : BitVec 32 := 384#32
  let c0_i32_68 : BitVec 32 := 0#32
  let c1_i32_70 : BitVec 32 := 1#32
  let arg14 : BitVec 32 := Scf.iv c0_i32_68 c1_i32_70 k0_t6
  let c8_i32_682 : BitVec 32 := 8#32
  let v800 : BitVec 32 := Scalar.muli arg14 c8_i32_682
  let v801 : BitVec 32 := Scalar.addi c384_i32_683 v800
  let c4_i32_684 : BitVec 32 := 4#32
  let v802 : BitVec 32 := Scalar.addi v801 c4_i32_684
  let v803 : BitVec 32 := Scalar.addi v25 v802
  let v804 : Index := Scalar.indexCast v803
  ![v804.toNat]
def k0_off89 (k0_t6 : Fin k0_t6_loop.trips) : Fin 2 → Nat :=
  let c384_i32_683 : BitVec 32 := 384#32
  let c0_i32_68 : BitVec 32 := 0#32
  let c1_i32_70 : BitVec 32 := 1#32
  let arg14 : BitVec 32 := Scf.iv c0_i32_68 c1_i32_70 k0_t6
  let c8_i32_682 : BitVec 32 := 8#32
  let v800 : BitVec 32 := Scalar.muli arg14 c8_i32_682
  let v801 : BitVec 32 := Scalar.addi c384_i32_683 v800
  let c4_i32_684 : BitVec 32 := 4#32
  let v802 : BitVec 32 := Scalar.addi v801 c4_i32_684
  let c0_i32_688 : BitVec 32 := 0#32
  ![v802.toNat, 0]
def k0_off90 (d0 : Dev nD) (v805 : BitVec 32) : Fin 2 → Nat :=
  let c16383_i32_686 : BitVec 32 := 16383#32
  let c0_i32_685 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v806 : BitVec 32 := Scalar.subi v805 v24
  let v807 : BitVec 32 := Scalar.maxsi c0_i32_685 v806
  let v808 : BitVec 32 := Scalar.minsi c16383_i32_686 v807
  let c0_i32_689 : BitVec 32 := 0#32
  ![v808.toNat, 0]

def k0_chk29 (d0 : Dev nD) (v805 : BitVec 32) : Prop :=
  (∀ a, (k0_off90 d0 v805) a + S1x1024.size a ≤ S16384x1024.size a)
theorem k0_off90_inb : ∀ (d0 : Dev nD) (v805 : BitVec 32) (k0_hw29 : k0_chk29 d0 v805), ∀ a, (k0_off90 d0 v805) a + S1x1024.size a ≤ S16384x1024.size a := fun d0 v805 k0_hw29 => k0_hw29

def k0_off91 (d0 : Dev nD) (k0_t6 : Fin k0_t6_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c384_i32_691 : BitVec 32 := 384#32
  let c0_i32_68 : BitVec 32 := 0#32
  let c1_i32_70 : BitVec 32 := 1#32
  let arg14 : BitVec 32 := Scf.iv c0_i32_68 c1_i32_70 k0_t6
  let c8_i32_690 : BitVec 32 := 8#32
  let v813 : BitVec 32 := Scalar.muli arg14 c8_i32_690
  let v814 : BitVec 32 := Scalar.addi c384_i32_691 v813
  let c5_i32_692 : BitVec 32 := 5#32
  let v815 : BitVec 32 := Scalar.addi v814 c5_i32_692
  let v816 : BitVec 32 := Scalar.addi v25 v815
  let v817 : Index := Scalar.indexCast v816
  ![v817.toNat]
def k0_off92 (k0_t6 : Fin k0_t6_loop.trips) : Fin 2 → Nat :=
  let c384_i32_691 : BitVec 32 := 384#32
  let c0_i32_68 : BitVec 32 := 0#32
  let c1_i32_70 : BitVec 32 := 1#32
  let arg14 : BitVec 32 := Scf.iv c0_i32_68 c1_i32_70 k0_t6
  let c8_i32_690 : BitVec 32 := 8#32
  let v813 : BitVec 32 := Scalar.muli arg14 c8_i32_690
  let v814 : BitVec 32 := Scalar.addi c384_i32_691 v813
  let c5_i32_692 : BitVec 32 := 5#32
  let v815 : BitVec 32 := Scalar.addi v814 c5_i32_692
  let c0_i32_696 : BitVec 32 := 0#32
  ![v815.toNat, 0]
def k0_off93 (d0 : Dev nD) (v818 : BitVec 32) : Fin 2 → Nat :=
  let c16383_i32_694 : BitVec 32 := 16383#32
  let c0_i32_693 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v819 : BitVec 32 := Scalar.subi v818 v24
  let v820 : BitVec 32 := Scalar.maxsi c0_i32_693 v819
  let v821 : BitVec 32 := Scalar.minsi c16383_i32_694 v820
  let c0_i32_697 : BitVec 32 := 0#32
  ![v821.toNat, 0]

def k0_chk30 (d0 : Dev nD) (v818 : BitVec 32) : Prop :=
  (∀ a, (k0_off93 d0 v818) a + S1x1024.size a ≤ S16384x1024.size a)
theorem k0_off93_inb : ∀ (d0 : Dev nD) (v818 : BitVec 32) (k0_hw30 : k0_chk30 d0 v818), ∀ a, (k0_off93 d0 v818) a + S1x1024.size a ≤ S16384x1024.size a := fun d0 v818 k0_hw30 => k0_hw30

def k0_off94 (d0 : Dev nD) (k0_t6 : Fin k0_t6_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c384_i32_699 : BitVec 32 := 384#32
  let c0_i32_68 : BitVec 32 := 0#32
  let c1_i32_70 : BitVec 32 := 1#32
  let arg14 : BitVec 32 := Scf.iv c0_i32_68 c1_i32_70 k0_t6
  let c8_i32_698 : BitVec 32 := 8#32
  let v826 : BitVec 32 := Scalar.muli arg14 c8_i32_698
  let v827 : BitVec 32 := Scalar.addi c384_i32_699 v826
  let c6_i32_700 : BitVec 32 := 6#32
  let v828 : BitVec 32 := Scalar.addi v827 c6_i32_700
  let v829 : BitVec 32 := Scalar.addi v25 v828
  let v830 : Index := Scalar.indexCast v829
  ![v830.toNat]
def k0_off95 (k0_t6 : Fin k0_t6_loop.trips) : Fin 2 → Nat :=
  let c384_i32_699 : BitVec 32 := 384#32
  let c0_i32_68 : BitVec 32 := 0#32
  let c1_i32_70 : BitVec 32 := 1#32
  let arg14 : BitVec 32 := Scf.iv c0_i32_68 c1_i32_70 k0_t6
  let c8_i32_698 : BitVec 32 := 8#32
  let v826 : BitVec 32 := Scalar.muli arg14 c8_i32_698
  let v827 : BitVec 32 := Scalar.addi c384_i32_699 v826
  let c6_i32_700 : BitVec 32 := 6#32
  let v828 : BitVec 32 := Scalar.addi v827 c6_i32_700
  let c0_i32_704 : BitVec 32 := 0#32
  ![v828.toNat, 0]
def k0_off96 (d0 : Dev nD) (v831 : BitVec 32) : Fin 2 → Nat :=
  let c16383_i32_702 : BitVec 32 := 16383#32
  let c0_i32_701 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v832 : BitVec 32 := Scalar.subi v831 v24
  let v833 : BitVec 32 := Scalar.maxsi c0_i32_701 v832
  let v834 : BitVec 32 := Scalar.minsi c16383_i32_702 v833
  let c0_i32_705 : BitVec 32 := 0#32
  ![v834.toNat, 0]

def k0_chk31 (d0 : Dev nD) (v831 : BitVec 32) : Prop :=
  (∀ a, (k0_off96 d0 v831) a + S1x1024.size a ≤ S16384x1024.size a)
theorem k0_off96_inb : ∀ (d0 : Dev nD) (v831 : BitVec 32) (k0_hw31 : k0_chk31 d0 v831), ∀ a, (k0_off96 d0 v831) a + S1x1024.size a ≤ S16384x1024.size a := fun d0 v831 k0_hw31 => k0_hw31

def k0_off97 (d0 : Dev nD) (k0_t6 : Fin k0_t6_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c384_i32_707 : BitVec 32 := 384#32
  let c0_i32_68 : BitVec 32 := 0#32
  let c1_i32_70 : BitVec 32 := 1#32
  let arg14 : BitVec 32 := Scf.iv c0_i32_68 c1_i32_70 k0_t6
  let c8_i32_706 : BitVec 32 := 8#32
  let v839 : BitVec 32 := Scalar.muli arg14 c8_i32_706
  let v840 : BitVec 32 := Scalar.addi c384_i32_707 v839
  let c7_i32_708 : BitVec 32 := 7#32
  let v841 : BitVec 32 := Scalar.addi v840 c7_i32_708
  let v842 : BitVec 32 := Scalar.addi v25 v841
  let v843 : Index := Scalar.indexCast v842
  ![v843.toNat]
def k0_off98 (k0_t6 : Fin k0_t6_loop.trips) : Fin 2 → Nat :=
  let c384_i32_707 : BitVec 32 := 384#32
  let c0_i32_68 : BitVec 32 := 0#32
  let c1_i32_70 : BitVec 32 := 1#32
  let arg14 : BitVec 32 := Scf.iv c0_i32_68 c1_i32_70 k0_t6
  let c8_i32_706 : BitVec 32 := 8#32
  let v839 : BitVec 32 := Scalar.muli arg14 c8_i32_706
  let v840 : BitVec 32 := Scalar.addi c384_i32_707 v839
  let c7_i32_708 : BitVec 32 := 7#32
  let v841 : BitVec 32 := Scalar.addi v840 c7_i32_708
  let c0_i32_712 : BitVec 32 := 0#32
  ![v841.toNat, 0]
def k0_off99 (d0 : Dev nD) (v844 : BitVec 32) : Fin 2 → Nat :=
  let c16383_i32_710 : BitVec 32 := 16383#32
  let c0_i32_709 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v845 : BitVec 32 := Scalar.subi v844 v24
  let v846 : BitVec 32 := Scalar.maxsi c0_i32_709 v845
  let v847 : BitVec 32 := Scalar.minsi c16383_i32_710 v846
  let c0_i32_713 : BitVec 32 := 0#32
  ![v847.toNat, 0]

def k0_chk32 (d0 : Dev nD) (v844 : BitVec 32) : Prop :=
  (∀ a, (k0_off99 d0 v844) a + S1x1024.size a ≤ S16384x1024.size a)
theorem k0_off99_inb : ∀ (d0 : Dev nD) (v844 : BitVec 32) (k0_hw32 : k0_chk32 d0 v844), ∀ a, (k0_off99 d0 v844) a + S1x1024.size a ≤ S16384x1024.size a := fun d0 v844 k0_hw32 => k0_hw32

@[reducible] def k0_t7_loop : Scf.Loop 32 :=
  let c0_i32_72 : BitVec 32 := 0#32
  let c16_i32_73 : BitVec 32 := 16#32
  let v96 : BitVec 32 := Scalar.addi c0_i32_72 c16_i32_73
  let c1_i32_74 : BitVec 32 := 1#32
  ⟨c0_i32_72, v96, c1_i32_74⟩
def k0_off100 (k0_t7 : Fin k0_t7_loop.trips) (c0_i32_653 : BitVec 32) : Fin 2 → Nat :=
  let c256_i32_652 : BitVec 32 := 256#32
  let c0_i32_72 : BitVec 32 := 0#32
  let c1_i32_74 : BitVec 32 := 1#32
  let arg14 : BitVec 32 := Scf.iv c0_i32_72 c1_i32_74 k0_t7
  let c8_i32 : BitVec 32 := 8#32
  let v748 : BitVec 32 := Scalar.muli arg14 c8_i32
  let v749 : BitVec 32 := Scalar.addi c256_i32_652 v748
  let v750 : BitVec 32 := Scalar.addi v749 c0_i32_653
  let c0_i32_655 : BitVec 32 := 0#32
  ![v750.toNat, 0]
def k0_dev5 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_84 : BitVec 32 := 4#32
  let v116 : BitVec 32 := Scalar.muli v2 c4_i32_84
  let v117 : BitVec 32 := Scalar.addi c0_i32_85 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v118 : BitVec 32 := Scalar.muli v5 c2_i32_86
  let v119 : BitVec 32 := Scalar.addi v117 v118
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_87 : BitVec 32 := 1#32
  let v120 : BitVec 32 := Scalar.muli v9 c1_i32_87
  let v121 : BitVec 32 := Scalar.addi v119 v120
  v121.toNat
@[reducible] def k0_t8_loop : Scf.Loop 32 :=
  let c0_i32_92 : BitVec 32 := 0#32
  let c16_i32_93 : BitVec 32 := 16#32
  let v128 : BitVec 32 := Scalar.addi c0_i32_92 c16_i32_93
  let c1_i32_94 : BitVec 32 := 1#32
  ⟨c0_i32_92, v128, c1_i32_94⟩
def k0_off101 (d0 : Dev nD) (k0_t8 : Fin k0_t8_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c512_i32_652 : BitVec 32 := 512#32
  let c0_i32_92 : BitVec 32 := 0#32
  let c1_i32_94 : BitVec 32 := 1#32
  let arg14 : BitVec 32 := Scf.iv c0_i32_92 c1_i32_94 k0_t8
  let c8_i32 : BitVec 32 := 8#32
  let v748 : BitVec 32 := Scalar.muli arg14 c8_i32
  let v749 : BitVec 32 := Scalar.addi c512_i32_652 v748
  let c0_i32_653 : BitVec 32 := 0#32
  let v750 : BitVec 32 := Scalar.addi v749 c0_i32_653
  let v751 : BitVec 32 := Scalar.addi v25 v750
  let v752 : Index := Scalar.indexCast v751
  ![v752.toNat]
def k0_off102 (k0_t8 : Fin k0_t8_loop.trips) : Fin 2 → Nat :=
  let c512_i32_652 : BitVec 32 := 512#32
  let c0_i32_92 : BitVec 32 := 0#32
  let c1_i32_94 : BitVec 32 := 1#32
  let arg14 : BitVec 32 := Scf.iv c0_i32_92 c1_i32_94 k0_t8
  let c8_i32 : BitVec 32 := 8#32
  let v748 : BitVec 32 := Scalar.muli arg14 c8_i32
  let v749 : BitVec 32 := Scalar.addi c512_i32_652 v748
  let c0_i32_653 : BitVec 32 := 0#32
  let v750 : BitVec 32 := Scalar.addi v749 c0_i32_653
  let c0_i32_656 : BitVec 32 := 0#32
  ![v750.toNat, 0]
def k0_off103 (d0 : Dev nD) (v753 : BitVec 32) : Fin 2 → Nat :=
  let c16383_i32 : BitVec 32 := 16383#32
  let c0_i32_654 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v754 : BitVec 32 := Scalar.subi v753 v24
  let v755 : BitVec 32 := Scalar.maxsi c0_i32_654 v754
  let v756 : BitVec 32 := Scalar.minsi c16383_i32 v755
  let c0_i32_657 : BitVec 32 := 0#32
  ![v756.toNat, 0]

def k0_chk33 (d0 : Dev nD) (v753 : BitVec 32) : Prop :=
  (∀ a, (k0_off103 d0 v753) a + S1x1024.size a ≤ S16384x1024.size a)
theorem k0_off103_inb : ∀ (d0 : Dev nD) (v753 : BitVec 32) (k0_hw33 : k0_chk33 d0 v753), ∀ a, (k0_off103 d0 v753) a + S1x1024.size a ≤ S16384x1024.size a := fun d0 v753 k0_hw33 => k0_hw33

def k0_off104 (d0 : Dev nD) (k0_t8 : Fin k0_t8_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c512_i32_659 : BitVec 32 := 512#32
  let c0_i32_92 : BitVec 32 := 0#32
  let c1_i32_94 : BitVec 32 := 1#32
  let arg14 : BitVec 32 := Scf.iv c0_i32_92 c1_i32_94 k0_t8
  let c8_i32_658 : BitVec 32 := 8#32
  let v761 : BitVec 32 := Scalar.muli arg14 c8_i32_658
  let v762 : BitVec 32 := Scalar.addi c512_i32_659 v761
  let c1_i32_660 : BitVec 32 := 1#32
  let v763 : BitVec 32 := Scalar.addi v762 c1_i32_660
  let v764 : BitVec 32 := Scalar.addi v25 v763
  let v765 : Index := Scalar.indexCast v764
  ![v765.toNat]
def k0_off105 (k0_t8 : Fin k0_t8_loop.trips) : Fin 2 → Nat :=
  let c512_i32_659 : BitVec 32 := 512#32
  let c0_i32_92 : BitVec 32 := 0#32
  let c1_i32_94 : BitVec 32 := 1#32
  let arg14 : BitVec 32 := Scf.iv c0_i32_92 c1_i32_94 k0_t8
  let c8_i32_658 : BitVec 32 := 8#32
  let v761 : BitVec 32 := Scalar.muli arg14 c8_i32_658
  let v762 : BitVec 32 := Scalar.addi c512_i32_659 v761
  let c1_i32_660 : BitVec 32 := 1#32
  let v763 : BitVec 32 := Scalar.addi v762 c1_i32_660
  let c0_i32_664 : BitVec 32 := 0#32
  ![v763.toNat, 0]
def k0_off106 (d0 : Dev nD) (v766 : BitVec 32) : Fin 2 → Nat :=
  let c16383_i32_662 : BitVec 32 := 16383#32
  let c0_i32_661 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v767 : BitVec 32 := Scalar.subi v766 v24
  let v768 : BitVec 32 := Scalar.maxsi c0_i32_661 v767
  let v769 : BitVec 32 := Scalar.minsi c16383_i32_662 v768
  let c0_i32_665 : BitVec 32 := 0#32
  ![v769.toNat, 0]

def k0_chk34 (d0 : Dev nD) (v766 : BitVec 32) : Prop :=
  (∀ a, (k0_off106 d0 v766) a + S1x1024.size a ≤ S16384x1024.size a)
theorem k0_off106_inb : ∀ (d0 : Dev nD) (v766 : BitVec 32) (k0_hw34 : k0_chk34 d0 v766), ∀ a, (k0_off106 d0 v766) a + S1x1024.size a ≤ S16384x1024.size a := fun d0 v766 k0_hw34 => k0_hw34

def k0_off107 (d0 : Dev nD) (k0_t8 : Fin k0_t8_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c512_i32_667 : BitVec 32 := 512#32
  let c0_i32_92 : BitVec 32 := 0#32
  let c1_i32_94 : BitVec 32 := 1#32
  let arg14 : BitVec 32 := Scf.iv c0_i32_92 c1_i32_94 k0_t8
  let c8_i32_666 : BitVec 32 := 8#32
  let v774 : BitVec 32 := Scalar.muli arg14 c8_i32_666
  let v775 : BitVec 32 := Scalar.addi c512_i32_667 v774
  let c2_i32_668 : BitVec 32 := 2#32
  let v776 : BitVec 32 := Scalar.addi v775 c2_i32_668
  let v777 : BitVec 32 := Scalar.addi v25 v776
  let v778 : Index := Scalar.indexCast v777
  ![v778.toNat]
def k0_off108 (k0_t8 : Fin k0_t8_loop.trips) : Fin 2 → Nat :=
  let c512_i32_667 : BitVec 32 := 512#32
  let c0_i32_92 : BitVec 32 := 0#32
  let c1_i32_94 : BitVec 32 := 1#32
  let arg14 : BitVec 32 := Scf.iv c0_i32_92 c1_i32_94 k0_t8
  let c8_i32_666 : BitVec 32 := 8#32
  let v774 : BitVec 32 := Scalar.muli arg14 c8_i32_666
  let v775 : BitVec 32 := Scalar.addi c512_i32_667 v774
  let c2_i32_668 : BitVec 32 := 2#32
  let v776 : BitVec 32 := Scalar.addi v775 c2_i32_668
  let c0_i32_672 : BitVec 32 := 0#32
  ![v776.toNat, 0]
def k0_off109 (d0 : Dev nD) (v779 : BitVec 32) : Fin 2 → Nat :=
  let c16383_i32_670 : BitVec 32 := 16383#32
  let c0_i32_669 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v780 : BitVec 32 := Scalar.subi v779 v24
  let v781 : BitVec 32 := Scalar.maxsi c0_i32_669 v780
  let v782 : BitVec 32 := Scalar.minsi c16383_i32_670 v781
  let c0_i32_673 : BitVec 32 := 0#32
  ![v782.toNat, 0]

def k0_chk35 (d0 : Dev nD) (v779 : BitVec 32) : Prop :=
  (∀ a, (k0_off109 d0 v779) a + S1x1024.size a ≤ S16384x1024.size a)
theorem k0_off109_inb : ∀ (d0 : Dev nD) (v779 : BitVec 32) (k0_hw35 : k0_chk35 d0 v779), ∀ a, (k0_off109 d0 v779) a + S1x1024.size a ≤ S16384x1024.size a := fun d0 v779 k0_hw35 => k0_hw35

def k0_off110 (d0 : Dev nD) (k0_t8 : Fin k0_t8_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c512_i32_675 : BitVec 32 := 512#32
  let c0_i32_92 : BitVec 32 := 0#32
  let c1_i32_94 : BitVec 32 := 1#32
  let arg14 : BitVec 32 := Scf.iv c0_i32_92 c1_i32_94 k0_t8
  let c8_i32_674 : BitVec 32 := 8#32
  let v787 : BitVec 32 := Scalar.muli arg14 c8_i32_674
  let v788 : BitVec 32 := Scalar.addi c512_i32_675 v787
  let c3_i32_676 : BitVec 32 := 3#32
  let v789 : BitVec 32 := Scalar.addi v788 c3_i32_676
  let v790 : BitVec 32 := Scalar.addi v25 v789
  let v791 : Index := Scalar.indexCast v790
  ![v791.toNat]
def k0_off111 (k0_t8 : Fin k0_t8_loop.trips) : Fin 2 → Nat :=
  let c512_i32_675 : BitVec 32 := 512#32
  let c0_i32_92 : BitVec 32 := 0#32
  let c1_i32_94 : BitVec 32 := 1#32
  let arg14 : BitVec 32 := Scf.iv c0_i32_92 c1_i32_94 k0_t8
  let c8_i32_674 : BitVec 32 := 8#32
  let v787 : BitVec 32 := Scalar.muli arg14 c8_i32_674
  let v788 : BitVec 32 := Scalar.addi c512_i32_675 v787
  let c3_i32_676 : BitVec 32 := 3#32
  let v789 : BitVec 32 := Scalar.addi v788 c3_i32_676
  let c0_i32_680 : BitVec 32 := 0#32
  ![v789.toNat, 0]
def k0_off112 (d0 : Dev nD) (v792 : BitVec 32) : Fin 2 → Nat :=
  let c16383_i32_678 : BitVec 32 := 16383#32
  let c0_i32_677 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v793 : BitVec 32 := Scalar.subi v792 v24
  let v794 : BitVec 32 := Scalar.maxsi c0_i32_677 v793
  let v795 : BitVec 32 := Scalar.minsi c16383_i32_678 v794
  let c0_i32_681 : BitVec 32 := 0#32
  ![v795.toNat, 0]

def k0_chk36 (d0 : Dev nD) (v792 : BitVec 32) : Prop :=
  (∀ a, (k0_off112 d0 v792) a + S1x1024.size a ≤ S16384x1024.size a)
theorem k0_off112_inb : ∀ (d0 : Dev nD) (v792 : BitVec 32) (k0_hw36 : k0_chk36 d0 v792), ∀ a, (k0_off112 d0 v792) a + S1x1024.size a ≤ S16384x1024.size a := fun d0 v792 k0_hw36 => k0_hw36

def k0_off113 (d0 : Dev nD) (k0_t8 : Fin k0_t8_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c512_i32_683 : BitVec 32 := 512#32
  let c0_i32_92 : BitVec 32 := 0#32
  let c1_i32_94 : BitVec 32 := 1#32
  let arg14 : BitVec 32 := Scf.iv c0_i32_92 c1_i32_94 k0_t8
  let c8_i32_682 : BitVec 32 := 8#32
  let v800 : BitVec 32 := Scalar.muli arg14 c8_i32_682
  let v801 : BitVec 32 := Scalar.addi c512_i32_683 v800
  let c4_i32_684 : BitVec 32 := 4#32
  let v802 : BitVec 32 := Scalar.addi v801 c4_i32_684
  let v803 : BitVec 32 := Scalar.addi v25 v802
  let v804 : Index := Scalar.indexCast v803
  ![v804.toNat]
def k0_off114 (k0_t8 : Fin k0_t8_loop.trips) : Fin 2 → Nat :=
  let c512_i32_683 : BitVec 32 := 512#32
  let c0_i32_92 : BitVec 32 := 0#32
  let c1_i32_94 : BitVec 32 := 1#32
  let arg14 : BitVec 32 := Scf.iv c0_i32_92 c1_i32_94 k0_t8
  let c8_i32_682 : BitVec 32 := 8#32
  let v800 : BitVec 32 := Scalar.muli arg14 c8_i32_682
  let v801 : BitVec 32 := Scalar.addi c512_i32_683 v800
  let c4_i32_684 : BitVec 32 := 4#32
  let v802 : BitVec 32 := Scalar.addi v801 c4_i32_684
  let c0_i32_688 : BitVec 32 := 0#32
  ![v802.toNat, 0]
def k0_off115 (d0 : Dev nD) (v805 : BitVec 32) : Fin 2 → Nat :=
  let c16383_i32_686 : BitVec 32 := 16383#32
  let c0_i32_685 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v806 : BitVec 32 := Scalar.subi v805 v24
  let v807 : BitVec 32 := Scalar.maxsi c0_i32_685 v806
  let v808 : BitVec 32 := Scalar.minsi c16383_i32_686 v807
  let c0_i32_689 : BitVec 32 := 0#32
  ![v808.toNat, 0]

def k0_chk37 (d0 : Dev nD) (v805 : BitVec 32) : Prop :=
  (∀ a, (k0_off115 d0 v805) a + S1x1024.size a ≤ S16384x1024.size a)
theorem k0_off115_inb : ∀ (d0 : Dev nD) (v805 : BitVec 32) (k0_hw37 : k0_chk37 d0 v805), ∀ a, (k0_off115 d0 v805) a + S1x1024.size a ≤ S16384x1024.size a := fun d0 v805 k0_hw37 => k0_hw37

def k0_off116 (d0 : Dev nD) (k0_t8 : Fin k0_t8_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c512_i32_691 : BitVec 32 := 512#32
  let c0_i32_92 : BitVec 32 := 0#32
  let c1_i32_94 : BitVec 32 := 1#32
  let arg14 : BitVec 32 := Scf.iv c0_i32_92 c1_i32_94 k0_t8
  let c8_i32_690 : BitVec 32 := 8#32
  let v813 : BitVec 32 := Scalar.muli arg14 c8_i32_690
  let v814 : BitVec 32 := Scalar.addi c512_i32_691 v813
  let c5_i32_692 : BitVec 32 := 5#32
  let v815 : BitVec 32 := Scalar.addi v814 c5_i32_692
  let v816 : BitVec 32 := Scalar.addi v25 v815
  let v817 : Index := Scalar.indexCast v816
  ![v817.toNat]
def k0_off117 (k0_t8 : Fin k0_t8_loop.trips) : Fin 2 → Nat :=
  let c512_i32_691 : BitVec 32 := 512#32
  let c0_i32_92 : BitVec 32 := 0#32
  let c1_i32_94 : BitVec 32 := 1#32
  let arg14 : BitVec 32 := Scf.iv c0_i32_92 c1_i32_94 k0_t8
  let c8_i32_690 : BitVec 32 := 8#32
  let v813 : BitVec 32 := Scalar.muli arg14 c8_i32_690
  let v814 : BitVec 32 := Scalar.addi c512_i32_691 v813
  let c5_i32_692 : BitVec 32 := 5#32
  let v815 : BitVec 32 := Scalar.addi v814 c5_i32_692
  let c0_i32_696 : BitVec 32 := 0#32
  ![v815.toNat, 0]
def k0_off118 (d0 : Dev nD) (v818 : BitVec 32) : Fin 2 → Nat :=
  let c16383_i32_694 : BitVec 32 := 16383#32
  let c0_i32_693 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v819 : BitVec 32 := Scalar.subi v818 v24
  let v820 : BitVec 32 := Scalar.maxsi c0_i32_693 v819
  let v821 : BitVec 32 := Scalar.minsi c16383_i32_694 v820
  let c0_i32_697 : BitVec 32 := 0#32
  ![v821.toNat, 0]

def k0_chk38 (d0 : Dev nD) (v818 : BitVec 32) : Prop :=
  (∀ a, (k0_off118 d0 v818) a + S1x1024.size a ≤ S16384x1024.size a)
theorem k0_off118_inb : ∀ (d0 : Dev nD) (v818 : BitVec 32) (k0_hw38 : k0_chk38 d0 v818), ∀ a, (k0_off118 d0 v818) a + S1x1024.size a ≤ S16384x1024.size a := fun d0 v818 k0_hw38 => k0_hw38

def k0_off119 (d0 : Dev nD) (k0_t8 : Fin k0_t8_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c512_i32_699 : BitVec 32 := 512#32
  let c0_i32_92 : BitVec 32 := 0#32
  let c1_i32_94 : BitVec 32 := 1#32
  let arg14 : BitVec 32 := Scf.iv c0_i32_92 c1_i32_94 k0_t8
  let c8_i32_698 : BitVec 32 := 8#32
  let v826 : BitVec 32 := Scalar.muli arg14 c8_i32_698
  let v827 : BitVec 32 := Scalar.addi c512_i32_699 v826
  let c6_i32_700 : BitVec 32 := 6#32
  let v828 : BitVec 32 := Scalar.addi v827 c6_i32_700
  let v829 : BitVec 32 := Scalar.addi v25 v828
  let v830 : Index := Scalar.indexCast v829
  ![v830.toNat]
def k0_off120 (k0_t8 : Fin k0_t8_loop.trips) : Fin 2 → Nat :=
  let c512_i32_699 : BitVec 32 := 512#32
  let c0_i32_92 : BitVec 32 := 0#32
  let c1_i32_94 : BitVec 32 := 1#32
  let arg14 : BitVec 32 := Scf.iv c0_i32_92 c1_i32_94 k0_t8
  let c8_i32_698 : BitVec 32 := 8#32
  let v826 : BitVec 32 := Scalar.muli arg14 c8_i32_698
  let v827 : BitVec 32 := Scalar.addi c512_i32_699 v826
  let c6_i32_700 : BitVec 32 := 6#32
  let v828 : BitVec 32 := Scalar.addi v827 c6_i32_700
  let c0_i32_704 : BitVec 32 := 0#32
  ![v828.toNat, 0]
def k0_off121 (d0 : Dev nD) (v831 : BitVec 32) : Fin 2 → Nat :=
  let c16383_i32_702 : BitVec 32 := 16383#32
  let c0_i32_701 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v832 : BitVec 32 := Scalar.subi v831 v24
  let v833 : BitVec 32 := Scalar.maxsi c0_i32_701 v832
  let v834 : BitVec 32 := Scalar.minsi c16383_i32_702 v833
  let c0_i32_705 : BitVec 32 := 0#32
  ![v834.toNat, 0]

def k0_chk39 (d0 : Dev nD) (v831 : BitVec 32) : Prop :=
  (∀ a, (k0_off121 d0 v831) a + S1x1024.size a ≤ S16384x1024.size a)
theorem k0_off121_inb : ∀ (d0 : Dev nD) (v831 : BitVec 32) (k0_hw39 : k0_chk39 d0 v831), ∀ a, (k0_off121 d0 v831) a + S1x1024.size a ≤ S16384x1024.size a := fun d0 v831 k0_hw39 => k0_hw39

def k0_off122 (d0 : Dev nD) (k0_t8 : Fin k0_t8_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c512_i32_707 : BitVec 32 := 512#32
  let c0_i32_92 : BitVec 32 := 0#32
  let c1_i32_94 : BitVec 32 := 1#32
  let arg14 : BitVec 32 := Scf.iv c0_i32_92 c1_i32_94 k0_t8
  let c8_i32_706 : BitVec 32 := 8#32
  let v839 : BitVec 32 := Scalar.muli arg14 c8_i32_706
  let v840 : BitVec 32 := Scalar.addi c512_i32_707 v839
  let c7_i32_708 : BitVec 32 := 7#32
  let v841 : BitVec 32 := Scalar.addi v840 c7_i32_708
  let v842 : BitVec 32 := Scalar.addi v25 v841
  let v843 : Index := Scalar.indexCast v842
  ![v843.toNat]
def k0_off123 (k0_t8 : Fin k0_t8_loop.trips) : Fin 2 → Nat :=
  let c512_i32_707 : BitVec 32 := 512#32
  let c0_i32_92 : BitVec 32 := 0#32
  let c1_i32_94 : BitVec 32 := 1#32
  let arg14 : BitVec 32 := Scf.iv c0_i32_92 c1_i32_94 k0_t8
  let c8_i32_706 : BitVec 32 := 8#32
  let v839 : BitVec 32 := Scalar.muli arg14 c8_i32_706
  let v840 : BitVec 32 := Scalar.addi c512_i32_707 v839
  let c7_i32_708 : BitVec 32 := 7#32
  let v841 : BitVec 32 := Scalar.addi v840 c7_i32_708
  let c0_i32_712 : BitVec 32 := 0#32
  ![v841.toNat, 0]
def k0_off124 (d0 : Dev nD) (v844 : BitVec 32) : Fin 2 → Nat :=
  let c16383_i32_710 : BitVec 32 := 16383#32
  let c0_i32_709 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v845 : BitVec 32 := Scalar.subi v844 v24
  let v846 : BitVec 32 := Scalar.maxsi c0_i32_709 v845
  let v847 : BitVec 32 := Scalar.minsi c16383_i32_710 v846
  let c0_i32_713 : BitVec 32 := 0#32
  ![v847.toNat, 0]

def k0_chk40 (d0 : Dev nD) (v844 : BitVec 32) : Prop :=
  (∀ a, (k0_off124 d0 v844) a + S1x1024.size a ≤ S16384x1024.size a)
theorem k0_off124_inb : ∀ (d0 : Dev nD) (v844 : BitVec 32) (k0_hw40 : k0_chk40 d0 v844), ∀ a, (k0_off124 d0 v844) a + S1x1024.size a ≤ S16384x1024.size a := fun d0 v844 k0_hw40 => k0_hw40

@[reducible] def k0_t9_loop : Scf.Loop 32 :=
  let c0_i32_96 : BitVec 32 := 0#32
  let c16_i32_97 : BitVec 32 := 16#32
  let v129 : BitVec 32 := Scalar.addi c0_i32_96 c16_i32_97
  let c1_i32_98 : BitVec 32 := 1#32
  ⟨c0_i32_96, v129, c1_i32_98⟩
def k0_off125 (k0_t9 : Fin k0_t9_loop.trips) (c0_i32_653 : BitVec 32) : Fin 2 → Nat :=
  let c384_i32_652 : BitVec 32 := 384#32
  let c0_i32_96 : BitVec 32 := 0#32
  let c1_i32_98 : BitVec 32 := 1#32
  let arg14 : BitVec 32 := Scf.iv c0_i32_96 c1_i32_98 k0_t9
  let c8_i32 : BitVec 32 := 8#32
  let v748 : BitVec 32 := Scalar.muli arg14 c8_i32
  let v749 : BitVec 32 := Scalar.addi c384_i32_652 v748
  let v750 : BitVec 32 := Scalar.addi v749 c0_i32_653
  let c0_i32_655 : BitVec 32 := 0#32
  ![v750.toNat, 0]
def k0_dev6 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v149 : BitVec 32 := Scalar.muli v2 c4_i32_107
  let v150 : BitVec 32 := Scalar.addi c0_i32_108 v149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v151 : BitVec 32 := Scalar.muli v5 c2_i32_109
  let v152 : BitVec 32 := Scalar.addi v150 v151
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_110 : BitVec 32 := 1#32
  let v153 : BitVec 32 := Scalar.muli v9 c1_i32_110
  let v154 : BitVec 32 := Scalar.addi v152 v153
  v154.toNat
@[reducible] def k0_t10_loop : Scf.Loop 32 :=
  let c0_i32_115 : BitVec 32 := 0#32
  let c16_i32_116 : BitVec 32 := 16#32
  let v161 : BitVec 32 := Scalar.addi c0_i32_115 c16_i32_116
  let c1_i32_117 : BitVec 32 := 1#32
  ⟨c0_i32_115, v161, c1_i32_117⟩
def k0_off126 (d0 : Dev nD) (k0_t10 : Fin k0_t10_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c640_i32_652 : BitVec 32 := 640#32
  let c0_i32_115 : BitVec 32 := 0#32
  let c1_i32_117 : BitVec 32 := 1#32
  let arg14 : BitVec 32 := Scf.iv c0_i32_115 c1_i32_117 k0_t10
  let c8_i32 : BitVec 32 := 8#32
  let v748 : BitVec 32 := Scalar.muli arg14 c8_i32
  let v749 : BitVec 32 := Scalar.addi c640_i32_652 v748
  let c0_i32_653 : BitVec 32 := 0#32
  let v750 : BitVec 32 := Scalar.addi v749 c0_i32_653
  let v751 : BitVec 32 := Scalar.addi v25 v750
  let v752 : Index := Scalar.indexCast v751
  ![v752.toNat]
def k0_off127 (k0_t10 : Fin k0_t10_loop.trips) : Fin 2 → Nat :=
  let c640_i32_652 : BitVec 32 := 640#32
  let c0_i32_115 : BitVec 32 := 0#32
  let c1_i32_117 : BitVec 32 := 1#32
  let arg14 : BitVec 32 := Scf.iv c0_i32_115 c1_i32_117 k0_t10
  let c8_i32 : BitVec 32 := 8#32
  let v748 : BitVec 32 := Scalar.muli arg14 c8_i32
  let v749 : BitVec 32 := Scalar.addi c640_i32_652 v748
  let c0_i32_653 : BitVec 32 := 0#32
  let v750 : BitVec 32 := Scalar.addi v749 c0_i32_653
  let c0_i32_656 : BitVec 32 := 0#32
  ![v750.toNat, 0]
def k0_off128 (d0 : Dev nD) (v753 : BitVec 32) : Fin 2 → Nat :=
  let c16383_i32 : BitVec 32 := 16383#32
  let c0_i32_654 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v754 : BitVec 32 := Scalar.subi v753 v24
  let v755 : BitVec 32 := Scalar.maxsi c0_i32_654 v754
  let v756 : BitVec 32 := Scalar.minsi c16383_i32 v755
  let c0_i32_657 : BitVec 32 := 0#32
  ![v756.toNat, 0]

def k0_chk41 (d0 : Dev nD) (v753 : BitVec 32) : Prop :=
  (∀ a, (k0_off128 d0 v753) a + S1x1024.size a ≤ S16384x1024.size a)
theorem k0_off128_inb : ∀ (d0 : Dev nD) (v753 : BitVec 32) (k0_hw41 : k0_chk41 d0 v753), ∀ a, (k0_off128 d0 v753) a + S1x1024.size a ≤ S16384x1024.size a := fun d0 v753 k0_hw41 => k0_hw41

def k0_off129 (d0 : Dev nD) (k0_t10 : Fin k0_t10_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c640_i32_659 : BitVec 32 := 640#32
  let c0_i32_115 : BitVec 32 := 0#32
  let c1_i32_117 : BitVec 32 := 1#32
  let arg14 : BitVec 32 := Scf.iv c0_i32_115 c1_i32_117 k0_t10
  let c8_i32_658 : BitVec 32 := 8#32
  let v761 : BitVec 32 := Scalar.muli arg14 c8_i32_658
  let v762 : BitVec 32 := Scalar.addi c640_i32_659 v761
  let c1_i32_660 : BitVec 32 := 1#32
  let v763 : BitVec 32 := Scalar.addi v762 c1_i32_660
  let v764 : BitVec 32 := Scalar.addi v25 v763
  let v765 : Index := Scalar.indexCast v764
  ![v765.toNat]
def k0_off130 (k0_t10 : Fin k0_t10_loop.trips) : Fin 2 → Nat :=
  let c640_i32_659 : BitVec 32 := 640#32
  let c0_i32_115 : BitVec 32 := 0#32
  let c1_i32_117 : BitVec 32 := 1#32
  let arg14 : BitVec 32 := Scf.iv c0_i32_115 c1_i32_117 k0_t10
  let c8_i32_658 : BitVec 32 := 8#32
  let v761 : BitVec 32 := Scalar.muli arg14 c8_i32_658
  let v762 : BitVec 32 := Scalar.addi c640_i32_659 v761
  let c1_i32_660 : BitVec 32 := 1#32
  let v763 : BitVec 32 := Scalar.addi v762 c1_i32_660
  let c0_i32_664 : BitVec 32 := 0#32
  ![v763.toNat, 0]
def k0_off131 (d0 : Dev nD) (v766 : BitVec 32) : Fin 2 → Nat :=
  let c16383_i32_662 : BitVec 32 := 16383#32
  let c0_i32_661 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v767 : BitVec 32 := Scalar.subi v766 v24
  let v768 : BitVec 32 := Scalar.maxsi c0_i32_661 v767
  let v769 : BitVec 32 := Scalar.minsi c16383_i32_662 v768
  let c0_i32_665 : BitVec 32 := 0#32
  ![v769.toNat, 0]

def k0_chk42 (d0 : Dev nD) (v766 : BitVec 32) : Prop :=
  (∀ a, (k0_off131 d0 v766) a + S1x1024.size a ≤ S16384x1024.size a)
theorem k0_off131_inb : ∀ (d0 : Dev nD) (v766 : BitVec 32) (k0_hw42 : k0_chk42 d0 v766), ∀ a, (k0_off131 d0 v766) a + S1x1024.size a ≤ S16384x1024.size a := fun d0 v766 k0_hw42 => k0_hw42

def k0_off132 (d0 : Dev nD) (k0_t10 : Fin k0_t10_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c640_i32_667 : BitVec 32 := 640#32
  let c0_i32_115 : BitVec 32 := 0#32
  let c1_i32_117 : BitVec 32 := 1#32
  let arg14 : BitVec 32 := Scf.iv c0_i32_115 c1_i32_117 k0_t10
  let c8_i32_666 : BitVec 32 := 8#32
  let v774 : BitVec 32 := Scalar.muli arg14 c8_i32_666
  let v775 : BitVec 32 := Scalar.addi c640_i32_667 v774
  let c2_i32_668 : BitVec 32 := 2#32
  let v776 : BitVec 32 := Scalar.addi v775 c2_i32_668
  let v777 : BitVec 32 := Scalar.addi v25 v776
  let v778 : Index := Scalar.indexCast v777
  ![v778.toNat]
def k0_off133 (k0_t10 : Fin k0_t10_loop.trips) : Fin 2 → Nat :=
  let c640_i32_667 : BitVec 32 := 640#32
  let c0_i32_115 : BitVec 32 := 0#32
  let c1_i32_117 : BitVec 32 := 1#32
  let arg14 : BitVec 32 := Scf.iv c0_i32_115 c1_i32_117 k0_t10
  let c8_i32_666 : BitVec 32 := 8#32
  let v774 : BitVec 32 := Scalar.muli arg14 c8_i32_666
  let v775 : BitVec 32 := Scalar.addi c640_i32_667 v774
  let c2_i32_668 : BitVec 32 := 2#32
  let v776 : BitVec 32 := Scalar.addi v775 c2_i32_668
  let c0_i32_672 : BitVec 32 := 0#32
  ![v776.toNat, 0]
def k0_off134 (d0 : Dev nD) (v779 : BitVec 32) : Fin 2 → Nat :=
  let c16383_i32_670 : BitVec 32 := 16383#32
  let c0_i32_669 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v780 : BitVec 32 := Scalar.subi v779 v24
  let v781 : BitVec 32 := Scalar.maxsi c0_i32_669 v780
  let v782 : BitVec 32 := Scalar.minsi c16383_i32_670 v781
  let c0_i32_673 : BitVec 32 := 0#32
  ![v782.toNat, 0]

def k0_chk43 (d0 : Dev nD) (v779 : BitVec 32) : Prop :=
  (∀ a, (k0_off134 d0 v779) a + S1x1024.size a ≤ S16384x1024.size a)
theorem k0_off134_inb : ∀ (d0 : Dev nD) (v779 : BitVec 32) (k0_hw43 : k0_chk43 d0 v779), ∀ a, (k0_off134 d0 v779) a + S1x1024.size a ≤ S16384x1024.size a := fun d0 v779 k0_hw43 => k0_hw43

def k0_off135 (d0 : Dev nD) (k0_t10 : Fin k0_t10_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c640_i32_675 : BitVec 32 := 640#32
  let c0_i32_115 : BitVec 32 := 0#32
  let c1_i32_117 : BitVec 32 := 1#32
  let arg14 : BitVec 32 := Scf.iv c0_i32_115 c1_i32_117 k0_t10
  let c8_i32_674 : BitVec 32 := 8#32
  let v787 : BitVec 32 := Scalar.muli arg14 c8_i32_674
  let v788 : BitVec 32 := Scalar.addi c640_i32_675 v787
  let c3_i32_676 : BitVec 32 := 3#32
  let v789 : BitVec 32 := Scalar.addi v788 c3_i32_676
  let v790 : BitVec 32 := Scalar.addi v25 v789
  let v791 : Index := Scalar.indexCast v790
  ![v791.toNat]
def k0_off136 (k0_t10 : Fin k0_t10_loop.trips) : Fin 2 → Nat :=
  let c640_i32_675 : BitVec 32 := 640#32
  let c0_i32_115 : BitVec 32 := 0#32
  let c1_i32_117 : BitVec 32 := 1#32
  let arg14 : BitVec 32 := Scf.iv c0_i32_115 c1_i32_117 k0_t10
  let c8_i32_674 : BitVec 32 := 8#32
  let v787 : BitVec 32 := Scalar.muli arg14 c8_i32_674
  let v788 : BitVec 32 := Scalar.addi c640_i32_675 v787
  let c3_i32_676 : BitVec 32 := 3#32
  let v789 : BitVec 32 := Scalar.addi v788 c3_i32_676
  let c0_i32_680 : BitVec 32 := 0#32
  ![v789.toNat, 0]
def k0_off137 (d0 : Dev nD) (v792 : BitVec 32) : Fin 2 → Nat :=
  let c16383_i32_678 : BitVec 32 := 16383#32
  let c0_i32_677 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v793 : BitVec 32 := Scalar.subi v792 v24
  let v794 : BitVec 32 := Scalar.maxsi c0_i32_677 v793
  let v795 : BitVec 32 := Scalar.minsi c16383_i32_678 v794
  let c0_i32_681 : BitVec 32 := 0#32
  ![v795.toNat, 0]

def k0_chk44 (d0 : Dev nD) (v792 : BitVec 32) : Prop :=
  (∀ a, (k0_off137 d0 v792) a + S1x1024.size a ≤ S16384x1024.size a)
theorem k0_off137_inb : ∀ (d0 : Dev nD) (v792 : BitVec 32) (k0_hw44 : k0_chk44 d0 v792), ∀ a, (k0_off137 d0 v792) a + S1x1024.size a ≤ S16384x1024.size a := fun d0 v792 k0_hw44 => k0_hw44

def k0_off138 (d0 : Dev nD) (k0_t10 : Fin k0_t10_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c640_i32_683 : BitVec 32 := 640#32
  let c0_i32_115 : BitVec 32 := 0#32
  let c1_i32_117 : BitVec 32 := 1#32
  let arg14 : BitVec 32 := Scf.iv c0_i32_115 c1_i32_117 k0_t10
  let c8_i32_682 : BitVec 32 := 8#32
  let v800 : BitVec 32 := Scalar.muli arg14 c8_i32_682
  let v801 : BitVec 32 := Scalar.addi c640_i32_683 v800
  let c4_i32_684 : BitVec 32 := 4#32
  let v802 : BitVec 32 := Scalar.addi v801 c4_i32_684
  let v803 : BitVec 32 := Scalar.addi v25 v802
  let v804 : Index := Scalar.indexCast v803
  ![v804.toNat]
def k0_off139 (k0_t10 : Fin k0_t10_loop.trips) : Fin 2 → Nat :=
  let c640_i32_683 : BitVec 32 := 640#32
  let c0_i32_115 : BitVec 32 := 0#32
  let c1_i32_117 : BitVec 32 := 1#32
  let arg14 : BitVec 32 := Scf.iv c0_i32_115 c1_i32_117 k0_t10
  let c8_i32_682 : BitVec 32 := 8#32
  let v800 : BitVec 32 := Scalar.muli arg14 c8_i32_682
  let v801 : BitVec 32 := Scalar.addi c640_i32_683 v800
  let c4_i32_684 : BitVec 32 := 4#32
  let v802 : BitVec 32 := Scalar.addi v801 c4_i32_684
  let c0_i32_688 : BitVec 32 := 0#32
  ![v802.toNat, 0]
def k0_off140 (d0 : Dev nD) (v805 : BitVec 32) : Fin 2 → Nat :=
  let c16383_i32_686 : BitVec 32 := 16383#32
  let c0_i32_685 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v806 : BitVec 32 := Scalar.subi v805 v24
  let v807 : BitVec 32 := Scalar.maxsi c0_i32_685 v806
  let v808 : BitVec 32 := Scalar.minsi c16383_i32_686 v807
  let c0_i32_689 : BitVec 32 := 0#32
  ![v808.toNat, 0]

def k0_chk45 (d0 : Dev nD) (v805 : BitVec 32) : Prop :=
  (∀ a, (k0_off140 d0 v805) a + S1x1024.size a ≤ S16384x1024.size a)
theorem k0_off140_inb : ∀ (d0 : Dev nD) (v805 : BitVec 32) (k0_hw45 : k0_chk45 d0 v805), ∀ a, (k0_off140 d0 v805) a + S1x1024.size a ≤ S16384x1024.size a := fun d0 v805 k0_hw45 => k0_hw45

def k0_off141 (d0 : Dev nD) (k0_t10 : Fin k0_t10_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c640_i32_691 : BitVec 32 := 640#32
  let c0_i32_115 : BitVec 32 := 0#32
  let c1_i32_117 : BitVec 32 := 1#32
  let arg14 : BitVec 32 := Scf.iv c0_i32_115 c1_i32_117 k0_t10
  let c8_i32_690 : BitVec 32 := 8#32
  let v813 : BitVec 32 := Scalar.muli arg14 c8_i32_690
  let v814 : BitVec 32 := Scalar.addi c640_i32_691 v813
  let c5_i32_692 : BitVec 32 := 5#32
  let v815 : BitVec 32 := Scalar.addi v814 c5_i32_692
  let v816 : BitVec 32 := Scalar.addi v25 v815
  let v817 : Index := Scalar.indexCast v816
  ![v817.toNat]
def k0_off142 (k0_t10 : Fin k0_t10_loop.trips) : Fin 2 → Nat :=
  let c640_i32_691 : BitVec 32 := 640#32
  let c0_i32_115 : BitVec 32 := 0#32
  let c1_i32_117 : BitVec 32 := 1#32
  let arg14 : BitVec 32 := Scf.iv c0_i32_115 c1_i32_117 k0_t10
  let c8_i32_690 : BitVec 32 := 8#32
  let v813 : BitVec 32 := Scalar.muli arg14 c8_i32_690
  let v814 : BitVec 32 := Scalar.addi c640_i32_691 v813
  let c5_i32_692 : BitVec 32 := 5#32
  let v815 : BitVec 32 := Scalar.addi v814 c5_i32_692
  let c0_i32_696 : BitVec 32 := 0#32
  ![v815.toNat, 0]
def k0_off143 (d0 : Dev nD) (v818 : BitVec 32) : Fin 2 → Nat :=
  let c16383_i32_694 : BitVec 32 := 16383#32
  let c0_i32_693 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v819 : BitVec 32 := Scalar.subi v818 v24
  let v820 : BitVec 32 := Scalar.maxsi c0_i32_693 v819
  let v821 : BitVec 32 := Scalar.minsi c16383_i32_694 v820
  let c0_i32_697 : BitVec 32 := 0#32
  ![v821.toNat, 0]

def k0_chk46 (d0 : Dev nD) (v818 : BitVec 32) : Prop :=
  (∀ a, (k0_off143 d0 v818) a + S1x1024.size a ≤ S16384x1024.size a)
theorem k0_off143_inb : ∀ (d0 : Dev nD) (v818 : BitVec 32) (k0_hw46 : k0_chk46 d0 v818), ∀ a, (k0_off143 d0 v818) a + S1x1024.size a ≤ S16384x1024.size a := fun d0 v818 k0_hw46 => k0_hw46

def k0_off144 (d0 : Dev nD) (k0_t10 : Fin k0_t10_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c640_i32_699 : BitVec 32 := 640#32
  let c0_i32_115 : BitVec 32 := 0#32
  let c1_i32_117 : BitVec 32 := 1#32
  let arg14 : BitVec 32 := Scf.iv c0_i32_115 c1_i32_117 k0_t10
  let c8_i32_698 : BitVec 32 := 8#32
  let v826 : BitVec 32 := Scalar.muli arg14 c8_i32_698
  let v827 : BitVec 32 := Scalar.addi c640_i32_699 v826
  let c6_i32_700 : BitVec 32 := 6#32
  let v828 : BitVec 32 := Scalar.addi v827 c6_i32_700
  let v829 : BitVec 32 := Scalar.addi v25 v828
  let v830 : Index := Scalar.indexCast v829
  ![v830.toNat]
def k0_off145 (k0_t10 : Fin k0_t10_loop.trips) : Fin 2 → Nat :=
  let c640_i32_699 : BitVec 32 := 640#32
  let c0_i32_115 : BitVec 32 := 0#32
  let c1_i32_117 : BitVec 32 := 1#32
  let arg14 : BitVec 32 := Scf.iv c0_i32_115 c1_i32_117 k0_t10
  let c8_i32_698 : BitVec 32 := 8#32
  let v826 : BitVec 32 := Scalar.muli arg14 c8_i32_698
  let v827 : BitVec 32 := Scalar.addi c640_i32_699 v826
  let c6_i32_700 : BitVec 32 := 6#32
  let v828 : BitVec 32 := Scalar.addi v827 c6_i32_700
  let c0_i32_704 : BitVec 32 := 0#32
  ![v828.toNat, 0]
def k0_off146 (d0 : Dev nD) (v831 : BitVec 32) : Fin 2 → Nat :=
  let c16383_i32_702 : BitVec 32 := 16383#32
  let c0_i32_701 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v832 : BitVec 32 := Scalar.subi v831 v24
  let v833 : BitVec 32 := Scalar.maxsi c0_i32_701 v832
  let v834 : BitVec 32 := Scalar.minsi c16383_i32_702 v833
  let c0_i32_705 : BitVec 32 := 0#32
  ![v834.toNat, 0]

def k0_chk47 (d0 : Dev nD) (v831 : BitVec 32) : Prop :=
  (∀ a, (k0_off146 d0 v831) a + S1x1024.size a ≤ S16384x1024.size a)
theorem k0_off146_inb : ∀ (d0 : Dev nD) (v831 : BitVec 32) (k0_hw47 : k0_chk47 d0 v831), ∀ a, (k0_off146 d0 v831) a + S1x1024.size a ≤ S16384x1024.size a := fun d0 v831 k0_hw47 => k0_hw47

def k0_off147 (d0 : Dev nD) (k0_t10 : Fin k0_t10_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c640_i32_707 : BitVec 32 := 640#32
  let c0_i32_115 : BitVec 32 := 0#32
  let c1_i32_117 : BitVec 32 := 1#32
  let arg14 : BitVec 32 := Scf.iv c0_i32_115 c1_i32_117 k0_t10
  let c8_i32_706 : BitVec 32 := 8#32
  let v839 : BitVec 32 := Scalar.muli arg14 c8_i32_706
  let v840 : BitVec 32 := Scalar.addi c640_i32_707 v839
  let c7_i32_708 : BitVec 32 := 7#32
  let v841 : BitVec 32 := Scalar.addi v840 c7_i32_708
  let v842 : BitVec 32 := Scalar.addi v25 v841
  let v843 : Index := Scalar.indexCast v842
  ![v843.toNat]
def k0_off148 (k0_t10 : Fin k0_t10_loop.trips) : Fin 2 → Nat :=
  let c640_i32_707 : BitVec 32 := 640#32
  let c0_i32_115 : BitVec 32 := 0#32
  let c1_i32_117 : BitVec 32 := 1#32
  let arg14 : BitVec 32 := Scf.iv c0_i32_115 c1_i32_117 k0_t10
  let c8_i32_706 : BitVec 32 := 8#32
  let v839 : BitVec 32 := Scalar.muli arg14 c8_i32_706
  let v840 : BitVec 32 := Scalar.addi c640_i32_707 v839
  let c7_i32_708 : BitVec 32 := 7#32
  let v841 : BitVec 32 := Scalar.addi v840 c7_i32_708
  let c0_i32_712 : BitVec 32 := 0#32
  ![v841.toNat, 0]
def k0_off149 (d0 : Dev nD) (v844 : BitVec 32) : Fin 2 → Nat :=
  let c16383_i32_710 : BitVec 32 := 16383#32
  let c0_i32_709 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v845 : BitVec 32 := Scalar.subi v844 v24
  let v846 : BitVec 32 := Scalar.maxsi c0_i32_709 v845
  let v847 : BitVec 32 := Scalar.minsi c16383_i32_710 v846
  let c0_i32_713 : BitVec 32 := 0#32
  ![v847.toNat, 0]

def k0_chk48 (d0 : Dev nD) (v844 : BitVec 32) : Prop :=
  (∀ a, (k0_off149 d0 v844) a + S1x1024.size a ≤ S16384x1024.size a)
theorem k0_off149_inb : ∀ (d0 : Dev nD) (v844 : BitVec 32) (k0_hw48 : k0_chk48 d0 v844), ∀ a, (k0_off149 d0 v844) a + S1x1024.size a ≤ S16384x1024.size a := fun d0 v844 k0_hw48 => k0_hw48

@[reducible] def k0_t11_loop : Scf.Loop 32 :=
  let c0_i32_119 : BitVec 32 := 0#32
  let c16_i32_120 : BitVec 32 := 16#32
  let v162 : BitVec 32 := Scalar.addi c0_i32_119 c16_i32_120
  let c1_i32_121 : BitVec 32 := 1#32
  ⟨c0_i32_119, v162, c1_i32_121⟩
def k0_off150 (k0_t11 : Fin k0_t11_loop.trips) (c0_i32_653 : BitVec 32) : Fin 2 → Nat :=
  let c512_i32_652 : BitVec 32 := 512#32
  let c0_i32_119 : BitVec 32 := 0#32
  let c1_i32_121 : BitVec 32 := 1#32
  let arg14 : BitVec 32 := Scf.iv c0_i32_119 c1_i32_121 k0_t11
  let c8_i32 : BitVec 32 := 8#32
  let v748 : BitVec 32 := Scalar.muli arg14 c8_i32
  let v749 : BitVec 32 := Scalar.addi c512_i32_652 v748
  let v750 : BitVec 32 := Scalar.addi v749 c0_i32_653
  let c0_i32_655 : BitVec 32 := 0#32
  ![v750.toNat, 0]
def k0_dev7 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v182 : BitVec 32 := Scalar.muli v2 c4_i32_131
  let v183 : BitVec 32 := Scalar.addi c0_i32_132 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v184 : BitVec 32 := Scalar.muli v5 c2_i32_133
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_134 : BitVec 32 := 1#32
  let v186 : BitVec 32 := Scalar.muli v9 c1_i32_134
  let v187 : BitVec 32 := Scalar.addi v185 v186
  v187.toNat
@[reducible] def k0_t12_loop : Scf.Loop 32 :=
  let c0_i32_139 : BitVec 32 := 0#32
  let c16_i32_140 : BitVec 32 := 16#32
  let v194 : BitVec 32 := Scalar.addi c0_i32_139 c16_i32_140
  let c1_i32_141 : BitVec 32 := 1#32
  ⟨c0_i32_139, v194, c1_i32_141⟩
def k0_off151 (d0 : Dev nD) (k0_t12 : Fin k0_t12_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c768_i32_652 : BitVec 32 := 768#32
  let c0_i32_139 : BitVec 32 := 0#32
  let c1_i32_141 : BitVec 32 := 1#32
  let arg14 : BitVec 32 := Scf.iv c0_i32_139 c1_i32_141 k0_t12
  let c8_i32 : BitVec 32 := 8#32
  let v748 : BitVec 32 := Scalar.muli arg14 c8_i32
  let v749 : BitVec 32 := Scalar.addi c768_i32_652 v748
  let c0_i32_653 : BitVec 32 := 0#32
  let v750 : BitVec 32 := Scalar.addi v749 c0_i32_653
  let v751 : BitVec 32 := Scalar.addi v25 v750
  let v752 : Index := Scalar.indexCast v751
  ![v752.toNat]
def k0_off152 (k0_t12 : Fin k0_t12_loop.trips) : Fin 2 → Nat :=
  let c768_i32_652 : BitVec 32 := 768#32
  let c0_i32_139 : BitVec 32 := 0#32
  let c1_i32_141 : BitVec 32 := 1#32
  let arg14 : BitVec 32 := Scf.iv c0_i32_139 c1_i32_141 k0_t12
  let c8_i32 : BitVec 32 := 8#32
  let v748 : BitVec 32 := Scalar.muli arg14 c8_i32
  let v749 : BitVec 32 := Scalar.addi c768_i32_652 v748
  let c0_i32_653 : BitVec 32 := 0#32
  let v750 : BitVec 32 := Scalar.addi v749 c0_i32_653
  let c0_i32_656 : BitVec 32 := 0#32
  ![v750.toNat, 0]
def k0_off153 (d0 : Dev nD) (v753 : BitVec 32) : Fin 2 → Nat :=
  let c16383_i32 : BitVec 32 := 16383#32
  let c0_i32_654 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v754 : BitVec 32 := Scalar.subi v753 v24
  let v755 : BitVec 32 := Scalar.maxsi c0_i32_654 v754
  let v756 : BitVec 32 := Scalar.minsi c16383_i32 v755
  let c0_i32_657 : BitVec 32 := 0#32
  ![v756.toNat, 0]

def k0_chk49 (d0 : Dev nD) (v753 : BitVec 32) : Prop :=
  (∀ a, (k0_off153 d0 v753) a + S1x1024.size a ≤ S16384x1024.size a)
theorem k0_off153_inb : ∀ (d0 : Dev nD) (v753 : BitVec 32) (k0_hw49 : k0_chk49 d0 v753), ∀ a, (k0_off153 d0 v753) a + S1x1024.size a ≤ S16384x1024.size a := fun d0 v753 k0_hw49 => k0_hw49

def k0_off154 (d0 : Dev nD) (k0_t12 : Fin k0_t12_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c768_i32_659 : BitVec 32 := 768#32
  let c0_i32_139 : BitVec 32 := 0#32
  let c1_i32_141 : BitVec 32 := 1#32
  let arg14 : BitVec 32 := Scf.iv c0_i32_139 c1_i32_141 k0_t12
  let c8_i32_658 : BitVec 32 := 8#32
  let v761 : BitVec 32 := Scalar.muli arg14 c8_i32_658
  let v762 : BitVec 32 := Scalar.addi c768_i32_659 v761
  let c1_i32_660 : BitVec 32 := 1#32
  let v763 : BitVec 32 := Scalar.addi v762 c1_i32_660
  let v764 : BitVec 32 := Scalar.addi v25 v763
  let v765 : Index := Scalar.indexCast v764
  ![v765.toNat]
def k0_off155 (k0_t12 : Fin k0_t12_loop.trips) : Fin 2 → Nat :=
  let c768_i32_659 : BitVec 32 := 768#32
  let c0_i32_139 : BitVec 32 := 0#32
  let c1_i32_141 : BitVec 32 := 1#32
  let arg14 : BitVec 32 := Scf.iv c0_i32_139 c1_i32_141 k0_t12
  let c8_i32_658 : BitVec 32 := 8#32
  let v761 : BitVec 32 := Scalar.muli arg14 c8_i32_658
  let v762 : BitVec 32 := Scalar.addi c768_i32_659 v761
  let c1_i32_660 : BitVec 32 := 1#32
  let v763 : BitVec 32 := Scalar.addi v762 c1_i32_660
  let c0_i32_664 : BitVec 32 := 0#32
  ![v763.toNat, 0]
def k0_off156 (d0 : Dev nD) (v766 : BitVec 32) : Fin 2 → Nat :=
  let c16383_i32_662 : BitVec 32 := 16383#32
  let c0_i32_661 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v767 : BitVec 32 := Scalar.subi v766 v24
  let v768 : BitVec 32 := Scalar.maxsi c0_i32_661 v767
  let v769 : BitVec 32 := Scalar.minsi c16383_i32_662 v768
  let c0_i32_665 : BitVec 32 := 0#32
  ![v769.toNat, 0]

def k0_chk50 (d0 : Dev nD) (v766 : BitVec 32) : Prop :=
  (∀ a, (k0_off156 d0 v766) a + S1x1024.size a ≤ S16384x1024.size a)
theorem k0_off156_inb : ∀ (d0 : Dev nD) (v766 : BitVec 32) (k0_hw50 : k0_chk50 d0 v766), ∀ a, (k0_off156 d0 v766) a + S1x1024.size a ≤ S16384x1024.size a := fun d0 v766 k0_hw50 => k0_hw50

def k0_off157 (d0 : Dev nD) (k0_t12 : Fin k0_t12_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c768_i32_667 : BitVec 32 := 768#32
  let c0_i32_139 : BitVec 32 := 0#32
  let c1_i32_141 : BitVec 32 := 1#32
  let arg14 : BitVec 32 := Scf.iv c0_i32_139 c1_i32_141 k0_t12
  let c8_i32_666 : BitVec 32 := 8#32
  let v774 : BitVec 32 := Scalar.muli arg14 c8_i32_666
  let v775 : BitVec 32 := Scalar.addi c768_i32_667 v774
  let c2_i32_668 : BitVec 32 := 2#32
  let v776 : BitVec 32 := Scalar.addi v775 c2_i32_668
  let v777 : BitVec 32 := Scalar.addi v25 v776
  let v778 : Index := Scalar.indexCast v777
  ![v778.toNat]
def k0_off158 (k0_t12 : Fin k0_t12_loop.trips) : Fin 2 → Nat :=
  let c768_i32_667 : BitVec 32 := 768#32
  let c0_i32_139 : BitVec 32 := 0#32
  let c1_i32_141 : BitVec 32 := 1#32
  let arg14 : BitVec 32 := Scf.iv c0_i32_139 c1_i32_141 k0_t12
  let c8_i32_666 : BitVec 32 := 8#32
  let v774 : BitVec 32 := Scalar.muli arg14 c8_i32_666
  let v775 : BitVec 32 := Scalar.addi c768_i32_667 v774
  let c2_i32_668 : BitVec 32 := 2#32
  let v776 : BitVec 32 := Scalar.addi v775 c2_i32_668
  let c0_i32_672 : BitVec 32 := 0#32
  ![v776.toNat, 0]
def k0_off159 (d0 : Dev nD) (v779 : BitVec 32) : Fin 2 → Nat :=
  let c16383_i32_670 : BitVec 32 := 16383#32
  let c0_i32_669 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v780 : BitVec 32 := Scalar.subi v779 v24
  let v781 : BitVec 32 := Scalar.maxsi c0_i32_669 v780
  let v782 : BitVec 32 := Scalar.minsi c16383_i32_670 v781
  let c0_i32_673 : BitVec 32 := 0#32
  ![v782.toNat, 0]

def k0_chk51 (d0 : Dev nD) (v779 : BitVec 32) : Prop :=
  (∀ a, (k0_off159 d0 v779) a + S1x1024.size a ≤ S16384x1024.size a)
theorem k0_off159_inb : ∀ (d0 : Dev nD) (v779 : BitVec 32) (k0_hw51 : k0_chk51 d0 v779), ∀ a, (k0_off159 d0 v779) a + S1x1024.size a ≤ S16384x1024.size a := fun d0 v779 k0_hw51 => k0_hw51

def k0_off160 (d0 : Dev nD) (k0_t12 : Fin k0_t12_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c768_i32_675 : BitVec 32 := 768#32
  let c0_i32_139 : BitVec 32 := 0#32
  let c1_i32_141 : BitVec 32 := 1#32
  let arg14 : BitVec 32 := Scf.iv c0_i32_139 c1_i32_141 k0_t12
  let c8_i32_674 : BitVec 32 := 8#32
  let v787 : BitVec 32 := Scalar.muli arg14 c8_i32_674
  let v788 : BitVec 32 := Scalar.addi c768_i32_675 v787
  let c3_i32_676 : BitVec 32 := 3#32
  let v789 : BitVec 32 := Scalar.addi v788 c3_i32_676
  let v790 : BitVec 32 := Scalar.addi v25 v789
  let v791 : Index := Scalar.indexCast v790
  ![v791.toNat]
def k0_off161 (k0_t12 : Fin k0_t12_loop.trips) : Fin 2 → Nat :=
  let c768_i32_675 : BitVec 32 := 768#32
  let c0_i32_139 : BitVec 32 := 0#32
  let c1_i32_141 : BitVec 32 := 1#32
  let arg14 : BitVec 32 := Scf.iv c0_i32_139 c1_i32_141 k0_t12
  let c8_i32_674 : BitVec 32 := 8#32
  let v787 : BitVec 32 := Scalar.muli arg14 c8_i32_674
  let v788 : BitVec 32 := Scalar.addi c768_i32_675 v787
  let c3_i32_676 : BitVec 32 := 3#32
  let v789 : BitVec 32 := Scalar.addi v788 c3_i32_676
  let c0_i32_680 : BitVec 32 := 0#32
  ![v789.toNat, 0]
def k0_off162 (d0 : Dev nD) (v792 : BitVec 32) : Fin 2 → Nat :=
  let c16383_i32_678 : BitVec 32 := 16383#32
  let c0_i32_677 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v793 : BitVec 32 := Scalar.subi v792 v24
  let v794 : BitVec 32 := Scalar.maxsi c0_i32_677 v793
  let v795 : BitVec 32 := Scalar.minsi c16383_i32_678 v794
  let c0_i32_681 : BitVec 32 := 0#32
  ![v795.toNat, 0]

def k0_chk52 (d0 : Dev nD) (v792 : BitVec 32) : Prop :=
  (∀ a, (k0_off162 d0 v792) a + S1x1024.size a ≤ S16384x1024.size a)
theorem k0_off162_inb : ∀ (d0 : Dev nD) (v792 : BitVec 32) (k0_hw52 : k0_chk52 d0 v792), ∀ a, (k0_off162 d0 v792) a + S1x1024.size a ≤ S16384x1024.size a := fun d0 v792 k0_hw52 => k0_hw52

def k0_off163 (d0 : Dev nD) (k0_t12 : Fin k0_t12_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c768_i32_683 : BitVec 32 := 768#32
  let c0_i32_139 : BitVec 32 := 0#32
  let c1_i32_141 : BitVec 32 := 1#32
  let arg14 : BitVec 32 := Scf.iv c0_i32_139 c1_i32_141 k0_t12
  let c8_i32_682 : BitVec 32 := 8#32
  let v800 : BitVec 32 := Scalar.muli arg14 c8_i32_682
  let v801 : BitVec 32 := Scalar.addi c768_i32_683 v800
  let c4_i32_684 : BitVec 32 := 4#32
  let v802 : BitVec 32 := Scalar.addi v801 c4_i32_684
  let v803 : BitVec 32 := Scalar.addi v25 v802
  let v804 : Index := Scalar.indexCast v803
  ![v804.toNat]
def k0_off164 (k0_t12 : Fin k0_t12_loop.trips) : Fin 2 → Nat :=
  let c768_i32_683 : BitVec 32 := 768#32
  let c0_i32_139 : BitVec 32 := 0#32
  let c1_i32_141 : BitVec 32 := 1#32
  let arg14 : BitVec 32 := Scf.iv c0_i32_139 c1_i32_141 k0_t12
  let c8_i32_682 : BitVec 32 := 8#32
  let v800 : BitVec 32 := Scalar.muli arg14 c8_i32_682
  let v801 : BitVec 32 := Scalar.addi c768_i32_683 v800
  let c4_i32_684 : BitVec 32 := 4#32
  let v802 : BitVec 32 := Scalar.addi v801 c4_i32_684
  let c0_i32_688 : BitVec 32 := 0#32
  ![v802.toNat, 0]
def k0_off165 (d0 : Dev nD) (v805 : BitVec 32) : Fin 2 → Nat :=
  let c16383_i32_686 : BitVec 32 := 16383#32
  let c0_i32_685 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v806 : BitVec 32 := Scalar.subi v805 v24
  let v807 : BitVec 32 := Scalar.maxsi c0_i32_685 v806
  let v808 : BitVec 32 := Scalar.minsi c16383_i32_686 v807
  let c0_i32_689 : BitVec 32 := 0#32
  ![v808.toNat, 0]

def k0_chk53 (d0 : Dev nD) (v805 : BitVec 32) : Prop :=
  (∀ a, (k0_off165 d0 v805) a + S1x1024.size a ≤ S16384x1024.size a)
theorem k0_off165_inb : ∀ (d0 : Dev nD) (v805 : BitVec 32) (k0_hw53 : k0_chk53 d0 v805), ∀ a, (k0_off165 d0 v805) a + S1x1024.size a ≤ S16384x1024.size a := fun d0 v805 k0_hw53 => k0_hw53

def k0_off166 (d0 : Dev nD) (k0_t12 : Fin k0_t12_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c768_i32_691 : BitVec 32 := 768#32
  let c0_i32_139 : BitVec 32 := 0#32
  let c1_i32_141 : BitVec 32 := 1#32
  let arg14 : BitVec 32 := Scf.iv c0_i32_139 c1_i32_141 k0_t12
  let c8_i32_690 : BitVec 32 := 8#32
  let v813 : BitVec 32 := Scalar.muli arg14 c8_i32_690
  let v814 : BitVec 32 := Scalar.addi c768_i32_691 v813
  let c5_i32_692 : BitVec 32 := 5#32
  let v815 : BitVec 32 := Scalar.addi v814 c5_i32_692
  let v816 : BitVec 32 := Scalar.addi v25 v815
  let v817 : Index := Scalar.indexCast v816
  ![v817.toNat]
def k0_off167 (k0_t12 : Fin k0_t12_loop.trips) : Fin 2 → Nat :=
  let c768_i32_691 : BitVec 32 := 768#32
  let c0_i32_139 : BitVec 32 := 0#32
  let c1_i32_141 : BitVec 32 := 1#32
  let arg14 : BitVec 32 := Scf.iv c0_i32_139 c1_i32_141 k0_t12
  let c8_i32_690 : BitVec 32 := 8#32
  let v813 : BitVec 32 := Scalar.muli arg14 c8_i32_690
  let v814 : BitVec 32 := Scalar.addi c768_i32_691 v813
  let c5_i32_692 : BitVec 32 := 5#32
  let v815 : BitVec 32 := Scalar.addi v814 c5_i32_692
  let c0_i32_696 : BitVec 32 := 0#32
  ![v815.toNat, 0]
def k0_off168 (d0 : Dev nD) (v818 : BitVec 32) : Fin 2 → Nat :=
  let c16383_i32_694 : BitVec 32 := 16383#32
  let c0_i32_693 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v819 : BitVec 32 := Scalar.subi v818 v24
  let v820 : BitVec 32 := Scalar.maxsi c0_i32_693 v819
  let v821 : BitVec 32 := Scalar.minsi c16383_i32_694 v820
  let c0_i32_697 : BitVec 32 := 0#32
  ![v821.toNat, 0]

def k0_chk54 (d0 : Dev nD) (v818 : BitVec 32) : Prop :=
  (∀ a, (k0_off168 d0 v818) a + S1x1024.size a ≤ S16384x1024.size a)
theorem k0_off168_inb : ∀ (d0 : Dev nD) (v818 : BitVec 32) (k0_hw54 : k0_chk54 d0 v818), ∀ a, (k0_off168 d0 v818) a + S1x1024.size a ≤ S16384x1024.size a := fun d0 v818 k0_hw54 => k0_hw54

def k0_off169 (d0 : Dev nD) (k0_t12 : Fin k0_t12_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c768_i32_699 : BitVec 32 := 768#32
  let c0_i32_139 : BitVec 32 := 0#32
  let c1_i32_141 : BitVec 32 := 1#32
  let arg14 : BitVec 32 := Scf.iv c0_i32_139 c1_i32_141 k0_t12
  let c8_i32_698 : BitVec 32 := 8#32
  let v826 : BitVec 32 := Scalar.muli arg14 c8_i32_698
  let v827 : BitVec 32 := Scalar.addi c768_i32_699 v826
  let c6_i32_700 : BitVec 32 := 6#32
  let v828 : BitVec 32 := Scalar.addi v827 c6_i32_700
  let v829 : BitVec 32 := Scalar.addi v25 v828
  let v830 : Index := Scalar.indexCast v829
  ![v830.toNat]
def k0_off170 (k0_t12 : Fin k0_t12_loop.trips) : Fin 2 → Nat :=
  let c768_i32_699 : BitVec 32 := 768#32
  let c0_i32_139 : BitVec 32 := 0#32
  let c1_i32_141 : BitVec 32 := 1#32
  let arg14 : BitVec 32 := Scf.iv c0_i32_139 c1_i32_141 k0_t12
  let c8_i32_698 : BitVec 32 := 8#32
  let v826 : BitVec 32 := Scalar.muli arg14 c8_i32_698
  let v827 : BitVec 32 := Scalar.addi c768_i32_699 v826
  let c6_i32_700 : BitVec 32 := 6#32
  let v828 : BitVec 32 := Scalar.addi v827 c6_i32_700
  let c0_i32_704 : BitVec 32 := 0#32
  ![v828.toNat, 0]
def k0_off171 (d0 : Dev nD) (v831 : BitVec 32) : Fin 2 → Nat :=
  let c16383_i32_702 : BitVec 32 := 16383#32
  let c0_i32_701 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v832 : BitVec 32 := Scalar.subi v831 v24
  let v833 : BitVec 32 := Scalar.maxsi c0_i32_701 v832
  let v834 : BitVec 32 := Scalar.minsi c16383_i32_702 v833
  let c0_i32_705 : BitVec 32 := 0#32
  ![v834.toNat, 0]

def k0_chk55 (d0 : Dev nD) (v831 : BitVec 32) : Prop :=
  (∀ a, (k0_off171 d0 v831) a + S1x1024.size a ≤ S16384x1024.size a)
theorem k0_off171_inb : ∀ (d0 : Dev nD) (v831 : BitVec 32) (k0_hw55 : k0_chk55 d0 v831), ∀ a, (k0_off171 d0 v831) a + S1x1024.size a ≤ S16384x1024.size a := fun d0 v831 k0_hw55 => k0_hw55

def k0_off172 (d0 : Dev nD) (k0_t12 : Fin k0_t12_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c768_i32_707 : BitVec 32 := 768#32
  let c0_i32_139 : BitVec 32 := 0#32
  let c1_i32_141 : BitVec 32 := 1#32
  let arg14 : BitVec 32 := Scf.iv c0_i32_139 c1_i32_141 k0_t12
  let c8_i32_706 : BitVec 32 := 8#32
  let v839 : BitVec 32 := Scalar.muli arg14 c8_i32_706
  let v840 : BitVec 32 := Scalar.addi c768_i32_707 v839
  let c7_i32_708 : BitVec 32 := 7#32
  let v841 : BitVec 32 := Scalar.addi v840 c7_i32_708
  let v842 : BitVec 32 := Scalar.addi v25 v841
  let v843 : Index := Scalar.indexCast v842
  ![v843.toNat]
def k0_off173 (k0_t12 : Fin k0_t12_loop.trips) : Fin 2 → Nat :=
  let c768_i32_707 : BitVec 32 := 768#32
  let c0_i32_139 : BitVec 32 := 0#32
  let c1_i32_141 : BitVec 32 := 1#32
  let arg14 : BitVec 32 := Scf.iv c0_i32_139 c1_i32_141 k0_t12
  let c8_i32_706 : BitVec 32 := 8#32
  let v839 : BitVec 32 := Scalar.muli arg14 c8_i32_706
  let v840 : BitVec 32 := Scalar.addi c768_i32_707 v839
  let c7_i32_708 : BitVec 32 := 7#32
  let v841 : BitVec 32 := Scalar.addi v840 c7_i32_708
  let c0_i32_712 : BitVec 32 := 0#32
  ![v841.toNat, 0]
def k0_off174 (d0 : Dev nD) (v844 : BitVec 32) : Fin 2 → Nat :=
  let c16383_i32_710 : BitVec 32 := 16383#32
  let c0_i32_709 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v845 : BitVec 32 := Scalar.subi v844 v24
  let v846 : BitVec 32 := Scalar.maxsi c0_i32_709 v845
  let v847 : BitVec 32 := Scalar.minsi c16383_i32_710 v846
  let c0_i32_713 : BitVec 32 := 0#32
  ![v847.toNat, 0]

def k0_chk56 (d0 : Dev nD) (v844 : BitVec 32) : Prop :=
  (∀ a, (k0_off174 d0 v844) a + S1x1024.size a ≤ S16384x1024.size a)
theorem k0_off174_inb : ∀ (d0 : Dev nD) (v844 : BitVec 32) (k0_hw56 : k0_chk56 d0 v844), ∀ a, (k0_off174 d0 v844) a + S1x1024.size a ≤ S16384x1024.size a := fun d0 v844 k0_hw56 => k0_hw56

@[reducible] def k0_t13_loop : Scf.Loop 32 :=
  let c0_i32_143 : BitVec 32 := 0#32
  let c16_i32_144 : BitVec 32 := 16#32
  let v195 : BitVec 32 := Scalar.addi c0_i32_143 c16_i32_144
  let c1_i32_145 : BitVec 32 := 1#32
  ⟨c0_i32_143, v195, c1_i32_145⟩
def k0_off175 (k0_t13 : Fin k0_t13_loop.trips) (c0_i32_653 : BitVec 32) : Fin 2 → Nat :=
  let c640_i32_652 : BitVec 32 := 640#32
  let c0_i32_143 : BitVec 32 := 0#32
  let c1_i32_145 : BitVec 32 := 1#32
  let arg14 : BitVec 32 := Scf.iv c0_i32_143 c1_i32_145 k0_t13
  let c8_i32 : BitVec 32 := 8#32
  let v748 : BitVec 32 := Scalar.muli arg14 c8_i32
  let v749 : BitVec 32 := Scalar.addi c640_i32_652 v748
  let v750 : BitVec 32 := Scalar.addi v749 c0_i32_653
  let c0_i32_655 : BitVec 32 := 0#32
  ![v750.toNat, 0]
def k0_dev8 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v215 : BitVec 32 := Scalar.muli v2 c4_i32_154
  let v216 : BitVec 32 := Scalar.addi c0_i32_155 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v217 : BitVec 32 := Scalar.muli v5 c2_i32_156
  let v218 : BitVec 32 := Scalar.addi v216 v217
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_157 : BitVec 32 := 1#32
  let v219 : BitVec 32 := Scalar.muli v9 c1_i32_157
  let v220 : BitVec 32 := Scalar.addi v218 v219
  v220.toNat
@[reducible] def k0_t14_loop : Scf.Loop 32 :=
  let c0_i32_162 : BitVec 32 := 0#32
  let c16_i32_163 : BitVec 32 := 16#32
  let v227 : BitVec 32 := Scalar.addi c0_i32_162 c16_i32_163
  let c1_i32_164 : BitVec 32 := 1#32
  ⟨c0_i32_162, v227, c1_i32_164⟩
def k0_off176 (d0 : Dev nD) (k0_t14 : Fin k0_t14_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c896_i32_652 : BitVec 32 := 896#32
  let c0_i32_162 : BitVec 32 := 0#32
  let c1_i32_164 : BitVec 32 := 1#32
  let arg14 : BitVec 32 := Scf.iv c0_i32_162 c1_i32_164 k0_t14
  let c8_i32 : BitVec 32 := 8#32
  let v748 : BitVec 32 := Scalar.muli arg14 c8_i32
  let v749 : BitVec 32 := Scalar.addi c896_i32_652 v748
  let c0_i32_653 : BitVec 32 := 0#32
  let v750 : BitVec 32 := Scalar.addi v749 c0_i32_653
  let v751 : BitVec 32 := Scalar.addi v25 v750
  let v752 : Index := Scalar.indexCast v751
  ![v752.toNat]
def k0_off177 (k0_t14 : Fin k0_t14_loop.trips) : Fin 2 → Nat :=
  let c896_i32_652 : BitVec 32 := 896#32
  let c0_i32_162 : BitVec 32 := 0#32
  let c1_i32_164 : BitVec 32 := 1#32
  let arg14 : BitVec 32 := Scf.iv c0_i32_162 c1_i32_164 k0_t14
  let c8_i32 : BitVec 32 := 8#32
  let v748 : BitVec 32 := Scalar.muli arg14 c8_i32
  let v749 : BitVec 32 := Scalar.addi c896_i32_652 v748
  let c0_i32_653 : BitVec 32 := 0#32
  let v750 : BitVec 32 := Scalar.addi v749 c0_i32_653
  let c0_i32_656 : BitVec 32 := 0#32
  ![v750.toNat, 0]
def k0_off178 (d0 : Dev nD) (v753 : BitVec 32) : Fin 2 → Nat :=
  let c16383_i32 : BitVec 32 := 16383#32
  let c0_i32_654 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v754 : BitVec 32 := Scalar.subi v753 v24
  let v755 : BitVec 32 := Scalar.maxsi c0_i32_654 v754
  let v756 : BitVec 32 := Scalar.minsi c16383_i32 v755
  let c0_i32_657 : BitVec 32 := 0#32
  ![v756.toNat, 0]

def k0_chk57 (d0 : Dev nD) (v753 : BitVec 32) : Prop :=
  (∀ a, (k0_off178 d0 v753) a + S1x1024.size a ≤ S16384x1024.size a)
theorem k0_off178_inb : ∀ (d0 : Dev nD) (v753 : BitVec 32) (k0_hw57 : k0_chk57 d0 v753), ∀ a, (k0_off178 d0 v753) a + S1x1024.size a ≤ S16384x1024.size a := fun d0 v753 k0_hw57 => k0_hw57

def k0_off179 (d0 : Dev nD) (k0_t14 : Fin k0_t14_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c896_i32_659 : BitVec 32 := 896#32
  let c0_i32_162 : BitVec 32 := 0#32
  let c1_i32_164 : BitVec 32 := 1#32
  let arg14 : BitVec 32 := Scf.iv c0_i32_162 c1_i32_164 k0_t14
  let c8_i32_658 : BitVec 32 := 8#32
  let v761 : BitVec 32 := Scalar.muli arg14 c8_i32_658
  let v762 : BitVec 32 := Scalar.addi c896_i32_659 v761
  let c1_i32_660 : BitVec 32 := 1#32
  let v763 : BitVec 32 := Scalar.addi v762 c1_i32_660
  let v764 : BitVec 32 := Scalar.addi v25 v763
  let v765 : Index := Scalar.indexCast v764
  ![v765.toNat]
def k0_off180 (k0_t14 : Fin k0_t14_loop.trips) : Fin 2 → Nat :=
  let c896_i32_659 : BitVec 32 := 896#32
  let c0_i32_162 : BitVec 32 := 0#32
  let c1_i32_164 : BitVec 32 := 1#32
  let arg14 : BitVec 32 := Scf.iv c0_i32_162 c1_i32_164 k0_t14
  let c8_i32_658 : BitVec 32 := 8#32
  let v761 : BitVec 32 := Scalar.muli arg14 c8_i32_658
  let v762 : BitVec 32 := Scalar.addi c896_i32_659 v761
  let c1_i32_660 : BitVec 32 := 1#32
  let v763 : BitVec 32 := Scalar.addi v762 c1_i32_660
  let c0_i32_664 : BitVec 32 := 0#32
  ![v763.toNat, 0]
def k0_off181 (d0 : Dev nD) (v766 : BitVec 32) : Fin 2 → Nat :=
  let c16383_i32_662 : BitVec 32 := 16383#32
  let c0_i32_661 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v767 : BitVec 32 := Scalar.subi v766 v24
  let v768 : BitVec 32 := Scalar.maxsi c0_i32_661 v767
  let v769 : BitVec 32 := Scalar.minsi c16383_i32_662 v768
  let c0_i32_665 : BitVec 32 := 0#32
  ![v769.toNat, 0]

def k0_chk58 (d0 : Dev nD) (v766 : BitVec 32) : Prop :=
  (∀ a, (k0_off181 d0 v766) a + S1x1024.size a ≤ S16384x1024.size a)
theorem k0_off181_inb : ∀ (d0 : Dev nD) (v766 : BitVec 32) (k0_hw58 : k0_chk58 d0 v766), ∀ a, (k0_off181 d0 v766) a + S1x1024.size a ≤ S16384x1024.size a := fun d0 v766 k0_hw58 => k0_hw58

def k0_off182 (d0 : Dev nD) (k0_t14 : Fin k0_t14_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c896_i32_667 : BitVec 32 := 896#32
  let c0_i32_162 : BitVec 32 := 0#32
  let c1_i32_164 : BitVec 32 := 1#32
  let arg14 : BitVec 32 := Scf.iv c0_i32_162 c1_i32_164 k0_t14
  let c8_i32_666 : BitVec 32 := 8#32
  let v774 : BitVec 32 := Scalar.muli arg14 c8_i32_666
  let v775 : BitVec 32 := Scalar.addi c896_i32_667 v774
  let c2_i32_668 : BitVec 32 := 2#32
  let v776 : BitVec 32 := Scalar.addi v775 c2_i32_668
  let v777 : BitVec 32 := Scalar.addi v25 v776
  let v778 : Index := Scalar.indexCast v777
  ![v778.toNat]
def k0_off183 (k0_t14 : Fin k0_t14_loop.trips) : Fin 2 → Nat :=
  let c896_i32_667 : BitVec 32 := 896#32
  let c0_i32_162 : BitVec 32 := 0#32
  let c1_i32_164 : BitVec 32 := 1#32
  let arg14 : BitVec 32 := Scf.iv c0_i32_162 c1_i32_164 k0_t14
  let c8_i32_666 : BitVec 32 := 8#32
  let v774 : BitVec 32 := Scalar.muli arg14 c8_i32_666
  let v775 : BitVec 32 := Scalar.addi c896_i32_667 v774
  let c2_i32_668 : BitVec 32 := 2#32
  let v776 : BitVec 32 := Scalar.addi v775 c2_i32_668
  let c0_i32_672 : BitVec 32 := 0#32
  ![v776.toNat, 0]
def k0_off184 (d0 : Dev nD) (v779 : BitVec 32) : Fin 2 → Nat :=
  let c16383_i32_670 : BitVec 32 := 16383#32
  let c0_i32_669 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v780 : BitVec 32 := Scalar.subi v779 v24
  let v781 : BitVec 32 := Scalar.maxsi c0_i32_669 v780
  let v782 : BitVec 32 := Scalar.minsi c16383_i32_670 v781
  let c0_i32_673 : BitVec 32 := 0#32
  ![v782.toNat, 0]

def k0_chk59 (d0 : Dev nD) (v779 : BitVec 32) : Prop :=
  (∀ a, (k0_off184 d0 v779) a + S1x1024.size a ≤ S16384x1024.size a)
theorem k0_off184_inb : ∀ (d0 : Dev nD) (v779 : BitVec 32) (k0_hw59 : k0_chk59 d0 v779), ∀ a, (k0_off184 d0 v779) a + S1x1024.size a ≤ S16384x1024.size a := fun d0 v779 k0_hw59 => k0_hw59

def k0_off185 (d0 : Dev nD) (k0_t14 : Fin k0_t14_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c896_i32_675 : BitVec 32 := 896#32
  let c0_i32_162 : BitVec 32 := 0#32
  let c1_i32_164 : BitVec 32 := 1#32
  let arg14 : BitVec 32 := Scf.iv c0_i32_162 c1_i32_164 k0_t14
  let c8_i32_674 : BitVec 32 := 8#32
  let v787 : BitVec 32 := Scalar.muli arg14 c8_i32_674
  let v788 : BitVec 32 := Scalar.addi c896_i32_675 v787
  let c3_i32_676 : BitVec 32 := 3#32
  let v789 : BitVec 32 := Scalar.addi v788 c3_i32_676
  let v790 : BitVec 32 := Scalar.addi v25 v789
  let v791 : Index := Scalar.indexCast v790
  ![v791.toNat]
def k0_off186 (k0_t14 : Fin k0_t14_loop.trips) : Fin 2 → Nat :=
  let c896_i32_675 : BitVec 32 := 896#32
  let c0_i32_162 : BitVec 32 := 0#32
  let c1_i32_164 : BitVec 32 := 1#32
  let arg14 : BitVec 32 := Scf.iv c0_i32_162 c1_i32_164 k0_t14
  let c8_i32_674 : BitVec 32 := 8#32
  let v787 : BitVec 32 := Scalar.muli arg14 c8_i32_674
  let v788 : BitVec 32 := Scalar.addi c896_i32_675 v787
  let c3_i32_676 : BitVec 32 := 3#32
  let v789 : BitVec 32 := Scalar.addi v788 c3_i32_676
  let c0_i32_680 : BitVec 32 := 0#32
  ![v789.toNat, 0]
def k0_off187 (d0 : Dev nD) (v792 : BitVec 32) : Fin 2 → Nat :=
  let c16383_i32_678 : BitVec 32 := 16383#32
  let c0_i32_677 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v793 : BitVec 32 := Scalar.subi v792 v24
  let v794 : BitVec 32 := Scalar.maxsi c0_i32_677 v793
  let v795 : BitVec 32 := Scalar.minsi c16383_i32_678 v794
  let c0_i32_681 : BitVec 32 := 0#32
  ![v795.toNat, 0]

def k0_chk60 (d0 : Dev nD) (v792 : BitVec 32) : Prop :=
  (∀ a, (k0_off187 d0 v792) a + S1x1024.size a ≤ S16384x1024.size a)
theorem k0_off187_inb : ∀ (d0 : Dev nD) (v792 : BitVec 32) (k0_hw60 : k0_chk60 d0 v792), ∀ a, (k0_off187 d0 v792) a + S1x1024.size a ≤ S16384x1024.size a := fun d0 v792 k0_hw60 => k0_hw60

def k0_off188 (d0 : Dev nD) (k0_t14 : Fin k0_t14_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c896_i32_683 : BitVec 32 := 896#32
  let c0_i32_162 : BitVec 32 := 0#32
  let c1_i32_164 : BitVec 32 := 1#32
  let arg14 : BitVec 32 := Scf.iv c0_i32_162 c1_i32_164 k0_t14
  let c8_i32_682 : BitVec 32 := 8#32
  let v800 : BitVec 32 := Scalar.muli arg14 c8_i32_682
  let v801 : BitVec 32 := Scalar.addi c896_i32_683 v800
  let c4_i32_684 : BitVec 32 := 4#32
  let v802 : BitVec 32 := Scalar.addi v801 c4_i32_684
  let v803 : BitVec 32 := Scalar.addi v25 v802
  let v804 : Index := Scalar.indexCast v803
  ![v804.toNat]
def k0_off189 (k0_t14 : Fin k0_t14_loop.trips) : Fin 2 → Nat :=
  let c896_i32_683 : BitVec 32 := 896#32
  let c0_i32_162 : BitVec 32 := 0#32
  let c1_i32_164 : BitVec 32 := 1#32
  let arg14 : BitVec 32 := Scf.iv c0_i32_162 c1_i32_164 k0_t14
  let c8_i32_682 : BitVec 32 := 8#32
  let v800 : BitVec 32 := Scalar.muli arg14 c8_i32_682
  let v801 : BitVec 32 := Scalar.addi c896_i32_683 v800
  let c4_i32_684 : BitVec 32 := 4#32
  let v802 : BitVec 32 := Scalar.addi v801 c4_i32_684
  let c0_i32_688 : BitVec 32 := 0#32
  ![v802.toNat, 0]
def k0_off190 (d0 : Dev nD) (v805 : BitVec 32) : Fin 2 → Nat :=
  let c16383_i32_686 : BitVec 32 := 16383#32
  let c0_i32_685 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v806 : BitVec 32 := Scalar.subi v805 v24
  let v807 : BitVec 32 := Scalar.maxsi c0_i32_685 v806
  let v808 : BitVec 32 := Scalar.minsi c16383_i32_686 v807
  let c0_i32_689 : BitVec 32 := 0#32
  ![v808.toNat, 0]

def k0_chk61 (d0 : Dev nD) (v805 : BitVec 32) : Prop :=
  (∀ a, (k0_off190 d0 v805) a + S1x1024.size a ≤ S16384x1024.size a)
theorem k0_off190_inb : ∀ (d0 : Dev nD) (v805 : BitVec 32) (k0_hw61 : k0_chk61 d0 v805), ∀ a, (k0_off190 d0 v805) a + S1x1024.size a ≤ S16384x1024.size a := fun d0 v805 k0_hw61 => k0_hw61

def k0_off191 (d0 : Dev nD) (k0_t14 : Fin k0_t14_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c896_i32_691 : BitVec 32 := 896#32
  let c0_i32_162 : BitVec 32 := 0#32
  let c1_i32_164 : BitVec 32 := 1#32
  let arg14 : BitVec 32 := Scf.iv c0_i32_162 c1_i32_164 k0_t14
  let c8_i32_690 : BitVec 32 := 8#32
  let v813 : BitVec 32 := Scalar.muli arg14 c8_i32_690
  let v814 : BitVec 32 := Scalar.addi c896_i32_691 v813
  let c5_i32_692 : BitVec 32 := 5#32
  let v815 : BitVec 32 := Scalar.addi v814 c5_i32_692
  let v816 : BitVec 32 := Scalar.addi v25 v815
  let v817 : Index := Scalar.indexCast v816
  ![v817.toNat]
def k0_off192 (k0_t14 : Fin k0_t14_loop.trips) : Fin 2 → Nat :=
  let c896_i32_691 : BitVec 32 := 896#32
  let c0_i32_162 : BitVec 32 := 0#32
  let c1_i32_164 : BitVec 32 := 1#32
  let arg14 : BitVec 32 := Scf.iv c0_i32_162 c1_i32_164 k0_t14
  let c8_i32_690 : BitVec 32 := 8#32
  let v813 : BitVec 32 := Scalar.muli arg14 c8_i32_690
  let v814 : BitVec 32 := Scalar.addi c896_i32_691 v813
  let c5_i32_692 : BitVec 32 := 5#32
  let v815 : BitVec 32 := Scalar.addi v814 c5_i32_692
  let c0_i32_696 : BitVec 32 := 0#32
  ![v815.toNat, 0]
def k0_off193 (d0 : Dev nD) (v818 : BitVec 32) : Fin 2 → Nat :=
  let c16383_i32_694 : BitVec 32 := 16383#32
  let c0_i32_693 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v819 : BitVec 32 := Scalar.subi v818 v24
  let v820 : BitVec 32 := Scalar.maxsi c0_i32_693 v819
  let v821 : BitVec 32 := Scalar.minsi c16383_i32_694 v820
  let c0_i32_697 : BitVec 32 := 0#32
  ![v821.toNat, 0]

def k0_chk62 (d0 : Dev nD) (v818 : BitVec 32) : Prop :=
  (∀ a, (k0_off193 d0 v818) a + S1x1024.size a ≤ S16384x1024.size a)
theorem k0_off193_inb : ∀ (d0 : Dev nD) (v818 : BitVec 32) (k0_hw62 : k0_chk62 d0 v818), ∀ a, (k0_off193 d0 v818) a + S1x1024.size a ≤ S16384x1024.size a := fun d0 v818 k0_hw62 => k0_hw62

def k0_off194 (d0 : Dev nD) (k0_t14 : Fin k0_t14_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c896_i32_699 : BitVec 32 := 896#32
  let c0_i32_162 : BitVec 32 := 0#32
  let c1_i32_164 : BitVec 32 := 1#32
  let arg14 : BitVec 32 := Scf.iv c0_i32_162 c1_i32_164 k0_t14
  let c8_i32_698 : BitVec 32 := 8#32
  let v826 : BitVec 32 := Scalar.muli arg14 c8_i32_698
  let v827 : BitVec 32 := Scalar.addi c896_i32_699 v826
  let c6_i32_700 : BitVec 32 := 6#32
  let v828 : BitVec 32 := Scalar.addi v827 c6_i32_700
  let v829 : BitVec 32 := Scalar.addi v25 v828
  let v830 : Index := Scalar.indexCast v829
  ![v830.toNat]
def k0_off195 (k0_t14 : Fin k0_t14_loop.trips) : Fin 2 → Nat :=
  let c896_i32_699 : BitVec 32 := 896#32
  let c0_i32_162 : BitVec 32 := 0#32
  let c1_i32_164 : BitVec 32 := 1#32
  let arg14 : BitVec 32 := Scf.iv c0_i32_162 c1_i32_164 k0_t14
  let c8_i32_698 : BitVec 32 := 8#32
  let v826 : BitVec 32 := Scalar.muli arg14 c8_i32_698
  let v827 : BitVec 32 := Scalar.addi c896_i32_699 v826
  let c6_i32_700 : BitVec 32 := 6#32
  let v828 : BitVec 32 := Scalar.addi v827 c6_i32_700
  let c0_i32_704 : BitVec 32 := 0#32
  ![v828.toNat, 0]
def k0_off196 (d0 : Dev nD) (v831 : BitVec 32) : Fin 2 → Nat :=
  let c16383_i32_702 : BitVec 32 := 16383#32
  let c0_i32_701 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v832 : BitVec 32 := Scalar.subi v831 v24
  let v833 : BitVec 32 := Scalar.maxsi c0_i32_701 v832
  let v834 : BitVec 32 := Scalar.minsi c16383_i32_702 v833
  let c0_i32_705 : BitVec 32 := 0#32
  ![v834.toNat, 0]

def k0_chk63 (d0 : Dev nD) (v831 : BitVec 32) : Prop :=
  (∀ a, (k0_off196 d0 v831) a + S1x1024.size a ≤ S16384x1024.size a)
theorem k0_off196_inb : ∀ (d0 : Dev nD) (v831 : BitVec 32) (k0_hw63 : k0_chk63 d0 v831), ∀ a, (k0_off196 d0 v831) a + S1x1024.size a ≤ S16384x1024.size a := fun d0 v831 k0_hw63 => k0_hw63

def k0_off197 (d0 : Dev nD) (k0_t14 : Fin k0_t14_loop.trips) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let c896_i32_707 : BitVec 32 := 896#32
  let c0_i32_162 : BitVec 32 := 0#32
  let c1_i32_164 : BitVec 32 := 1#32
  let arg14 : BitVec 32 := Scf.iv c0_i32_162 c1_i32_164 k0_t14
  let c8_i32_706 : BitVec 32 := 8#32
  let v839 : BitVec 32 := Scalar.muli arg14 c8_i32_706
  let v840 : BitVec 32 := Scalar.addi c896_i32_707 v839
  let c7_i32_708 : BitVec 32 := 7#32
  let v841 : BitVec 32 := Scalar.addi v840 c7_i32_708
  let v842 : BitVec 32 := Scalar.addi v25 v841
  let v843 : Index := Scalar.indexCast v842
  ![v843.toNat]
def k0_off198 (k0_t14 : Fin k0_t14_loop.trips) : Fin 2 → Nat :=
  let c896_i32_707 : BitVec 32 := 896#32
  let c0_i32_162 : BitVec 32 := 0#32
  let c1_i32_164 : BitVec 32 := 1#32
  let arg14 : BitVec 32 := Scf.iv c0_i32_162 c1_i32_164 k0_t14
  let c8_i32_706 : BitVec 32 := 8#32
  let v839 : BitVec 32 := Scalar.muli arg14 c8_i32_706
  let v840 : BitVec 32 := Scalar.addi c896_i32_707 v839
  let c7_i32_708 : BitVec 32 := 7#32
  let v841 : BitVec 32 := Scalar.addi v840 c7_i32_708
  let c0_i32_712 : BitVec 32 := 0#32
  ![v841.toNat, 0]
def k0_off199 (d0 : Dev nD) (v844 : BitVec 32) : Fin 2 → Nat :=
  let c16383_i32_710 : BitVec 32 := 16383#32
  let c0_i32_709 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v24 : BitVec 32 := Scalar.muli v8 c16384_i32
  let v845 : BitVec 32 := Scalar.subi v844 v24
  let v846 : BitVec 32 := Scalar.maxsi c0_i32_709 v845
  let v847 : BitVec 32 := Scalar.minsi c16383_i32_710 v846
  let c0_i32_713 : BitVec 32 := 0#32
  ![v847.toNat, 0]

def k0_chk64 (d0 : Dev nD) (v844 : BitVec 32) : Prop :=
  (∀ a, (k0_off199 d0 v844) a + S1x1024.size a ≤ S16384x1024.size a)
theorem k0_off199_inb : ∀ (d0 : Dev nD) (v844 : BitVec 32) (k0_hw64 : k0_chk64 d0 v844), ∀ a, (k0_off199 d0 v844) a + S1x1024.size a ≤ S16384x1024.size a := fun d0 v844 k0_hw64 => k0_hw64

@[reducible] def k0_t15_loop : Scf.Loop 32 :=
  let c0_i32_166 : BitVec 32 := 0#32
  let c16_i32_167 : BitVec 32 := 16#32
  let v228 : BitVec 32 := Scalar.addi c0_i32_166 c16_i32_167
  let c1_i32_168 : BitVec 32 := 1#32
  ⟨c0_i32_166, v228, c1_i32_168⟩
def k0_off200 (k0_t15 : Fin k0_t15_loop.trips) (c0_i32_653 : BitVec 32) : Fin 2 → Nat :=
  let c768_i32_652 : BitVec 32 := 768#32
  let c0_i32_166 : BitVec 32 := 0#32
  let c1_i32_168 : BitVec 32 := 1#32
  let arg14 : BitVec 32 := Scf.iv c0_i32_166 c1_i32_168 k0_t15
  let c8_i32 : BitVec 32 := 8#32
  let v748 : BitVec 32 := Scalar.muli arg14 c8_i32
  let v749 : BitVec 32 := Scalar.addi c768_i32_652 v748
  let v750 : BitVec 32 := Scalar.addi v749 c0_i32_653
  let c0_i32_655 : BitVec 32 := 0#32
  ![v750.toNat, 0]
def k0_dev9 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_177 : BitVec 32 := 4#32
  let v248 : BitVec 32 := Scalar.muli v2 c4_i32_177
  let v249 : BitVec 32 := Scalar.addi c0_i32_178 v248
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v250 : BitVec 32 := Scalar.muli v5 c2_i32_179
  let v251 : BitVec 32 := Scalar.addi v249 v250
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_180 : BitVec 32 := 1#32
  let v252 : BitVec 32 := Scalar.muli v9 c1_i32_180
  let v253 : BitVec 32 := Scalar.addi v251 v252
  v253.toNat
@[reducible] def k0_t16_loop : Scf.Loop 32 :=
  let c0_i32_185 : BitVec 32 := 0#32
  let c16_i32_186 : BitVec 32 := 16#32
  let v260 : BitVec 32 := Scalar.addi c0_i32_185 c16_i32_186
  let c1_i32_187 : BitVec 32 := 1#32
  ⟨c0_i32_185, v260, c1_i32_187⟩
def k0_off201 (k0_t16 : Fin k0_t16_loop.trips) (c0_i32_653 : BitVec 32) : Fin 2 → Nat :=
  let c896_i32_652 : BitVec 32 := 896#32
  let c0_i32_185 : BitVec 32 := 0#32
  let c1_i32_187 : BitVec 32 := 1#32
  let arg14 : BitVec 32 := Scf.iv c0_i32_185 c1_i32_187 k0_t16
  let c8_i32 : BitVec 32 := 8#32
  let v748 : BitVec 32 := Scalar.muli arg14 c8_i32
  let v749 : BitVec 32 := Scalar.addi c896_i32_652 v748
  let v750 : BitVec 32 := Scalar.addi v749 c0_i32_653
  let c0_i32_655 : BitVec 32 := 0#32
  ![v750.toNat, 0]
def k0_dev10 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_196 : BitVec 32 := 4#32
  let v280 : BitVec 32 := Scalar.muli v2 c4_i32_196
  let v281 : BitVec 32 := Scalar.addi c0_i32_197 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v282 : BitVec 32 := Scalar.muli v5 c2_i32_198
  let v283 : BitVec 32 := Scalar.addi v281 v282
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_199 : BitVec 32 := 1#32
  let v284 : BitVec 32 := Scalar.muli v9 c1_i32_199
  let v285 : BitVec 32 := Scalar.addi v283 v284
  v285.toNat
def k0_off202 (d0 : Dev nD) (c0_i32_218 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v25 : BitVec 32 := Scalar.muli v2 c1024_i32
  let v307 : BitVec 32 := Scalar.addi v25 c0_i32_218
  let v308 : Index := Scalar.indexCast v307
  let c0_219 : Index := 0#32
  ![v308.toNat, 0]
def k0_dev11 (d0 : Dev nD) : Nat :=
  let c0_i32_225 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_224 : BitVec 32 := 4#32
  let v314 : BitVec 32 := Scalar.muli v10 c4_i32_224
  let v315 : BitVec 32 := Scalar.addi c0_i32_225 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_226 : BitVec 32 := 2#32
  let v316 : BitVec 32 := Scalar.muli v5 c2_i32_226
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_227 : BitVec 32 := 1#32
  let v318 : BitVec 32 := Scalar.muli v8 c1_i32_227
  let v319 : BitVec 32 := Scalar.addi v317 v318
  v319.toNat
def k0_dev12 (d0 : Dev nD) : Nat :=
  let c0_i32_253 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_252 : BitVec 32 := 4#32
  let v348 : BitVec 32 := Scalar.muli v10 c4_i32_252
  let v349 : BitVec 32 := Scalar.addi c0_i32_253 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_254 : BitVec 32 := 2#32
  let v350 : BitVec 32 := Scalar.muli v5 c2_i32_254
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_255 : BitVec 32 := 1#32
  let v352 : BitVec 32 := Scalar.muli v8 c1_i32_255
  let v353 : BitVec 32 := Scalar.addi v351 v352
  v353.toNat
def k0_dev13 (d0 : Dev nD) : Nat :=
  let c0_i32_281 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_280 : BitVec 32 := 4#32
  let v382 : BitVec 32 := Scalar.muli v10 c4_i32_280
  let v383 : BitVec 32 := Scalar.addi c0_i32_281 v382
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_282 : BitVec 32 := 2#32
  let v384 : BitVec 32 := Scalar.muli v5 c2_i32_282
  let v385 : BitVec 32 := Scalar.addi v383 v384
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v386 : BitVec 32 := Scalar.muli v8 c1_i32_283
  let v387 : BitVec 32 := Scalar.addi v385 v386
  v387.toNat
def k0_dev14 (d0 : Dev nD) : Nat :=
  let c0_i32_309 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_308 : BitVec 32 := 4#32
  let v416 : BitVec 32 := Scalar.muli v10 c4_i32_308
  let v417 : BitVec 32 := Scalar.addi c0_i32_309 v416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_310 : BitVec 32 := 2#32
  let v418 : BitVec 32 := Scalar.muli v5 c2_i32_310
  let v419 : BitVec 32 := Scalar.addi v417 v418
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_311 : BitVec 32 := 1#32
  let v420 : BitVec 32 := Scalar.muli v8 c1_i32_311
  let v421 : BitVec 32 := Scalar.addi v419 v420
  v421.toNat
def k0_dev15 (d0 : Dev nD) : Nat :=
  let c0_i32_337 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_336 : BitVec 32 := 4#32
  let v450 : BitVec 32 := Scalar.muli v10 c4_i32_336
  let v451 : BitVec 32 := Scalar.addi c0_i32_337 v450
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v452 : BitVec 32 := Scalar.muli v5 c2_i32_338
  let v453 : BitVec 32 := Scalar.addi v451 v452
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v454 : BitVec 32 := Scalar.muli v8 c1_i32_339
  let v455 : BitVec 32 := Scalar.addi v453 v454
  v455.toNat
def k0_dev16 (d0 : Dev nD) : Nat :=
  let c0_i32_365 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_364 : BitVec 32 := 4#32
  let v484 : BitVec 32 := Scalar.muli v10 c4_i32_364
  let v485 : BitVec 32 := Scalar.addi c0_i32_365 v484
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_366 : BitVec 32 := 2#32
  let v486 : BitVec 32 := Scalar.muli v5 c2_i32_366
  let v487 : BitVec 32 := Scalar.addi v485 v486
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v488 : BitVec 32 := Scalar.muli v8 c1_i32_367
  let v489 : BitVec 32 := Scalar.addi v487 v488
  v489.toNat
def k0_dev17 (d0 : Dev nD) : Nat :=
  let c0_i32_393 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_392 : BitVec 32 := 4#32
  let v518 : BitVec 32 := Scalar.muli v10 c4_i32_392
  let v519 : BitVec 32 := Scalar.addi c0_i32_393 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_394 : BitVec 32 := 2#32
  let v520 : BitVec 32 := Scalar.muli v5 c2_i32_394
  let v521 : BitVec 32 := Scalar.addi v519 v520
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_395 : BitVec 32 := 1#32
  let v522 : BitVec 32 := Scalar.muli v8 c1_i32_395
  let v523 : BitVec 32 := Scalar.addi v521 v522
  v523.toNat
def k0_dev18 (d0 : Dev nD) : Nat :=
  let c0_i32_421 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_420 : BitVec 32 := 4#32
  let v552 : BitVec 32 := Scalar.muli v10 c4_i32_420
  let v553 : BitVec 32 := Scalar.addi c0_i32_421 v552
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_422 : BitVec 32 := 2#32
  let v554 : BitVec 32 := Scalar.muli v5 c2_i32_422
  let v555 : BitVec 32 := Scalar.addi v553 v554
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_423 : BitVec 32 := 1#32
  let v556 : BitVec 32 := Scalar.muli v8 c1_i32_423
  let v557 : BitVec 32 := Scalar.addi v555 v556
  v557.toNat
def k0_off203 (d0 : Dev nD) (c0_i32_440 : BitVec 32) : Fin 2 → Nat :=
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.subi c1_i32_15 v2
  let c1024_i32_16 : BitVec 32 := 1024#32
  let v27 : BitVec 32 := Scalar.muli v26 c1024_i32_16
  let v576 : BitVec 32 := Scalar.addi v27 c0_i32_440
  let v577 : Index := Scalar.indexCast v576
  let c0_441 : Index := 0#32
  ![v577.toNat, 0]
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048 : Shape := ⟨1, ![2048]⟩
abbrev S32768x1024 : Shape := ⟨2, ![32768, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32768x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Kernel.TextEq.lean ====
/-
  The printed body is `Lookup.body`.
-/
module

public import proofs.«01_k».proof.Proof.Kernel.Text

@[expose] public section

set_option maxRecDepth 65536

noncomputable section

namespace Cert.Kernel.Lookup

open Idealize.ShloMosaic Idealize.ShloMosaic.TcCoe Idealize.SL.Sem
open Cert.Kernel.Gen

variable {F : FTy → Type} [FloatOps F]

set_option maxHeartbeats 0 in
/-- The printed body, on this kernel's operands, is `body`. -/
theorem body_eq : cc0_body (F := F) mIds (Memref.isWhole_whole _) mCol (Memref.isWhole_whole _) mTab (Memref.isWhole_whole _) mOut (Memref.isWhole_whole _)
    mGat (Memref.isWhole_whole _) mZs (Memref.isWhole_whole _) mZr (Memref.isWhole_whole _) mXs (Memref.isWhole_whole _) mXr (Memref.isWhole_whole _)
    cc0_scratch5 cc0_scratch6 cc0_scratch7 cc0_scratch8 cc0_scratch9 = body := by
  rw [cc0_body_eq_skeleton]
  unfold cc0_body_skel
  simp only [k0_part41_eq_skeleton, k0_part41_skel,k0_part42_eq_skeleton, k0_part42_skel,k0_part43_eq_skeleton, k0_part43_skel,k0_part44_eq_skeleton, k0_part44_skel,k0_part45_eq_skeleton, k0_part45_skel,k0_part46_eq_skeleton, k0_part46_skel,k0_part47_eq_skeleton, k0_part47_skel,k0_part48_eq_skeleton, k0_part48_skel,k0_part49_eq_skeleton, k0_part49_skel,k0_part50_eq_skeleton, k0_part50_skel,k0_part51_eq_skeleton, k0_part51_skel,k0_part52_eq_skeleton, k0_part52_skel,k0_part53_eq_skeleton, k0_part53_skel,k0_part54_eq_skeleton, k0_part54_skel,k0_part55_eq_skeleton, k0_part55_skel,k0_part56_eq_skeleton, k0_part56_skel,k0_part57_eq_skeleton, k0_part57_skel,k0_part58_eq_skeleton, k0_part58_skel,k0_part59_eq_skeleton, k0_part59_skel,k0_part60_eq_skeleton, k0_part60_skel,k0_part61_eq_skeleton, k0_part61_skel,k0_part62_eq_skeleton, k0_part62_skel,k0_part63_eq_skeleton, k0_part63_skel,k0_part64_eq_skeleton, k0_part64_skel,k0_part65_eq_skeleton, k0_part65_skel,
    Prog.lift, Prog.bind_op, Prog.bind_ret, Prog.pure_eq_ret, Prog.bind_assoc]
  rfl

end Cert.Kernel.Lookup

end
-- ==== Proof.KernelIdeal.Text.lean ====
/-
  The kernel body written once more, over a symbolic chunk: a chunk number `c : Fin 8` stands for the eight unrolled
  copies of each phase in the printed text. `body` is the whole; `Gather.body_eq` below says the printed body is it.

  A chunk is 128 rows. The phases are: start the 128 row copies of a chunk (`issue`), wait for them (`await`), mask the
  chunk and send it to the z neighbour (`zStep`), add the neighbour's half, keep it and send it to the x neighbour
  (`redStep`), keep what the x neighbour sent (`outStep`), wait for the two sends of a chunk (`drainStep`).
-/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points

@[expose] public section

set_option maxRecDepth 16384

noncomputable section

namespace Cert.KernelIdeal.Lookup

open Idealize.ShloMosaic Idealize.ShloMosaic.TcCoe Idealize.SL.Sem
open Cert.KernelIdeal.Gen

variable {F : FTy → Type} [FloatOps F]

/-- The programs of one TensorCore thread of this kernel. -/
abbrev P (F : FTy → Type) [FloatOps F] := Prog (TpuEff nD τ sig (Elt F) Λ₀ .tc) PUnit

/-! ## The operands -/

/-- The row numbers, in scalar memory. -/
abbrev mIds : Memref sig .tc .smem S2048 .i32 := Memref.whole cc0_stg0_0
/-- The row numbers as a column, in vector memory. -/
abbrev mCol : Memref sig .tc .vmem S2048x1 .i32 := Memref.whole cc0_stg1_0
/-- The device's half of the table, left in HBM. -/
abbrev mTab : Memref sig .tc .hbm S16384x1024 .f32 := Memref.whole main_arg1
/-- The output window. -/
abbrev mOut : Memref sig .tc .vmem S2048x1024 .f32 := Memref.whole cc0_stg2_0
/-- Where the gathered rows land. -/
abbrev mGat : Memref sig .tc .vmem S1024x1024 .f32 := Memref.whole cc0_scratch0
/-- What goes to the z neighbour, -/
abbrev mZs : Memref sig .tc .vmem S1024x1024 .bf16 := Memref.whole cc0_scratch1
/-- and what comes from it. -/
abbrev mZr : Memref sig .tc .vmem S1024x1024 .bf16 := Memref.whole cc0_scratch2
/-- What goes to the x neighbour, -/
abbrev mXs : Memref sig .tc .vmem S1024x1024 .bf16 := Memref.whole cc0_scratch3
/-- and what comes from it. -/
abbrev mXr : Memref sig .tc .vmem S1024x1024 .bf16 := Memref.whole cc0_scratch4

/-! ## Offsets -/

/-- A chunk's first row, as the kernel's word. -/
abbrev cw (c : Fin 8) : BitVec 32 := BitVec.ofNat 32 (128 * c.val)

/-- The row of trip `t`, copy `u`, chunk `c`, as the kernel computes it. -/
abbrev rowW (c : Fin 8) (t : Fin k0_t1_loop.trips) (u : Fin 8) : BitVec 32 :=
  Scalar.addi (Scalar.addi (cw c) (Scalar.muli (Scf.iv 0#32 1#32 t) 8#32)) (BitVec.ofNat 32 u.val)

/-- The first row of the device's half of the ids. -/
abbrev h0W (d : Dev nD) : BitVec 32 :=
  Scalar.muli (Scalar.remsi (Scalar.divsi (Dev.word d) 4#32) 2#32) 1024#32
/-- The first row number of the device's half of the table. -/
abbrev v0W (d : Dev nD) : BitVec 32 :=
  Scalar.muli (Scalar.remsi (Scalar.divsi (Dev.word d) 1#32) 2#32) 16384#32

/-- Where a row number is read. -/
def idOff (d : Dev nD) (c : Fin 8) (t : Fin k0_t1_loop.trips) (u : Fin 8) : Fin 1 → Nat :=
  ![(Scalar.indexCast (Scalar.addi (h0W d) (rowW c t u))).toNat]
/-- Where a gathered row lands. -/
def gatOff (c : Fin 8) (t : Fin k0_t1_loop.trips) (u : Fin 8) : Fin 2 → Nat := ![(rowW c t u).toNat, 0]
/-- A chunk of 128 rows of a buffer of 1024. -/
def chOff (c : Fin 8) : Fin 2 → Nat := ![128 * c.val, 0]

theorem trips_eq : k0_t1_loop.trips = 16 := by decide

theorem rowW_toNat : ∀ (c : Fin 8) (t : Fin k0_t1_loop.trips) (u : Fin 8),
    (rowW c t u).toNat = 128 * c.val + 8 * t.val + u.val := by decide +kernel

theorem h0W_row : ∀ (d : Dev nD) (r : Fin 1024), (Scalar.indexCast (Scalar.addi (h0W d) (BitVec.ofNat 32 r.val))).toNat
    = 1024 * (d.val / 4) + r.val := by decide +kernel

theorem row_lt (c : Fin 8) (t : Fin k0_t1_loop.trips) (u : Fin 8) : 128 * c.val + 8 * t.val + u.val < 1024 := by
  have := t.isLt.trans_eq trips_eq; omega

theorem idOff_eq (d : Dev nD) (c : Fin 8) (t : Fin k0_t1_loop.trips) (u : Fin 8) :
    idOff d c t u = ![1024 * (d.val / 4) + (128 * c.val + 8 * t.val + u.val)] := by
  have h := h0W_row d ⟨_, row_lt c t u⟩
  have e : BitVec.ofNat 32 (128 * c.val + 8 * t.val + u.val) = rowW c t u := by
    rw [← rowW_toNat, BitVec.ofNat_toNat, BitVec.setWidth_eq]
  dsimp only at h
  rw [e] at h
  unfold idOff
  rw [h]

theorem idOff_inb (d : Dev nD) (c : Fin 8) (t : Fin k0_t1_loop.trips) (u : Fin 8) : ∀ a, idOff d c t u a + S1.size a ≤ S2048.size a := by
  intro a; rw [idOff_eq]
  have := row_lt c t u; have := d.isLt
  fin_cases a
  simp [nD, S1, S2048] at *; omega

theorem gatOff_eq (c : Fin 8) (t : Fin k0_t1_loop.trips) (u : Fin 8) : gatOff c t u = ![128 * c.val + 8 * t.val + u.val, 0] := by
  unfold gatOff; rw [rowW_toNat]

theorem gatOff_inb (c : Fin 8) (t : Fin k0_t1_loop.trips) (u : Fin 8) : ∀ a, gatOff c t u a + S1x1024.size a ≤ S1024x1024.size a := by
  intro a; rw [gatOff_eq]
  have := row_lt c t u
  fin_cases a <;> simp [S1x1024, S1024x1024] <;> omega

theorem chOff_inb : ∀ (c : Fin 8) a, chOff c a + S128x1024.size a ≤ S1024x1024.size a := by decide +kernel
theorem semOff_inb : ∀ (c : Fin 8) a, (![c.val] : Fin 1 → Nat) a + S1.size a ≤ S8.size a := by decide +kernel
theorem colOff_inb (d : Dev nD) (c : Fin 8) : ∀ a, k0_off50 d (cw c) a + S128x1.size a ≤ S2048x1.size a := k0_off50_inb d c
theorem lowOff_inb (d : Dev nD) (c : Fin 8) : ∀ a, k0_off202 d (cw c) a + S128x1024.size a ≤ S2048x1024.size a := k0_off202_inb d c
theorem highOff_inb (d : Dev nD) (c : Fin 8) : ∀ a, k0_off203 d (cw c) a + S128x1024.size a ≤ S2048x1024.size a := k0_off203_inb d c

/-- A chunk of a buffer of 1024 rows, as a rectangle. -/
abbrev chR (c : Fin 8) : Rect S1024x1024 := Rect.unit (s := S1024x1024) (chOff c) S128x1024.size (chOff_inb c)

theorem ch_words : ∀ c : Fin 8, (chR c).WholeWords (EltTy.packing .bf16)
  | 0 => wordsbf16_S1024x1024_S128x1024_0_0 | 1 => wordsbf16_S1024x1024_S128x1024_128_0
  | 2 => wordsbf16_S1024x1024_S128x1024_256_0 | 3 => wordsbf16_S1024x1024_S128x1024_384_0
  | 4 => wordsbf16_S1024x1024_S128x1024_512_0 | 5 => wordsbf16_S1024x1024_S128x1024_640_0
  | 6 => wordsbf16_S1024x1024_S128x1024_768_0 | 7 => wordsbf16_S1024x1024_S128x1024_896_0
theorem ch_packed : ∀ c : Fin 8, (chR c).PackedRows (EltTy.packing .bf16)
  | 0 => packedbf16_S1024x1024_S128x1024_0_0 | 1 => packedbf16_S1024x1024_S128x1024_128_0
  | 2 => packedbf16_S1024x1024_S128x1024_256_0 | 3 => packedbf16_S1024x1024_S128x1024_384_0
  | 4 => packedbf16_S1024x1024_S128x1024_512_0 | 5 => packedbf16_S1024x1024_S128x1024_640_0
  | 6 => packedbf16_S1024x1024_S128x1024_768_0 | 7 => packedbf16_S1024x1024_S128x1024_896_0

/-- A chunk of a memref of 1024 rows. -/
abbrev ch {e : EltTy} (m : Memref sig .tc .vmem S1024x1024 e) (c : Fin 8) : Memref sig .tc .vmem S128x1024 e :=
  m.slice (chR c) (fun _ => rfl)

/-- Semaphore `c` of an array of eight. -/
abbrev semAt (a : DmaSems sig S8) (c : Fin 8) : DmaSem sig :=
  ((a.slice (Rect.unit (s := S8) ![c.val] S1.size (semOff_inb c))).squeeze S_ squeezes_S1_S_).sem

/-- The semaphore that counts chunk `c`'s row copies, -/
abbrev gs (c : Fin 8) : DmaSem sig := semAt cc0_scratch5 c
/-- its send to the z neighbour, -/
abbrev zs (c : Fin 8) : DmaSem sig := semAt cc0_scratch6 c
/-- its arrival from there, -/
abbrev zr (c : Fin 8) : DmaSem sig := semAt cc0_scratch7 c
/-- its send to the x neighbour, -/
abbrev xs (c : Fin 8) : DmaSem sig := semAt cc0_scratch8 c
/-- its arrival from there. -/
abbrev xr (c : Fin 8) : DmaSem sig := semAt cc0_scratch9 c

/-- The barrier's semaphore. -/
abbrev bs : Sem sig := (SemArray.scalar (sig.barrier 0 rfl) : Sems sig S_).sem

/-- The neighbour along z, -/
abbrev pz (d : Dev nD) : Dev nD := ⟨k0_dev1 d, k0_dev1_lt d⟩
/-- the neighbour along x. -/
abbrev px (d : Dev nD) : Dev nD := ⟨k0_dev2 d, k0_dev2_lt d⟩

/-! ## The phases -/

/-- Eight steps in order, then `k`. -/
def eight {α : Type*} (f : Fin 8 → α → α) (k : α) : α := f 0 (f 1 (f 2 (f 3 (f 4 (f 5 (f 6 (f 7 k)))))))

/-- Read one row number and start the copy of that row of the table. -/
def issueRow (d : Dev nD) (c : Fin 8) (t : Fin k0_t1_loop.trips) (u : Fin 8) (k : P F) : P F :=
  .op (.load mIds (Rect.unit (s := S2048) (idOff d c t u) S1.size (idOff_inb d c t u)).toLoadRect
      (View.loadsAt_rect (View.loads_smem_one rfl numel1_S1))) fun f =>
  .op (.assume (k0_chk1 d (f (Shape.Idx.first (numel1_S1.symm ▸ Nat.one_pos)))) (k0_chk1.dec d _)) fun hw =>
  .op (.enqueueDma (mTab.slice (Rect.unit (s := S16384x1024) (k0_off3 d (f (Shape.Idx.first (numel1_S1.symm ▸ Nat.one_pos)))) S1x1024.size (k0_off3_inb d _ hw.down)) (fun _ => rfl))
      (.here (mGat.slice (Rect.unit (s := S1024x1024) (gatOff c t u) S1x1024.size (gatOff_inb c t u)) (fun _ => rfl)))
      (.dma (gs c)) (View.wordExact_bits rfl) (View.wordExact_bits rfl) ⟨Or.inl rfl, trivial⟩) fun _ => k

/-- One trip of the issuing loop. -/
def issueTrip (d : Dev nD) (c : Fin 8) : Fin k0_t1_loop.trips → Unit → P F :=
  fun t _ => eight (issueRow d c t) (Prog.ret ⟨⟩)

/-- Start the 128 row copies of chunk `c`. -/
def issue (d : Dev nD) (c : Fin 8) (k : P F) : P F :=
  (Scf.Loop.for k0_t1_loop k0_t1_ok ⟨⟩ (issueTrip d c)) >>= fun _ => k

/-- Wait for one row copy. -/
def waitRow (c : Fin 8) (t : Fin k0_t1_loop.trips) (u : Fin 8) (k : P F) : P F :=
  .op (.waitDma2 (gs c) (mTab.slice (Rect.unit (s := S16384x1024) ![0, 0] S1x1024.size inb_S16384x1024_S1x1024_0_0) (fun _ => rfl))
      (mGat.slice (Rect.unit (s := S1024x1024) (gatOff c t u) S1x1024.size (gatOff_inb c t u)) (fun _ => rfl))
      (View.wordExact_bits rfl) (View.wordExact_bits rfl)) fun _ => k

/-- One trip of the waiting loop. -/
def waitTrip (c : Fin 8) : Fin k0_t1_loop.trips → Unit → P F := fun t _ => eight (waitRow c t) (Prog.ret ⟨⟩)

/-- Wait for the 128 row copies of chunk `c`. -/
def await (c : Fin 8) (k : P F) : P F := (Scf.Loop.for k0_t1_loop k0_t1_ok ⟨⟩ (waitTrip c)) >>= fun _ => k

/-- Load a chunk. -/
def loadCh {e : EltTy} (m : Memref sig .tc .vmem S1024x1024 e) (c : Fin 8) (k : Vec F S128x1024 e → P F) : P F :=
  .op (.load m (chR c).toLoadRect (View.loadsAt_vmem h_S128x1024)) k

/-- Mask a chunk of gathered rows, narrow it, and send it to the z neighbour. -/
def zStep (d : Dev nD) (c : Fin 8) (k : P F) : P F :=
  .op (.load mCol (Rect.unit (s := S2048x1) (k0_off50 d (cw c)) S128x1.size (colOff_inb d c)).toLoadRect (View.loadsAt_vmem h_S128x1)) fun v =>
  loadCh mGat c fun g => loadCh mZs c fun _ =>
  .op (.store mZs (chR c) (k0_pay1 (v0W d) v g) Finset.univ
      (View.stores_vmem h_S128x1024 ((Memref.isWhole_whole cc0_scratch1).storeExact_slice rfl _ (ch_packed c)) (fun _ => rfl)) (.inl rfl)) fun _ =>
  .op (.enqueueDma (ch mZs c) (.remote (Dev.tc (pz d)) (ch mZr c) (.dma (zs c))) (.dma (zr c))
      ((Memref.isWhole_whole cc0_scratch1).wordExact_slice rfl _ (ch_words c)) ((Memref.isWhole_whole cc0_scratch2).wordExact_slice rfl _ (ch_words c))
      ⟨⟨rfl, Or.inl rfl⟩, trivial⟩) fun _ => k

/-- Add the z neighbour's chunk, store the sum in the device's half of the output, narrow it and send it to the x neighbour. -/
def redStep (d : Dev nD) (c : Fin 8) (k : P F) : P F :=
  .op (.waitDma2 (zr c) (ch mZs c) (ch mZr c)
      ((Memref.isWhole_whole cc0_scratch1).wordExact_slice rfl _ (ch_words c)) ((Memref.isWhole_whole cc0_scratch2).wordExact_slice rfl _ (ch_words c))) fun _ =>
  loadCh mZs c fun a => loadCh mZr c fun b =>
  .op (.load mOut (Rect.unit (s := S2048x1024) (k0_off202 d (cw c)) S128x1024.size (lowOff_inb d c)).toLoadRect (View.loadsAt_vmem h_S128x1024)) fun _ =>
  .op (.store mOut (Rect.unit (s := S2048x1024) (k0_off202 d (cw c)) S128x1024.size (lowOff_inb d c)) (k0_pay9 a b) Finset.univ
      (View.stores_vmem_bits_univ h_S128x1024 rfl) (.inl rfl)) fun _ =>
  loadCh mXs c fun _ =>
  .op (.store mXs (chR c) (k0_pay11 (k0_pay10 a b)) Finset.univ
      (View.stores_vmem h_S128x1024 ((Memref.isWhole_whole cc0_scratch3).storeExact_slice rfl _ (ch_packed c)) (fun _ => rfl)) (.inl rfl)) fun _ =>
  .op (.enqueueDma (ch mXs c) (.remote (Dev.tc (px d)) (ch mXr c) (.dma (xs c))) (.dma (xr c))
      ((Memref.isWhole_whole cc0_scratch3).wordExact_slice rfl _ (ch_words c)) ((Memref.isWhole_whole cc0_scratch4).wordExact_slice rfl _ (ch_words c))
      ⟨⟨rfl, Or.inl rfl⟩, trivial⟩) fun _ => k

/-- Keep what the x neighbour sent in the other half of the output. -/
def outStep (d : Dev nD) (c : Fin 8) (k : P F) : P F :=
  .op (.waitDma2 (xr c) (ch mXs c) (ch mXr c)
      ((Memref.isWhole_whole cc0_scratch3).wordExact_slice rfl _ (ch_words c)) ((Memref.isWhole_whole cc0_scratch4).wordExact_slice rfl _ (ch_words c))) fun _ =>
  loadCh mXr c fun b =>
  .op (.load mOut (Rect.unit (s := S2048x1024) (k0_off203 d (cw c)) S128x1024.size (highOff_inb d c)).toLoadRect (View.loadsAt_vmem h_S128x1024)) fun _ =>
  .op (.store mOut (Rect.unit (s := S2048x1024) (k0_off203 d (cw c)) S128x1024.size (highOff_inb d c)) (k0_pay27 b) Finset.univ
      (View.stores_vmem_bits_univ h_S128x1024 rfl) (.inl rfl)) fun _ => k

/-- Wait for chunk `c`'s two sends. -/
def drainStep (c : Fin 8) (k : P F) : P F :=
  .op (.waitDma2 (zs c) (ch mZr c) (ch mZs c)
      ((Memref.isWhole_whole cc0_scratch2).wordExact_slice rfl _ (ch_words c)) ((Memref.isWhole_whole cc0_scratch1).wordExact_slice rfl _ (ch_words c))) fun _ =>
  .op (.waitDma2 (xs c) (ch mXr c) (ch mXs c)
      ((Memref.isWhole_whole cc0_scratch4).wordExact_slice rfl _ (ch_words c)) ((Memref.isWhole_whole cc0_scratch3).wordExact_slice rfl _ (ch_words c))) fun _ => k

/-- One chunk of the first stretch: the next chunk's copies are started before this chunk's are waited for. -/
def gatherStep (d : Dev nD) (c : Fin 8) (k : P F) : P F :=
  if h : c.val + 1 < 8 then issue d ⟨c.val + 1, h⟩ (await c (zStep d c k)) else await c (zStep d c k)

/-- The body after the barrier. -/
def main₁ (d : Dev nD) : P F :=
  issue d 0 (eight (gatherStep d) (eight (redStep d) (eight (outStep d) (eight drainStep (Prog.ret ⟨⟩)))))

/-- The whole body: tell both neighbours that this device is in the kernel, wait for both to say so, then the rest. -/
def body : P F :=
  .op .deviceId fun d =>
  semSignalWord (pz d) bs 1#32 >>= fun _ =>
  semSignalWord (px d) bs 1#32 >>= fun _ =>
  semWaitWord bs 2#32 >>= fun _ => main₁ d

end Cert.KernelIdeal.Lookup

end
-- ==== Proof.KernelIdeal.Values.lean ====
/-
  What each buffer holds, as a function of what all devices were given. `gat` is what a device gathers, `zsd` what it
  sends to its z neighbour, `xsd` what it sends to its x neighbour, `outv` its output; what arrives is what the
  neighbour sent. Each is a function on the whole buffer, so that a piece of a buffer is a set of its indices at that one
  function, and pieces join without a word about contents.
-/
module

public import proofs.«01_k».proof.Proof.KernelIdeal.Text
public import Idealize.ShloMosaic.Lib.Pipeline.ValueKit.Geometry
public import Idealize.ShloMosaic.Lib.WordArith

@[expose] public section

set_option maxRecDepth 16384

noncomputable section

namespace Cert.KernelIdeal.Lookup

open Idealize.ShloMosaic Idealize.ShloMosaic.TcCoe Idealize.SL.Sem
open Cert.KernelIdeal.Gen
open Idealize.ShloMosaic.WordArith

variable {F : FTy → Type} [FloatOps F]

/-! ## Rows of a matrix -/

/-- The shape of a matrix. -/
abbrev Sh (n m : ℕ) : Shape := ⟨2, ![n, m]⟩

/-- The index at row `i`, column `j`. -/
def ix2 {n m : ℕ} (i : Fin n) (j : Fin m) : (Sh n m).Idx := fun | 0 => i | 1 => j

/-- The rows from `a` up to `b`. -/
def rows (n m a b : ℕ) : Finset (Sh n m).Idx := Finset.univ.filter fun x => a ≤ (x 0).val ∧ (x 0).val < b

theorem mem_rows {n m a b : ℕ} {x : (Sh n m).Idx} : x ∈ rows n m a b ↔ a ≤ (x 0).val ∧ (x 0).val < b := by
  unfold rows; rw [Finset.mem_filter]; exact and_iff_right (Finset.mem_univ x)

/-- All rows are all indices. -/
theorem rows_all (n m : ℕ) : rows n m 0 n = Finset.univ := by
  ext x; rw [mem_rows]; exact iff_of_true ⟨Nat.zero_le _, (x 0).isLt⟩ (Finset.mem_univ x)

/-- `w * k` rows are `k` bands of `w` rows. -/
theorem rows_bands (n m a w k : ℕ) :
    rows n m a (a + w * k) = (Finset.univ : Finset (Fin k)).biUnion fun i => rows n m (a + w * i.val) (a + w * i.val + w) := by
  ext x
  rw [mem_rows, Finset.mem_biUnion]
  constructor
  · rintro ⟨h₁, h₂⟩
    have hw : 0 < w := by rcases Nat.eq_zero_or_pos w with rfl | h; · omega
                          exact h
    have hq : ((x 0).val - a) / w < k := Nat.div_lt_of_lt_mul (by omega)
    refine ⟨⟨((x 0).val - a) / w, hq⟩, Finset.mem_univ _, mem_rows.mpr ?_⟩
    have := Nat.div_add_mod ((x 0).val - a) w
    have := Nat.mod_lt ((x 0).val - a) hw
    dsimp only
    omega
  · rintro ⟨i, -, h⟩
    have h := mem_rows.mp h
    have : w * (i.val + 1) ≤ w * k := Nat.mul_le_mul_left _ i.isLt
    rw [Nat.mul_succ] at this
    omega

/-- Two bands have no row in common. -/
theorem rows_apart (n m a w k : ℕ) (i j : Fin k) (h : i ≠ j) :
    Disjoint (rows n m (a + w * i.val) (a + w * i.val + w)) (rows n m (a + w * j.val) (a + w * j.val + w)) := by
  rw [Finset.disjoint_left]
  intro x hi hj
  have hi := mem_rows.mp hi
  have hj := mem_rows.mp hj
  rcases Nat.lt_or_gt_of_ne (fun e => h (Fin.ext e)) with h | h
  · have := Nat.mul_le_mul_left w (show i.val + 1 ≤ j.val from h); rw [Nat.mul_succ] at this; omega
  · have := Nat.mul_le_mul_left w (show j.val + 1 ≤ i.val from h); rw [Nat.mul_succ] at this; omega

/-- A band of whole rows, as a rectangle, is that band. -/
theorem rect_rows {n m h o : ℕ} {off : Fin 2 → ℕ} (e : off = ![o, 0]) (inb : ∀ a, off a + (![h, m] : Fin 2 → ℕ) a ≤ (Sh n m).size a) :
    (Rect.unit (s := Sh n m) off ![h, m] inb).set = rows n m o (o + h) := by
  subst e
  ext x
  rw [Rect.mem_set_unit, mem_rows]
  constructor
  · intro hx; exact hx 0
  · intro hx a
    fin_cases a
    · exact hx
    · exact ⟨Nat.zero_le _, (Nat.zero_add m).symm ▸ (x 1).isLt⟩

/-- Where an index of a band of whole rows lies. -/
theorem rect_rows_emb {n m h o : ℕ} {off : Fin 2 → ℕ} (e : off = ![o, 0]) (inb : ∀ a, off a + (![h, m] : Fin 2 → ℕ) a ≤ (Sh n m).size a)
    (x : (Sh h m).Idx) (hx : o + (x 0).val < n) : (Rect.unit (s := Sh n m) off ![h, m] inb).emb x = ix2 ⟨o + (x 0).val, hx⟩ (x 1) := by
  subst e
  funext a
  fin_cases a
  · exact Fin.ext (ValueKit.rect_emb_unit_val (s := Sh n m) ![o, 0] ![h, m] inb x 0)
  · exact Fin.ext ((ValueKit.rect_emb_unit_val (s := Sh n m) ![o, 0] ![h, m] inb x 1).trans (Nat.zero_add _))

/-! ## Chunks of a buffer of 1024 rows -/

/-- Chunk `c` of a buffer of 1024 rows. -/
abbrev chunk (c : Fin 8) : Finset S1024x1024.Idx := rows 1024 1024 (0 + 128 * c.val) (0 + 128 * c.val + 128)

theorem chR_set (c : Fin 8) : (chR c).set = chunk c := by
  rw [show chunk c = rows 1024 1024 (128 * c.val) (128 * c.val + 128) by unfold chunk; rw [Nat.zero_add]]
  exact rect_rows rfl (chOff_inb c)

/-- What a chunk of a buffer holds. -/
def blk {α : Type} (f : S1024x1024.Idx → α) (c : Fin 8) : S128x1024.Idx → α := fun x => f ((chR c).emb x)

/-- The buffer that holds the given eight chunks. -/
def cat {α : Type} (g : Fin 8 → S128x1024.Idx → α) : S1024x1024.Idx → α := fun y =>
  g ⟨(y 0).val / 128, Nat.div_lt_of_lt_mul (y 0).isLt⟩ (ix2 ⟨(y 0).val % 128, Nat.mod_lt _ (by decide)⟩ (y 1))

theorem chR_emb (c : Fin 8) (x : S128x1024.Idx) :
    (chR c).emb x = ix2 ⟨128 * c.val + (x 0).val, by have := (x 0).isLt; have := c.isLt; simp [S128x1024] at *; omega⟩ (x 1) :=
  rect_rows_emb rfl (chOff_inb c) x _

theorem ix2_eta {n m : ℕ} (x : (Sh n m).Idx) : ix2 (x 0) (x 1) = x := by
  funext a; fin_cases a <;> rfl

theorem blk_cat {α : Type} (g : Fin 8 → S128x1024.Idx → α) (c : Fin 8) : blk (cat g) c = g c := by
  funext x
  have hx : (x 0).val < 128 := (x 0).isLt
  have h₁ : (128 * c.val + (x 0).val) / 128 = c.val := by omega
  have h₂ : (128 * c.val + (x 0).val) % 128 = (x 0).val := by omega
  unfold blk cat
  rw [chR_emb]
  refine congr (congrArg g (Fin.ext h₁)) ?_
  refine Eq.trans ?_ (ix2_eta x)
  exact congrArg (fun i => ix2 i (x 1)) (Fin.ext h₂)

/-! ## What a device is given, and what its buffers come to hold -/

/-- What one device is given: the row numbers, the same as a column, its half of the table. -/
structure Given (F : FTy → Type) where
  ids : S2048.Idx → Elt F .i32
  col : S2048x1.Idx → Elt F .i32
  tab : S16384x1024.Idx → Elt F .f32

/-- The row of the table that is copied for a row number: within the table whatever the number. -/
theorem srcRow_lt (d : Dev nD) (v : BitVec 32) : k0_off3 d v 0 < 16384 := by
  show (Scalar.minsi 16383#32 (Scalar.maxsi 0#32 (Scalar.subi v (v0W d)))).toNat < 16384
  have h := two_mul_toNat_maxsi_zero_lt (Scalar.subi v (v0W d))
  have := toNat_minsi_of_lt 16383#32 (Scalar.maxsi 0#32 (Scalar.subi v (v0W d))) (by decide) (by omega)
  have e : (16383#32 : BitVec 32).toNat = 16383 := by decide
  rw [e] at this
  show (IntOp.minsi 16383#32 (Scalar.maxsi 0#32 (Scalar.subi v (v0W d)))).toNat < 16384
  omega

theorem off3_eq (d : Dev nD) (v : BitVec 32) : k0_off3 d v = ![k0_off3 d v 0, 0] := by
  funext a; fin_cases a <;> rfl

/-- The body's side condition on a row number holds of every row number. -/
theorem chk1 (d : Dev nD) (v : BitVec 32) : k0_chk1 d v := by
  intro a
  rw [off3_eq]
  have := srcRow_lt d v
  fin_cases a
  · show k0_off3 d v 0 + 1 ≤ 16384; omega
  · show 0 + 1024 ≤ 1024; omega

/-- The half of the ids that device `d` looks up starts here. -/
theorem half_lt (d : Dev nD) {r : ℕ} (h : r < 1024) : 1024 * (d.val / 4) + r < 2048 := by
  have := d.isLt; simp only [nD] at this; omega

/-- Row `r` of the device's half of the ids. -/
def idAt (d : Dev nD) (X : Given F) (r : Fin 1024) : BitVec 32 :=
  X.ids (fun | 0 => ⟨1024 * (d.val / 4) + r.val, half_lt d r.isLt⟩)

/-- What the gather leaves: row `r` is the table's row for the device's `r`th row number. -/
def gat (d : Dev nD) (X : Given F) : S1024x1024.Idx → Elt F .f32 := fun y =>
  X.tab (ix2 ⟨k0_off3 d (idAt d X (y 0)) 0, srcRow_lt d _⟩ (y 1))

/-- The rectangle of the column of ids that chunk `c` reads. -/
abbrev colR (d : Dev nD) (c : Fin 8) : Rect S2048x1 := Rect.unit (s := S2048x1) (k0_off50 d (cw c)) S128x1.size (colOff_inb d c)
/-- The rectangles of the output that chunk `c` is stored in: in the device's own half, -/
abbrev lowR (d : Dev nD) (c : Fin 8) : Rect S2048x1024 := Rect.unit (s := S2048x1024) (k0_off202 d (cw c)) S128x1024.size (lowOff_inb d c)
/-- and in the other half. -/
abbrev highR (d : Dev nD) (c : Fin 8) : Rect S2048x1024 := Rect.unit (s := S2048x1024) (k0_off203 d (cw c)) S128x1024.size (highOff_inb d c)

/-- What a device sends to its z neighbour: its gathered rows, those outside its half of the table zeroed. -/
def zsd (d : Dev nD) (X : Given F) : S1024x1024.Idx → Elt F .bf16 :=
  cat fun c => k0_pay1 (v0W d) (fun x => X.col ((colR d c).emb x)) (blk (gat d X) c)

variable (A : Dev nD → Given F)

/-- What a device sends to its x neighbour: its half of the lookup, complete. -/
def xsd (d : Dev nD) : S1024x1024.Idx → Elt F .bf16 :=
  cat fun c => k0_pay11 (k0_pay10 (blk (zsd d (A d)) c) (blk (zsd (pz d) (A (pz d))) c))

/-- The output at row `i`, column `j`: the device's own half, and the half its x neighbour sent. -/
def outAt (d : Dev nD) (i : Fin 2048) (j : Fin 1024) : Elt F .f32 :=
  let c : Fin 8 := ⟨i.val % 1024 / 128, Nat.div_lt_of_lt_mul (Nat.mod_lt _ (by decide))⟩
  let x : S128x1024.Idx := ix2 (n := 128) (m := 1024) ⟨i.val % 1024 % 128, Nat.mod_lt _ (by decide)⟩ j
  if i.val / 1024 = d.val / 4 then k0_pay9 (blk (zsd d (A d)) c) (blk (zsd (pz d) (A (pz d))) c) x
  else k0_pay27 (blk (xsd A (px d)) c) x

/-- The output. -/
def outv (d : Dev nD) : S2048x1024.Idx → Elt F .f32 := fun y => outAt A d (y 0) (y 1)

theorem off202_eq : ∀ (d : Dev nD) (c : Fin 8), k0_off202 d (cw c) = ![1024 * (d.val / 4) + 128 * c.val, 0] := by decide +kernel
theorem off203_eq : ∀ (d : Dev nD) (c : Fin 8), k0_off203 d (cw c) = ![1024 * (1 - d.val / 4) + 128 * c.val, 0] := by decide +kernel
theorem off50_eq : ∀ (d : Dev nD) (c : Fin 8), k0_off50 d (cw c) = ![1024 * (d.val / 4) + 128 * c.val, 0] := by decide +kernel

/-- Sixteen bands of 128 rows make the output; this is band `k`. -/
abbrev band (k : Fin 16) : Finset S2048x1024.Idx := rows 2048 1024 (0 + 128 * k.val) (0 + 128 * k.val + 128)

/-- The band of the output that chunk `c` of the device's own half is, -/
def lowB (d : Dev nD) (c : Fin 8) : Fin 16 := ⟨8 * (d.val / 4) + c.val, by have := d.isLt; simp only [nD] at this; omega⟩
/-- and that chunk `c` of the other half is. -/
def highB (d : Dev nD) (c : Fin 8) : Fin 16 := ⟨8 * (1 - d.val / 4) + c.val, by have := d.isLt; simp only [nD] at this; omega⟩

theorem lowR_set (d : Dev nD) (c : Fin 8) : (lowR d c).set = band (lowB d c) := by
  refine (rect_rows (off202_eq d c) (lowOff_inb d c)).trans ?_
  unfold band lowB; congr 1 <;> dsimp only <;> omega
theorem highR_set (d : Dev nD) (c : Fin 8) : (highR d c).set = band (highB d c) := by
  refine (rect_rows (off203_eq d c) (highOff_inb d c)).trans ?_
  unfold band highB; congr 1 <;> dsimp only <;> omega

theorem ix2_congr {n m : ℕ} {i i' : Fin n} (j : Fin m) (h : i.val = i'.val) : ix2 i j = ix2 i' j := by rw [Fin.ext h]

theorem outAt_of (d : Dev nD) (c : Fin 8) (x : S128x1024.Idx) {h : ℕ} {i : Fin 2048} {j : Fin 1024}
    (hi : i.val = 1024 * h + 128 * c.val + (x 0).val) (hj : j = x 1) : outAt A d i j
      = if h = d.val / 4 then k0_pay9 (blk (zsd d (A d)) c) (blk (zsd (pz d) (A (pz d))) c) x else k0_pay27 (blk (xsd A (px d)) c) x := by
  have hx : (x 0).val < 128 := (x 0).isLt
  have hh : i.val / 1024 = h := by omega
  have hc : (⟨i.val % 1024 / 128, Nat.div_lt_of_lt_mul (Nat.mod_lt _ (by decide))⟩ : Fin 8) = c := Fin.ext (by dsimp only; omega)
  have he : (ix2 (n := 128) (m := 1024) ⟨i.val % 1024 % 128, Nat.mod_lt _ (by decide)⟩ j) = x :=
    (ix2_congr _ (show i.val % 1024 % 128 = (x 0).val by omega)).trans ((congrArg (ix2 (x 0)) hj).trans (ix2_eta x))
  unfold outAt
  dsimp only
  rw [hh, hc, he]

/-- Read through a chunk of the own half, the output is the sum. -/
theorem outv_low (d : Dev nD) (c : Fin 8) (x : S128x1024.Idx) :
    outv A d ((lowR d c).emb x) = k0_pay9 (blk (zsd d (A d)) c) (blk (zsd (pz d) (A (pz d))) c) x := by
  have hx : (x 0).val < 128 := (x 0).isLt
  have hd := d.isLt
  simp only [nD] at hd
  have e := rect_rows_emb (off202_eq d c) (lowOff_inb d c) x (by omega)
  exact (outAt_of A d c x (congrArg Fin.val (congrFun e 0)) (congrFun e 1)).trans (if_pos rfl)

/-- Read through a chunk of the other half, it is what the x neighbour sent. -/
theorem outv_high (d : Dev nD) (c : Fin 8) (x : S128x1024.Idx) :
    outv A d ((highR d c).emb x) = k0_pay27 (blk (xsd A (px d)) c) x := by
  have hx : (x 0).val < 128 := (x 0).isLt
  have hd := d.isLt
  simp only [nD] at hd
  have e := rect_rows_emb (off203_eq d c) (highOff_inb d c) x (by omega)
  exact (outAt_of A d c x (congrArg Fin.val (congrFun e 0)) (congrFun e 1)).trans (if_neg (by omega))

/-- Read through a chunk, what goes to the z neighbour is the chunk's own payload, -/
theorem blk_zsd (d : Dev nD) (X : Given F) (c : Fin 8) :
    blk (zsd d X) c = k0_pay1 (v0W d) (fun x => X.col ((colR d c).emb x)) (blk (gat d X) c) := by unfold zsd; rw [blk_cat]
/-- and so is what goes to the x neighbour. -/
theorem blk_xsd (d : Dev nD) (c : Fin 8) :
    blk (xsd A d) c = k0_pay11 (k0_pay10 (blk (zsd d (A d)) c) (blk (zsd (pz d) (A (pz d))) c)) := by unfold xsd; rw [blk_cat]

end Cert.KernelIdeal.Lookup

end
-- ==== Proof.KernelIdeal.State.lean ====
/-
  The protocol of the kernel: which semaphore carries what. A device tells its two neighbours through the barrier that it
  is in the kernel, and with that lends them the two buffers they write into. Then a chunk's arrival carries the
  neighbour's chunk, and the end of a chunk's send carries back the share of the chunk that was lent to it.
-/
module

public import proofs.«01_k».proof.Proof.KernelIdeal.Values
public import Idealize.ShloMosaic.Lib.StableHlo
public import Idealize.ShloMosaic.Lib.Tactic
public import Idealize.ShloMosaic.Lib.Batch
public import Idealize.ShloMosaic.Lib.Pipeline.RegionTalk

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Cert.KernelIdeal.Gen

variable {F : FTy → Type} [FloatOps F]

/-! ## The resource algebra -/

/-- The copies of the staging pipeline's rounds, of this protocol's rounds, and the counters the row copies draw on. -/
abbrev UU : Type := UR sig nD τ × (Rounds.URounds (GSem nD τ sig) Bool × Counters)

local notation "𝕄" => MT nD τ sig Unit (Elt F) ℕ UU ℕ

abbrev EP : Emb (UR sig nD τ) (MT nD τ sig Unit (Elt F) ℕ UU ℕ) := embL
abbrev ER : Emb (Rounds.URounds (GSem nD τ sig) Bool) (MT nD τ sig Unit (Elt F) ℕ UU ℕ) :=
  (Emb.inl : Emb (Rounds.URounds (GSem nD τ sig) Bool) (Rounds.URounds (GSem nD τ sig) Bool × Counters)).trans embR
abbrev EC : UEmb Counters (MT nD τ sig Unit (Elt F) ℕ UU ℕ) := countersEmb

instance ER_lands : (ER : Emb _ (MT nD τ sig Unit (Elt F) ℕ UU ℕ)).LandsIn (upEmb : UEmb _ (MT nD τ sig Unit (Elt F) ℕ UU ℕ)) := by
  unfold ER; infer_instance
instance EC_lands : (EC : UEmb _ (MT nD τ sig Unit (Elt F) ℕ UU ℕ)).LandsIn (upEmb : UEmb _ (MT nD τ sig Unit (Elt F) ℕ UU ℕ)) := by
  unfold EC; infer_instance

abbrev 𝒱₀ : Variants := Variants.none

/-- A program run on device `d`'s core to the condition `Q`. -/
abbrev WP (d : Dev nD) (k : P F) (Q : PUnit → sProp (MT nD τ sig Unit (Elt F) ℕ UU ℕ)) : sProp (MT nD τ sig Unit (Elt F) ℕ UU ℕ) :=
  wp frame (wpE (defs₀ (F := F)) 𝒱₀ (d : Thread nD τ) none) Set.univ k Q

/-! ## The cells -/

/-- Device `d`'s cell of a semaphore. -/
abbrev cell (d : Dev nD) (sm : SemLoc sig) : GSem nD τ sig := ((d : Thread nD τ), sm)

/-- What a semaphore is for: 1 row copies, 2 sends along z, 3 arrivals along z, 4 sends along x, 5 arrivals along x,
    6 the barrier, 0 none of them. -/
def role : SemLoc sig → ℕ
  | .reg s => if s = bs then 6 else 0
  | .dma s => (s.val + 5) / 8
/-- And for which chunk. -/
def num : SemLoc sig → Fin 8
  | .reg _ => 0
  | .dma s => ⟨(s.val + 5) % 8, Nat.mod_lt _ (by decide)⟩

theorem role_bs : role (.reg bs) = 6 := by decide
theorem role_gs : ∀ c : Fin 8, role (.dma (gs c)) = 1 := by decide
theorem role_zs : ∀ c : Fin 8, role (.dma (zs c)) = 2 := by decide
theorem role_zr : ∀ c : Fin 8, role (.dma (zr c)) = 3 := by decide
theorem role_xs : ∀ c : Fin 8, role (.dma (xs c)) = 4 := by decide
theorem role_xr : ∀ c : Fin 8, role (.dma (xr c)) = 5 := by decide
theorem num_zs : ∀ c : Fin 8, num (.dma (zs c)) = c := by decide
theorem num_zr : ∀ c : Fin 8, num (.dma (zr c)) = c := by decide
theorem num_xs : ∀ c : Fin 8, num (.dma (xs c)) = c := by decide
theorem num_xr : ∀ c : Fin 8, num (.dma (xr c)) = c := by decide

/-- The neighbours' neighbours. -/
theorem pz_pz : ∀ d : Dev nD, pz (pz d) = d := by decide +kernel
theorem px_px : ∀ d : Dev nD, px (px d) = d := by decide +kernel

/-- What a chunk counts for on a semaphore. -/
abbrev NB : ℕ := (ch mZs 0 : Memref sig .tc .vmem S128x1024 .bf16).view.dmaCredit
theorem NB_pos : 0 < NB := View.dmaCredit_pos _ (by decide)
/-- What a row counts for. -/
abbrev rowM (c : Fin 8) (t : Fin k0_t1_loop.trips) (u : Fin 8) : Memref sig .tc .vmem S1x1024 .f32 :=
  mGat.slice (Rect.unit (s := S1024x1024) (gatOff c t u) S1x1024.size (gatOff_inb c t u)) (fun _ => rfl)
abbrev NR : ℕ := (rowM 0 ⟨0, by decide⟩ 0).view.dmaCredit
theorem NR_pos : 0 < NR := View.dmaCredit_pos _ (by decide)

/-! ## Pieces of buffers -/

variable (A : Dev nD → Given F)

/-- The right half and the left half of full ownership. -/
abbrev qL : PosShare TreeShare := fullShare.left
abbrev qR : PosShare TreeShare := fullShare.right

abbrev zsP (d : Dev nD) (c : Fin 8) (q : PosShare TreeShare) (f : S1024x1024.Idx → Elt F .bf16) : sProp 𝕄 :=
  mZs.view.loc (d : Thread nD τ) ↦[chunk c]{q} f
abbrev zrP (d : Dev nD) (c : Fin 8) (f : S1024x1024.Idx → Elt F .bf16) : sProp 𝕄 := mZr.view.loc (d : Thread nD τ) ↦[chunk c]{fullShare} f
abbrev xsP (d : Dev nD) (c : Fin 8) (q : PosShare TreeShare) (f : S1024x1024.Idx → Elt F .bf16) : sProp 𝕄 :=
  mXs.view.loc (d : Thread nD τ) ↦[chunk c]{q} f
abbrev xrP (d : Dev nD) (c : Fin 8) (f : S1024x1024.Idx → Elt F .bf16) : sProp 𝕄 := mXr.view.loc (d : Thread nD τ) ↦[chunk c]{fullShare} f

/-! ## The schedule -/

/-- Paid to the barrier of `d`'s z neighbour: the buffer `d` lends, chunk by chunk, and that its arrivals may begin. -/
def lendZ (d : Dev nD) : sProp 𝕄 :=
  iprop((bigSep Finset.univ fun c : Fin 8 => iprop(∃ f, zrP d c f)) ∗ bigSep Finset.univ fun c : Fin 8 => reached ER (cell d (.dma (zr c))) 0)
/-- The same for the x neighbour. -/
def lendX (d : Dev nD) : sProp 𝕄 :=
  iprop((bigSep Finset.univ fun c : Fin 8 => iprop(∃ f, xrP d c f)) ∗ bigSep Finset.univ fun c : Fin 8 => reached ER (cell d (.dma (xr c))) 0)

/-- What is paid to a cell of device `d` whose semaphore has role `r`, for chunk `c`, by payer `b`. -/
def pay (d : Dev nD) (c : Fin 8) (b : Bool) : ℕ → sProp 𝕄
  | 2 => zsP d c qR (zsd d (A d))
  | 3 => zrP d c (zsd (pz d) (A (pz d)))
  | 4 => xsP d c qR (xsd A d)
  | 5 => xrP d c (xsd A (px d))
  | 6 => if b then lendX (px d) else lendZ (pz d)
  | _ => iprop(emp)

instance pay_storable (d : Dev nD) (c : Fin 8) (b : Bool) (r : ℕ) : BI.Storable (upEmb : UEmb _ 𝕄) (pay A d c b r) := by
  unfold pay lendX lendZ
  (repeat' split) <;> infer_instance

/-- One round: two payers of every barrier, one of every send and arrival cell. -/
def sch : Rounds.Schedule (GSem nD τ sig) Bool 𝕄 where
  duties g r := if r = 0 ∧ g.1.2 = .tc then (if role g.2 = 6 then {false, true} else if 2 ≤ role g.2 ∧ role g.2 ≤ 5 then {false} else ∅) else ∅
  unitless _ := False
  amount g _ _ := if role g.2 = 6 then 1 else NB
  payload g _ b := pay A g.1.1 (num g.2) b (role g.2)
  amount_pos g _ _ _ := by
    by_cases h : role g.2 = 6
    · rw [if_pos h]; exact Nat.one_pos
    · rw [if_neg h]; exact NB_pos

instance sch_storable (g : GSem nD τ sig) (r : ℕ) (b : Bool) : BI.Storable (upEmb : UEmb _ 𝕄) ((sch A).payload g r b) :=
  pay_storable A g.1.1 (num g.2) b (role g.2)

section Sched

variable (d : Dev nD) (c : Fin 8)

theorem duties_bar : (sch A).duties (cell d (.reg bs)) 0 = {false, true} := by
  dsimp only [sch]; rw [if_pos ⟨rfl, rfl⟩, if_pos role_bs]
/-- A send or arrival cell has one payer. -/
theorem duties_of {sm : SemLoc sig} (h : 2 ≤ role sm ∧ role sm ≤ 5) : (sch A).duties (cell d sm) 0 = {false} := by
  dsimp only [sch]; rw [if_pos ⟨rfl, rfl⟩, if_neg (by omega), if_pos h]
theorem duties_later (g : GSem nD τ sig) : ∀ r, 1 ≤ r → (sch A).duties g r = ∅ := fun r hr => by
  dsimp only [sch]; rw [if_neg (fun h => by omega)]

theorem amount_bar (b : Bool) : (sch A).amount (cell d (.reg bs)) 0 b = 1 := by dsimp only [sch]; exact if_pos role_bs
theorem amount_of {sm : SemLoc sig} (h : 2 ≤ role sm ∧ role sm ≤ 5) (b : Bool) : (sch A).amount (cell d sm) 0 b = NB := by
  dsimp only [sch]; exact if_neg (by omega)

theorem expect_bar : (sch A).expect (cell d (.reg bs)) 0 = 2 := by
  unfold Schedule.expect Schedule.amountOf
  rw [duties_bar, Finset.sum_pair (by decide), amount_bar, amount_bar]
theorem expect_of {sm : SemLoc sig} (h : 2 ≤ role sm ∧ role sm ≤ 5) : (sch A).expect (cell d sm) 0 = NB := by
  unfold Schedule.expect Schedule.amountOf; rw [duties_of A d h, Finset.sum_singleton, amount_of A d h]

theorem zs_mid : 2 ≤ role (.dma (zs c)) ∧ role (.dma (zs c)) ≤ 5 := by rw [role_zs]; decide
theorem zr_mid : 2 ≤ role (.dma (zr c)) ∧ role (.dma (zr c)) ≤ 5 := by rw [role_zr]; decide
theorem xs_mid : 2 ≤ role (.dma (xs c)) ∧ role (.dma (xs c)) ≤ 5 := by rw [role_xs]; decide
theorem xr_mid : 2 ≤ role (.dma (xr c)) ∧ role (.dma (xr c)) ≤ 5 := by rw [role_xr]; decide

theorem payload_barZ : (sch A).payload (cell d (.reg bs)) 0 false = lendZ (pz d) := by
  dsimp only [sch]; rw [role_bs]; rfl
theorem payload_barX : (sch A).payload (cell d (.reg bs)) 0 true = lendX (px d) := by
  dsimp only [sch]; rw [role_bs]; rfl
theorem payload_zs : (sch A).payload (cell d (.dma (zs c))) 0 false = zsP d c qR (zsd d (A d)) := by
  dsimp only [sch]; rw [role_zs, num_zs]; rfl
theorem payload_zr : (sch A).payload (cell d (.dma (zr c))) 0 false = zrP d c (zsd (pz d) (A (pz d))) := by
  dsimp only [sch]; rw [role_zr, num_zr]; rfl
theorem payload_xs : (sch A).payload (cell d (.dma (xs c))) 0 false = xsP d c qR (xsd A d) := by
  dsimp only [sch]; rw [role_xs, num_xs]; rfl
theorem payload_xr : (sch A).payload (cell d (.dma (xr c))) 0 false = xrP d c (xsd A (px d)) := by
  dsimp only [sch]; rw [role_xr, num_xr]; rfl

theorem rest_bar : bigSep ((sch A).duties (cell d (.reg bs)) 0 \ ∅) (fun b => (sch A).payload (cell d (.reg bs)) 0 b)
    = iprop(lendZ (pz d) ∗ lendX (px d)) := by
  rw [Finset.sdiff_empty, duties_bar, BI.bigSep_insert (by decide), BI.bigSep_singleton, payload_barZ, payload_barX]; rfl
theorem rest_of {sm : SemLoc sig} (h : 2 ≤ role sm ∧ role sm ≤ 5) :
    bigSep ((sch A).duties (cell d sm) 0 \ ∅) (fun b => (sch A).payload (cell d sm) 0 b) = (sch A).payload (cell d sm) 0 false := by
  rw [Finset.sdiff_empty, duties_of A d h, BI.bigSep_singleton]

end Sched

/-! ## What a device owes, and the order of the cells -/

/-- The arrivals along z it has yet to cause: from chunk `k` on; -/
def owZ (d : Dev nD) (k : ℕ) : CellTallies nD τ sig Unit := ∑ c ∈ (pending k : Finset (Fin 8)), tallyAt (cell (pz d) (.dma (zr c))) () NB
/-- and along x. -/
def owX (d : Dev nD) (k : ℕ) : CellTallies nD τ sig Unit := ∑ c ∈ (pending k : Finset (Fin 8)), tallyAt (cell (px d) (.dma (xr c))) () NB
/-- What it owes at launch: all arrivals, and a unit of each neighbour's barrier. -/
def owe₀ (d : Dev nD) : CellTallies nD τ sig Unit :=
  (owX d 0 + owZ d 0) + tallyAt (cell (px d) (.reg bs)) () 1 + tallyAt (cell (pz d) (.reg bs)) () 1

theorem owZ_step (d : Dev nD) (c : Fin 8) : owZ d c.val = owZ d (c.val + 1) + tallyAt (cell (pz d) (.dma (zr c))) () NB := by
  unfold owZ; rw [Transfers.pending_succ c.isLt, Finset.sum_insert (Transfers.not_mem_pending_succ c.isLt), add_comm]
theorem owX_step (d : Dev nD) (c : Fin 8) : owX d c.val = owX d (c.val + 1) + tallyAt (cell (px d) (.dma (xr c))) () NB := by
  unfold owX; rw [Transfers.pending_succ c.isLt, Finset.sum_insert (Transfers.not_mem_pending_succ c.isLt), add_comm]
theorem pending_eight : (pending 8 : Finset (Fin 8)) = ∅ := by decide
theorem owZ_end (d : Dev nD) : owZ d 8 = 0 := by unfold owZ; rw [pending_eight, Finset.sum_empty]
theorem owX_end (d : Dev nD) : owX d 8 = 0 := by unfold owX; rw [pending_eight, Finset.sum_empty]

def L (g : GSem nD τ sig) : Finset Unit := if g.1.2 = .tc then {()} else ∅
/-- Barriers are waited for before arrivals along z, those before arrivals along x; the rest come first. -/
def lv (g : GSem nD τ sig) (_ : Unit) : ℕ := if role g.2 = 6 then 1 else if role g.2 = 3 then 2 else if role g.2 = 5 then 3 else 0

theorem L_of_ne (g : GSem nD τ sig) (h : g.1.2 ≠ .tc) : L g = ∅ := if_neg h
theorem L_tc (d : Dev nD) (sm : SemLoc sig) : L (cell d sm) = {()} := if_pos rfl

theorem lv_bar (d : Dev nD) : lv (cell d (.reg bs)) () = 1 := by unfold lv; rw [if_pos role_bs]
theorem lv_zr (d : Dev nD) (c : Fin 8) : lv (cell d (.dma (zr c))) () = 2 := by unfold lv; simp only [role_zr]; rfl
theorem lv_xr (d : Dev nD) (c : Fin 8) : lv (cell d (.dma (xr c))) () = 3 := by unfold lv; simp only [role_xr]; rfl
theorem lv_gs (d : Dev nD) (c : Fin 8) : lv (cell d (.dma (gs c))) () = 0 := by unfold lv; simp only [role_gs]; rfl

/-- Everything owed lies above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.add_pos_iff_pos_or_pos.mp hp with hp | hp
  · exact h g u hp
  · exact h' g u hp
theorem above_tally {n N : ℕ} {d : Dev nD} {sm : SemLoc sig} (h : n < lv (cell d sm) ()) : Above n (tallyAt (cell d sm) () N) := fun g u hp => by
  rw [tallyAt_apply] at hp
  by_cases e : g = cell d sm ∧ u = ()
  · rw [e.1]; exact ⟨by rw [L_tc]; exact Finset.mem_singleton_self _, h⟩
  · rw [if_neg e] at hp; exact absurd hp (Nat.lt_irrefl 0)
theorem above_sum {n : ℕ} (s : Finset (Fin 8)) {O : Fin 8 → CellTallies nD τ sig Unit} (h : ∀ c, Above n (O c)) : Above n (∑ c ∈ s, O c) := by
  classical
  induction s using Finset.induction_on with
  | empty => rw [Finset.sum_empty]; exact above_zero n
  | insert c s hc ih => rw [Finset.sum_insert hc]; exact above_add (h c) ih

theorem above_owZ {n : ℕ} (h : n < 2) (d : Dev nD) (k : ℕ) : Above n (owZ d k) := above_sum _ fun c => above_tally (by rw [lv_zr]; exact h)
theorem above_owX {n : ℕ} (h : n < 3) (d : Dev nD) (k : ℕ) : Above n (owX d k) := above_sum _ fun c => above_tally (by rw [lv_xr]; exact h)

/-- A device may wait on a cell below everything it owes. -/
theorem mayWait (d : Dev nD) (sm : SemLoc sig) (O : CellTallies nD τ sig Unit) (h : Above (lv (cell d sm) ()) O) :
    (levAts L lv : sProp 𝕄) ⊢ MayWait (d : Thread nD τ) sm () O :=
  MayOwe.of_cut (L := L) (lev := lv) (lv (cell d sm) ()) (fun p hp => by rw [Finset.mem_singleton.mp hp, L_tc]; exact Finset.mem_singleton_self _)
    (fun g u hg => (h g u hg).1)
    (fun p hp => by rw [Finset.mem_singleton.mp hp])
    (fun g u hg => (h g u hg).2)

end Cert.KernelIdeal.Lookup

end
-- ==== Proof.KernelIdeal.Gather.lean ====
/-
  The gather of one chunk: its 128 row copies are started one after another, each reading its row number first, and then
  waited for one after another. All 128 copies count on one semaphore, so the rows are in hand only when the last wait
  is over.
-/
module

public import proofs.«01_k».proof.Proof.KernelIdeal.State

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Cert.KernelIdeal.Gen

variable {F : FTy → Type} [FloatOps F]

local notation "𝕄" => MT nD τ sig Unit (Elt F) ℕ UU ℕ

/-! ## Eight steps -/

/-- Eight steps, by an invariant. -/
theorem wp_eight (d : Dev nD) (f : Fin 8 → P F → P F) (I : ℕ → sProp 𝕄) (Q : PUnit → sProp 𝕄)
    (h : ∀ (u : Fin 8) (k : P F), iprop(I u.val ∗ (I (u.val + 1) -∗ WP d k Q)) ⊢ WP d (f u k) Q) (k : P F) :
    iprop(I 0 ∗ (I 8 -∗ WP d k Q)) ⊢ WP d (eight f k) Q := by
  have H : ∀ (u : Fin 8) (a b : ℕ) (ha : u.val = a) (hb : a + 1 = b) (k : P F), iprop(I a ∗ (I b -∗ WP d k Q)) ⊢ WP d (f u k) Q := by
    rintro u _ _ rfl rfl k; exact h u k
  unfold eight
  iintro ⟨HI, Hk⟩
  iapply (H 0 0 1 rfl rfl _); isplitl [HI]; · iexact HI
  iintro HI; iapply (H 1 1 2 rfl rfl _); isplitl [HI]; · iexact HI
  iintro HI; iapply (H 2 2 3 rfl rfl _); isplitl [HI]; · iexact HI
  iintro HI; iapply (H 3 3 4 rfl rfl _); isplitl [HI]; · iexact HI
  iintro HI; iapply (H 4 4 5 rfl rfl _); isplitl [HI]; · iexact HI
  iintro HI; iapply (H 5 5 6 rfl rfl _); isplitl [HI]; · iexact HI
  iintro HI; iapply (H 6 6 7 rfl rfl _); isplitl [HI]; · iexact HI
  iintro HI; iapply (H 7 7 8 rfl rfl _); isplitl [HI]; · iexact HI
  iexact Hk

/-- The chunks before the `k`th. -/
def before (k : ℕ) : Finset (Fin 8) := Finset.univ.filter fun c => c.val < k

theorem before_succ (c : Fin 8) : before (c.val + 1) = insert c (before c.val) := by
  ext t; simp only [before, Finset.mem_filter, Finset.mem_univ, true_and, Finset.mem_insert, Fin.ext_iff]; omega
theorem not_mem_before (c : Fin 8) : c ∉ before c.val := by simp [before]
theorem before_zero : before 0 = ∅ := by decide
theorem before_eight : before 8 = Finset.univ := by decide

theorem bigSep_before (Y : Fin 8 → sProp 𝕄) (c : Fin 8) : bigSep (before (c.val + 1)) Y = iprop(Y c ∗ bigSep (before c.val) Y) := by
  rw [before_succ, BI.bigSep_insert (not_mem_before c)]; rfl

/-- Eight steps, each taking its own resource to another, with what they share. -/
theorem wp_eight_each (d : Dev nD) (f : Fin 8 → P F → P F) (X Y : Fin 8 → sProp 𝕄) (I : ℕ → sProp 𝕄) (Q : PUnit → sProp 𝕄)
    (h : ∀ (c : Fin 8) (k : P F), iprop(X c ∗ I c.val ∗ ((Y c ∗ I (c.val + 1)) -∗ WP d k Q)) ⊢ WP d (f c k) Q) (k : P F) :
    iprop(bigSep Finset.univ X ∗ I 0 ∗ ((bigSep Finset.univ Y ∗ I 8) -∗ WP d k Q)) ⊢ WP d (eight f k) Q := by
  iintro ⟨HX, HI, Hk⟩
  iapply (wp_eight d f (fun n => iprop(bigSep (pending n) X ∗ bigSep (before n) Y ∗ I n)) Q ?_ k)
  · intro c k
    rw [Transfers.bigSep_pending_step X c.val c.isLt, bigSep_before]
    iintro ⟨⟨⟨HXc, HX⟩, HY, HI⟩, Hk⟩
    iapply (h c k)
    isplitl [HXc]; · iexact HXc
    isplitl [HI]; · iexact HI
    iintro ⟨HYc, HI⟩
    iapply Hk
    isplitl [HX]; · iexact HX
    isplitl [HYc HY]
    · isplitl [HYc]; · iexact HYc
      iexact HY
    iexact HI
  rw [Transfers.pending_zero, before_zero, before_eight, pending_eight, BI.bigSep_empty]
  isplitl [HX HI]
  · isplitl [HX]; · iexact HX
    isplitr; · iempintro
    iexact HI
  iintro ⟨-, HY, HI⟩
  iapply Hk
  isplitl [HY] <;> iassumption

/-! ## One chunk's resources -/

variable (A : Dev nD → Given F)

/-- The row numbers, in scalar memory. -/
abbrev idsP (d : Dev nD) : sProp 𝕄 := mIds.view.loc (d : Thread nD τ) ↦{fullShare} (A d).ids
/-- The table's elements `S`, at a share. -/
abbrev tabP (d : Dev nD) (S : Finset S16384x1024.Idx) (q : PosShare TreeShare) : sProp 𝕄 := mTab.view.loc (d : Thread nD τ) ↦[S]{q} (A d).tab
/-- The gather buffer's elements `S`. -/
abbrev gatP (d : Dev nD) (S : Finset S1024x1024.Idx) (f : S1024x1024.Idx → Elt F .f32) : sProp 𝕄 := mGat.view.loc (d : Thread nD τ) ↦[S]{fullShare} f

/-- The share of the table that chunk `c`'s copies read. -/
abbrev qE (c : Fin 8) : PosShare TreeShare := Transfers.shareTok fullShare 8 c
/-- Row `j` of chunk `c` of the gather buffer. -/
abbrev gRow (c : Fin 8) (j : Fin 128) : Finset S1024x1024.Idx := rows 1024 1024 (0 + 128 * c.val + 1 * j.val) (0 + 128 * c.val + 1 * j.val + 1)
/-- The row number of row `j` of chunk `c`. -/
abbrev idOf (d : Dev nD) (c : Fin 8) (j : Fin 128) : BitVec 32 := idAt d (A d) ⟨128 * c.val + j.val, by omega⟩
/-- The table's row it selects. -/
abbrev tRow (d : Dev nD) (c : Fin 8) (j : Fin 128) : Finset S16384x1024.Idx :=
  rows 16384 1024 (k0_off3 d (idOf A d c j) 0) (k0_off3 d (idOf A d c j) 0 + 1)

/-- What copy `j` of chunk `c` needs: its row of the buffer, and a share of its row of the table. -/
def copyIn (d : Dev nD) (c : Fin 8) (f : S1024x1024.Idx → Elt F .f32) (j : Fin 128) : sProp 𝕄 :=
  iprop(gatP d (gRow c j) f ∗ tabP A d (tRow A d c j) (Transfers.shareTok (qE c) 128 j))
/-- What it delivers: the row, gathered, and the share back. -/
def copyOut (d : Dev nD) (c : Fin 8) (j : Fin 128) : sProp 𝕄 := copyIn A d c (gat d (A d)) j

instance copyOut_storable (d : Dev nD) (c : Fin 8) (j : Fin 128) : BI.Storable (upEmb : UEmb _ 𝕄) (copyOut A d c j) := by
  unfold copyOut copyIn; infer_instance

/-- The parts of the table's shares that no copy of the chunk reads. -/
def spare (d : Dev nD) (c : Fin 8) : sProp 𝕄 :=
  iprop(tabP A d Finset.univ (Transfers.shareDrop (qE c) 128)
    ∗ bigSep Finset.univ fun j : Fin 128 => tabP A d (Finset.univ \ tRow A d c j) (Transfers.shareTok (qE c) 128 j))

abbrev flight (d : Dev nD) (c : Fin 8) (k u : ℕ) : sProp 𝕄 := Batch EC (d : Thread nD τ) (.dma (gs c)) () NR (copyOut A d c) k u

/-- A chunk whose copies are not started, -/
def gatPre (d : Dev nD) (c : Fin 8) : sProp 𝕄 :=
  iprop((∃ f, gatP d (chunk c) f) ∗ tabP A d Finset.univ (qE c) ∗ semVal (cell d (.dma (gs c))) 0)
/-- are all in flight, -/
def gatMid (d : Dev nD) (c : Fin 8) : sProp 𝕄 := iprop(flight A d c 128 0 ∗ spare A d c)
/-- have all landed. -/
def gatPost (d : Dev nD) (c : Fin 8) : sProp 𝕄 :=
  iprop(gatP d (chunk c) (gat d (A d)) ∗ tabP A d Finset.univ (qE c) ∗ semVal (cell d (.dma (gs c))) 0)

/-- A chunk of the gather buffer and its share of the table, as what the 128 copies need. -/
theorem chunk_copies (d : Dev nD) (c : Fin 8) (f : S1024x1024.Idx → Elt F .f32) :
    iprop(gatP d (chunk c) f ∗ tabP A d Finset.univ (qE c)) ⊣⊢ iprop(bigSep Finset.univ (copyIn A d c f) ∗ spare A d c) := by
  have e₁ : (gatP d (chunk c) f : sProp 𝕄) = bigSep Finset.univ fun j : Fin 128 => gatP d (gRow c j) f := by
    have h := rows_bands 1024 1024 (0 + 128 * c.val) 1 128
    rw [Nat.one_mul] at h
    unfold gatP chunk
    rw [h]
    exact pointsTo_biUnion _ _ fun i _ j _ hij => rows_apart 1024 1024 (0 + 128 * c.val) 1 128 i j hij
  have e₂ : (bigSep Finset.univ fun j : Fin 128 => (tabP A d Finset.univ (Transfers.shareTok (qE c) 128 j) : sProp 𝕄))
      = iprop((bigSep Finset.univ fun j : Fin 128 => tabP A d (tRow A d c j) (Transfers.shareTok (qE c) 128 j))
        ∗ bigSep Finset.univ fun j : Fin 128 => tabP A d (Finset.univ \ tRow A d c j) (Transfers.shareTok (qE c) 128 j)) := by
    refine (BI.bigSep_congr fun j _ => ?_).trans (BI.bigSep_sep _ _ _)
    have h := pointsTo_split_subset (ℓ := mTab.view.loc (d : Thread nD τ)) (f := (A d).tab) (q := Transfers.shareTok (qE c) 128 j)
      (Ix := Unit) (Name := ℕ) (U := UU) (Lvl := ℕ) (Finset.subset_univ (tRow A d c j))
    exact BI.Entails.antisymm h.1 h.2
  have e₃ : (bigSep Finset.univ (copyIn A d c f) : sProp 𝕄)
      = iprop((bigSep Finset.univ fun j : Fin 128 => gatP d (gRow c j) f)
        ∗ bigSep Finset.univ fun j : Fin 128 => tabP A d (tRow A d c j) (Transfers.shareTok (qE c) 128 j)) := BI.bigSep_sep _ _ _
  have e₄ := Transfers.pointsTo_toks (ℓ := mTab.view.loc (d : Thread nD τ)) (S := Finset.univ) (f := (A d).tab)
    (Ix := Unit) (Name := ℕ) (U := UU) (Lvl := ℕ) (qE c) 128
  rw [e₃, ← e₁]
  unfold spare
  constructor
  · iintro ⟨Hg, Ht⟩
    ihave Ht' := e₄.1 $$ Ht
    icases Ht' with ⟨Hd, Ht⟩
    ihave Ht' := (Entails.of_eq e₂) $$ Ht
    icases Ht' with ⟨Ht, Hs⟩
    isplitl [Hg Ht]
    · isplitl [Hg] <;> iassumption
    isplitl [Hd] <;> iassumption
  · iintro ⟨⟨Hg, Ht⟩, Hd, Hs⟩
    isplitl [Hg]; · iexact Hg
    iapply e₄.2
    isplitl [Hd]; · iexact Hd
    iapply (Entails.of_eq e₂.symm)
    isplitl [Ht] <;> iassumption

/-! ## Starting the copies -/

theorem idx_lt (t : Fin k0_t1_loop.trips) (u : Fin 8) : 8 * t.val + u.val < 128 := by
  have := t.isLt.trans_eq trips_eq; omega

/-- The number that the copy of trip `t`, place `u` reads. -/
theorem ids_read (d : Dev nD) (c : Fin 8) (t : Fin k0_t1_loop.trips) (u : Fin 8) (x : S1.Idx) :
    (mIds.access (Rect.unit (s := S2048) (idOff d c t u) S1.size (idOff_inb d c t u))).read (Elt F) (A d).ids x
      = idOf A d c ⟨8 * t.val + u.val, idx_lt t u⟩ := by
  show (A d).ids ((Rect.unit (s := S2048) (idOff d c t u) S1.size (idOff_inb d c t u)).emb x) = _
  unfold idOf idAt
  congr 1
  funext a
  fin_cases a
  apply Fin.ext
  have h := ValueKit.rect_emb_unit_val (s := S2048) (idOff d c t u) S1.size (idOff_inb d c t u) x 0
  have hx : (x 0).val < 1 := (x 0).isLt
  have e : idOff d c t u 0 = 1024 * (d.val / 4) + (128 * c.val + 8 * t.val + u.val) := congrFun (idOff_eq d c t u) 0
  refine h.trans ?_
  show idOff d c t u 0 + (x 0).val = 1024 * (d.val / 4) + (128 * c.val + (8 * t.val + u.val))
  omega

theorem rowM_set (c : Fin 8) (t : Fin k0_t1_loop.trips) (u : Fin 8) :
    (rowM c t u).view.set = gRow c ⟨8 * t.val + u.val, idx_lt t u⟩ := by
  refine (View.set_slice_whole _ _).trans ((rect_rows (gatOff_eq c t u) (gatOff_inb c t u)).trans ?_)
  unfold gRow; congr 1 <;> dsimp only <;> omega

/-- The row of the table that a row number selects. -/
abbrev srcM (d : Dev nD) (v : BitVec 32) (h : k0_chk1 d v) : Memref sig .tc .hbm S1x1024 .f32 :=
  mTab.slice (Rect.unit (s := S16384x1024) (k0_off3 d v) S1x1024.size (k0_off3_inb d v h)) (fun _ => rfl)

theorem srcM_set (d : Dev nD) (v : BitVec 32) (h : k0_chk1 d v) :
    (srcM d v h).view.set = rows 16384 1024 (k0_off3 d v 0) (k0_off3 d v 0 + 1) :=
  (View.set_slice_whole _ _).trans (rect_rows (off3_eq d v) (k0_off3_inb d v h))

/-- A copied row is the gathered row. -/
theorem row_value (d : Dev nD) (c : Fin 8) (t : Fin k0_t1_loop.trips) (u : Fin 8) (h : k0_chk1 d (idOf A d c ⟨8 * t.val + u.val, idx_lt t u⟩)) :
    (srcM d (idOf A d c ⟨8 * t.val + u.val, idx_lt t u⟩) h).view.read (Elt F) (A d).tab = (rowM c t u).view.read (Elt F) (gat d (A d)) := by
  funext x
  have hx : (x 0).val < 1 := (x 0).isLt
  have hr := row_lt c t u
  have hs := srcRow_lt d (idOf A d c ⟨8 * t.val + u.val, idx_lt t u⟩)
  have e₁ := rect_rows_emb (off3_eq d _) (k0_off3_inb d _ h) x (by omega)
  have e₂ := rect_rows_emb (gatOff_eq c t u) (gatOff_inb c t u) x (by omega)
  refine (congrArg (A d).tab e₁).trans ((?_ : _ = gat d (A d) _).trans (congrArg (gat d (A d)) e₂).symm)
  show _ = (A d).tab (ix2 _ _)
  refine congrArg (A d).tab (ix2_congr _ ?_)
  show k0_off3 d (idOf A d c ⟨8 * t.val + u.val, idx_lt t u⟩) 0 + (x 0).val = k0_off3 d (idAt d (A d) ⟨128 * c.val + 8 * t.val + u.val + (x 0).val, _⟩) 0
  have e : k0_off3 d (idOf A d c ⟨8 * t.val + u.val, idx_lt t u⟩) 0 = k0_off3 d (idAt d (A d) ⟨128 * c.val + 8 * t.val + u.val + (x 0).val, by omega⟩) 0 :=
    congrArg (fun r => k0_off3 d (idAt d (A d) r) 0) (Fin.ext (by dsimp only; omega))
  omega

end Cert.KernelIdeal.Lookup

end
-- ==== Proof.KernelIdeal.Issue.lean ====
/-
  The gather of one chunk, as the kernel runs it: the start of its 128 row copies and the wait for them.
-/
module

public import proofs.«01_k».proof.Proof.KernelIdeal.Gather

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Cert.KernelIdeal.Gen

variable {F : FTy → Type} [FloatOps F]

local notation "𝕄" => MT nD τ sig Unit (Elt F) ℕ UU ℕ

/-! ## Writes -/

/-- Where a written piece carries what `F'` holds there, the buffer is `F'`. -/
theorem wrote {sp : Space} {s : Shape} {e : EltTy} (d : Dev nD) (v : View sig .tc sp s e) (q : PosShare TreeShare)
    (f F' : v.ty.Contents (Elt F)) (w : s.Idx → Elt F e) (h : w = v.read (Elt F) F') :
    (v.loc (d : Thread nD τ) ↦[v.set]{q} v.write (Elt F) f w Finset.univ : sProp 𝕄) = v.loc (d : Thread nD τ) ↦[v.set]{q} F' := by
  rw [h, View.write_read_eq_piecewise]
  exact pointsTo_congr fun i hi => Finset.piecewise_eq_of_mem _ _ _ hi

theorem wrote_on {sp : Space} {s : Shape} {e : EltTy} (d : Dev nD) (v : View sig .tc sp s e) {S : Finset v.ty.shape.Idx} (hS : v.set = S) (q : PosShare TreeShare)
    (f F' : v.ty.Contents (Elt F)) (w : s.Idx → Elt F e) (h : w = v.read (Elt F) F') :
    (v.loc (d : Thread nD τ) ↦[S]{q} v.write (Elt F) f w Finset.univ : sProp 𝕄) ⊢ v.loc (d : Thread nD τ) ↦[S]{q} F' := by
  subst hS; exact Entails.of_eq (wrote d v q f F' w h)

/-- A program that is over. -/
theorem wp_done (d : Dev nD) (Q : PUnit → sProp 𝕄) : Q ⟨⟩ ⊢ WP d (Prog.ret ⟨⟩) Q := by
  unfold WP
  rw [wp_ret]
  iintro H
  imodintro
  iexact H

variable (A : Dev nD → Given F)

/-! ## Starting the copies -/

/-- Start the copy of the row that a row number selects. -/
def copyRow (d : Dev nD) (c : Fin 8) (t : Fin k0_t1_loop.trips) (u : Fin 8) (v : BitVec 32) (k : P F) : P F :=
  .op (.assume (k0_chk1 d v) (k0_chk1.dec d v)) fun hw =>
  .op (.enqueueDma (srcM d v hw.down) (.here (rowM c t u)) (.dma (gs c)) (View.wordExact_bits rfl) (View.wordExact_bits rfl) ⟨Or.inl rfl, trivial⟩) fun _ => k

theorem issueRow_eq (d : Dev nD) (c : Fin 8) (t : Fin k0_t1_loop.trips) (u : Fin 8) (k : P F) :
    issueRow d c t u k = .op (.load mIds (Rect.unit (s := S2048) (idOff d c t u) S1.size (idOff_inb d c t u)).toLoadRect
      (View.loadsAt_rect (View.loads_smem_one rfl numel1_S1))) fun f =>
        copyRow d c t u (f (Shape.Idx.first (numel1_S1.symm ▸ Nat.one_pos))) k := rfl

/-- Copy `8 t + u` goes into the air, with its row and its share. -/
theorem copyRow_spec (d : Dev nD) (c : Fin 8) (t : Fin k0_t1_loop.trips) (u : Fin 8) (f : S1024x1024.Idx → Elt F .f32) (k : P F) (Q : PUnit → sProp 𝕄) :
    iprop(copyIn A d c f ⟨8 * t.val + u.val, idx_lt t u⟩ ∗ flight A d c (8 * t.val + u.val) 0
        ∗ (flight A d c (8 * t.val + u.val + 1) 0 -∗ WP d k Q))
      ⊢ WP d (copyRow d c t u (idOf A d c ⟨8 * t.val + u.val, idx_lt t u⟩) k) Q := by
  unfold copyRow copyIn
  iintro ⟨⟨Hg, Ht⟩, Hf, Hk⟩
  iapply (wp_assume 𝒱₀ (d : Thread nD τ) none Set.univ (chk1 d _))
  have hs := srcM_set d (idOf A d c ⟨8 * t.val + u.val, idx_lt t u⟩) (chk1 d _)
  have hg := rowM_set c t u
  iapply (Transfers.wp_dmaBatch EC 𝒱₀ (d : Thread nD τ) none (src := srcM d (idOf A d c ⟨8 * t.val + u.val, idx_lt t u⟩) (chk1 d _))
    (dst := rowM c t u) (sm := .dma (gs c)) (D := copyOut A d c) (j := 8 * t.val + u.val) (u := 0) (fs := (A d).tab) (fd := f)
    (q := Transfers.shareTok (qE c) 128 ⟨8 * t.val + u.val, idx_lt t u⟩)
    () NR rfl (Finset.Subset.refl _) (idx_lt t u) (Nat.zero_le _) ?_) $$ [Hg Ht Hf]
  · unfold copyOut copyIn
    iintro ⟨Hg, Ht⟩
    isplitl [Hg]
    · iapply (Entails.of_eq (by rw [← hg]; exact wrote d (rowM c t u).view fullShare f (gat d (A d)) _ (row_value A d c t u (chk1 d _)))) $$ Hg
    · iapply (Entails.of_eq (by rw [hs])) $$ Ht
  · isplitl [Ht]; · iapply (Entails.of_eq (by rw [hs])) $$ Ht
    isplitl [Hg]; · iapply (Entails.of_eq (by rw [hg])) $$ Hg
    iexact Hf
  iexact Hk

theorem issueRow_spec (d : Dev nD) (c : Fin 8) (t : Fin k0_t1_loop.trips) (u : Fin 8) (f : S1024x1024.Idx → Elt F .f32) (k : P F) (Q : PUnit → sProp 𝕄) :
    iprop(copyIn A d c f ⟨8 * t.val + u.val, idx_lt t u⟩ ∗ flight A d c (8 * t.val + u.val) 0 ∗ idsP A d
        ∗ ((flight A d c (8 * t.val + u.val + 1) 0 ∗ idsP A d) -∗ WP d k Q))
      ⊢ WP d (issueRow d c t u k) Q := by
  rw [issueRow_eq]
  iintro ⟨Hc, Hf, Hi, Hk⟩
  iapply (wp_load_rect 𝒱₀ (d : Thread nD τ) none Set.univ (m := mIds)
    (r := Rect.unit (s := S2048) (idOff d c t u) S1.size (idOff_inb d c t u)) (S := Finset.univ) (q := fullShare) (f := (A d).ids) (Finset.subset_univ _)) $$ Hi
  iintro Hi
  rw [ids_read]
  iapply (copyRow_spec A d c t u f k Q)
  isplitl [Hc]; · iexact Hc
  isplitl [Hf]; · iexact Hf
  iintro Hf
  iapply Hk
  isplitl [Hf] <;> iassumption

/-- One trip: eight copies. -/
theorem issueTrip_spec (d : Dev nD) (c : Fin 8) (t : Fin k0_t1_loop.trips) (f : S1024x1024.Idx → Elt F .f32) :
    iprop(bigSep (pending (8 * t.val)) (copyIn A d c f) ∗ flight A d c (8 * t.val) 0 ∗ idsP A d)
      ⊢ WP d (issueTrip d c t ()) fun _ => iprop(bigSep (pending (8 * (t.val + 1))) (copyIn A d c f) ∗ flight A d c (8 * (t.val + 1)) 0 ∗ idsP A d) := by
  unfold issueTrip
  iintro H
  iapply (wp_eight d (issueRow d c t) (fun u => iprop(bigSep (pending (8 * t.val + u)) (copyIn A d c f) ∗ flight A d c (8 * t.val + u) 0 ∗ idsP A d)) _ ?_ _)
  · intro u k
    rw [Transfers.bigSep_pending_step _ _ (idx_lt t u)]
    iintro ⟨⟨⟨Hc, HC⟩, Hf, Hi⟩, Hk⟩
    iapply (issueRow_spec A d c t u f k _)
    isplitl [Hc]; · iexact Hc
    isplitl [Hf]; · iexact Hf
    isplitl [Hi]; · iexact Hi
    iintro ⟨Hf, Hi⟩
    iapply Hk
    isplitl [HC]; · iexact HC
    isplitl [Hf] <;> iassumption
  isplitl [H]; · iexact H
  iintro H
  iapply (wp_done d _)
  rw [Nat.mul_add, Nat.mul_one]
  iexact H

theorem pending_128 : (pending 128 : Finset (Fin 128)) = ∅ := Finset.filter_eq_empty_iff.mpr fun i _ => by have := i.isLt; omega

/-- A chunk's copies are all started. -/
theorem issue_spec (d : Dev nD) (c : Fin 8) (k : P F) (Q : PUnit → sProp 𝕄) :
    iprop(gatPre A d c ∗ idsP A d ∗ ((gatMid A d c ∗ idsP A d) -∗ WP d k Q)) ⊢ WP d (issue d c k) Q := by
  unfold gatPre gatMid issue
  iintro ⟨⟨⟨%f, Hg⟩, Ht, Hs⟩, Hi, Hk⟩
  imod (Transfers.batch_alloc' (Lvl := ℕ) EC (d : Thread nD τ) () NR (copyOut A d c) (sm := .dma (gs c)) (E := Set.univ)) $$ Hs with Hf
  ihave H := (chunk_copies A d c f).1 $$ [Hg Ht]
  · isplitl [Hg] <;> iassumption
  icases H with ⟨HC, Hsp⟩
  iapply (Scf.wp_for_bind frame (wpE (defs₀ (F := F)) 𝒱₀ (d : Thread nD τ) none) Set.univ _ _ _ k0_t1_ok ⟨⟩ (issueTrip d c)
    (fun n _ => iprop(bigSep (pending (8 * n)) (copyIn A d c f) ∗ flight A d c (8 * n) 0 ∗ idsP A d)) (fun t _ => issueTrip_spec A d c t f)) $$ [HC Hf Hi]
  · rw [Nat.mul_zero, Transfers.pending_zero]
    isplitl [HC]; · iexact HC
    isplitl [Hf] <;> iassumption
  iintro %_ ⟨-, Hf, Hi⟩
  iapply Hk
  isplitl [Hf Hsp]
  · isplitl [Hf]; · iexact Hf
    iexact Hsp
  iexact Hi

/-! ## Waiting for them -/

theorem waitRow_spec (d : Dev nD) (c : Fin 8) (t : Fin k0_t1_loop.trips) (u : Fin 8) (O : CellTallies nD τ sig Unit) (hO : Above 0 O) (k : P F) (Q : PUnit → sProp 𝕄) :
    iprop(levAts L lv ∗ (flight A d c 128 ((8 * t.val + u.val) * NR) ∗ ∃ W, owes (d : Thread nD τ) O W)
        ∗ ((flight A d c 128 ((8 * t.val + u.val + 1) * NR) ∗ ∃ W, owes (d : Thread nD τ) O W) -∗ WP d k Q))
      ⊢ WP d (waitRow c t u k) Q := by
  unfold waitRow
  iintro ⟨#HL, ⟨Hf, ⟨%W, Ho⟩⟩, Hk⟩
  have hu : (8 * t.val + u.val) * NR + 1 * NR ≤ NR * 128 := by
    rw [← Nat.add_mul, Nat.mul_comm NR]; exact Nat.mul_le_mul_right _ (idx_lt t u)
  iapply (Transfers.wp_waitBatchMulO EC 𝒱₀ (d : Thread nD τ) none (dstw := rowM c t u) (D := copyOut A d c) (N := NR) () 1 (Nat.one_mul _).symm hu (O := O) (W := W)) $$ [Hf Ho]
  · isplitl [Hf]; · iexact Hf
    isplitl [Ho]; · iexact Ho
    iapply (mayWait d (.dma (gs c)) O (by rw [lv_gs]; exact hO)) $$ HL
  iintro ⟨Hf, Ho⟩
  rw [← Nat.add_mul]
  iapply Hk
  isplitl [Hf]; · iexact Hf
  iexists _; iexact Ho

theorem waitTrip_spec (d : Dev nD) (c : Fin 8) (t : Fin k0_t1_loop.trips) (O : CellTallies nD τ sig Unit) (hO : Above 0 O) :
    iprop(levAts L lv ∗ flight A d c 128 ((8 * t.val) * NR) ∗ ∃ W, owes (d : Thread nD τ) O W)
      ⊢ WP d (waitTrip c t ()) fun _ => iprop(levAts L lv ∗ flight A d c 128 ((8 * (t.val + 1)) * NR) ∗ ∃ W, owes (d : Thread nD τ) O W) := by
  unfold waitTrip
  iintro ⟨#HL, Hf⟩
  iapply (wp_eight d (waitRow c t) (fun u => iprop(levAts L lv ∗ flight A d c 128 ((8 * t.val + u) * NR) ∗ ∃ W, owes (d : Thread nD τ) O W)) _ ?_ _)
  · intro u k
    iintro ⟨⟨#HL, Hf⟩, Hk⟩
    iapply (waitRow_spec A d c t u O hO k _)
    isplitr; · iexact HL
    isplitl [Hf]; · iexact Hf
    iintro Hf
    iapply Hk
    isplitr; · iexact HL
    iexact Hf
  isplitl [Hf]
  · isplitr; · iexact HL
    iexact Hf
  iintro H
  iapply (wp_done d _)
  rw [Nat.mul_add, Nat.mul_one]
  iexact H

/-- A chunk's rows are all in hand. -/
theorem await_spec (d : Dev nD) (c : Fin 8) (O : CellTallies nD τ sig Unit) (hO : Above 0 O) (k : P F) (Q : PUnit → sProp 𝕄) :
    iprop(levAts L lv ∗ gatMid A d c ∗ (∃ W, owes (d : Thread nD τ) O W) ∗ ((gatPost A d c ∗ ∃ W, owes (d : Thread nD τ) O W) -∗ WP d k Q))
      ⊢ WP d (await c k) Q := by
  unfold gatMid gatPost await
  iintro ⟨#HL, ⟨Hf, Hsp⟩, Ho, Hk⟩
  iapply (Scf.wp_for_bind frame (wpE (defs₀ (F := F)) 𝒱₀ (d : Thread nD τ) none) Set.univ _ _ _ k0_t1_ok ⟨⟩ (waitTrip c)
    (fun n _ => iprop(levAts L lv ∗ flight A d c 128 ((8 * n) * NR) ∗ ∃ W, owes (d : Thread nD τ) O W)) (fun t _ => waitTrip_spec A d c t O hO)) $$ [Hf Ho]
  · rw [Nat.mul_zero, Nat.zero_mul]
    isplitr; · iexact HL
    isplitl [Hf] <;> iassumption
  iintro %_ ⟨-, Hf, Ho⟩
  have e : 8 * Scf.trips k0_t1_loop.lb k0_t1_loop.ub k0_t1_loop.st * NR = NR * 128 := by
    rw [show Scf.trips k0_t1_loop.lb k0_t1_loop.ub k0_t1_loop.st = 16 from trips_eq]; exact Nat.mul_comm 128 NR
  imod (Transfers.batch_collect' EC (d : Thread nD τ) NR_pos (D := copyOut A d c) (ι := ())) $$ [Hf] with ⟨Hall, Hs⟩
  · iapply (Entails.of_eq (congrArg (flight A d c 128) e)) $$ Hf
  ihave H := (chunk_copies A d c (gat d (A d))).2 $$ [Hall Hsp]
  · isplitl [Hall]; · iexact Hall
    iexact Hsp
  icases H with ⟨Hg, Ht⟩
  iapply Hk
  isplitl [Hg Ht Hs]
  · isplitl [Hg]; · iexact Hg
    isplitl [Ht] <;> iassumption
  iexact Ho

end Cert.KernelIdeal.Lookup

end
-- ==== Proof.KernelIdeal.Steps.lean ====
/-
  The kernel's other steps, a chunk at a time: masking and sending along z, adding and sending along x, storing what
  arrives, and waiting for the sends.
-/
module

public import proofs.«01_k».proof.Proof.KernelIdeal.Issue

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Cert.KernelIdeal.Gen

variable {F : FTy → Type} [FloatOps F]

local notation "𝕄" => MT nD τ sig Unit (Elt F) ℕ UU ℕ

/-! ## The cells of the protocol -/

/-- The four arrays of semaphores that count chunks. -/
def arr : Fin 4 → Fin 8 → DmaSem sig
  | 0 => zs | 1 => zr | 2 => xs | 3 => xr

theorem arr_mid : ∀ (a : Fin 4) (c : Fin 8), 2 ≤ role (.dma (arr a c)) ∧ role (.dma (arr a c)) ≤ 5 := by decide
theorem arr_inj : Function.Injective fun p : Fin 4 × Fin 8 => (SemLoc.dma (arr p.1 p.2) : SemLoc sig) := by decide

def barEmb : Dev nD ↪ GSem nD τ sig := ⟨fun d => cell d (.reg bs), fun _ _ h => congrArg (fun g : GSem nD τ sig => g.1.1) h⟩
def scEmb : Dev nD × (Fin 4 × Fin 8) ↪ GSem nD τ sig :=
  ⟨fun p => cell p.1 (.dma (arr p.2.1 p.2.2)), fun _ _ h =>
    Prod.ext (congrArg (fun g : GSem nD τ sig => g.1.1) h) (arr_inj (congrArg Prod.snd h))⟩

/-- The barriers, -/
abbrev barCells : Finset (GSem nD τ sig) := Finset.univ.map barEmb
/-- and the cells of the sends and arrivals. -/
abbrev scCells : Finset (GSem nD τ sig) := Finset.univ.map scEmb

variable (A : Dev nD → Given F) (K : GSem nD τ sig → ℕ)

/-- The invariants of all cells, and that every barrier's round is open. -/
def records : sProp 𝕄 :=
  iprop((bigSep (barCells ∪ scCells) fun g => cellInv ER (sch A) (K g) g) ∗ bigSep barCells fun g => reached ER g 0)

instance records_persistent : BI.Persistent (records A K) := by unfold records; infer_instance

theorem inv_bar (d : Dev nD) : records A K ⊢ cellInv ER (sch A) (K (cell d (.reg bs))) (cell d (.reg bs)) := by
  unfold records
  iintro ⟨H, -⟩
  iapply (show (bigSep (barCells ∪ scCells) fun g => (cellInv ER (sch A) (K g) g : sProp 𝕄)) ⊢ cellInv ER (sch A) (K (cell d (.reg bs))) (cell d (.reg bs)) from
    BI.bigSep_elim (Finset.mem_union_left _ (Finset.mem_map_of_mem barEmb (Finset.mem_univ d)))) $$ H
theorem inv_arr (d : Dev nD) (a : Fin 4) (c : Fin 8) :
    records A K ⊢ cellInv ER (sch A) (K (cell d (.dma (arr a c)))) (cell d (.dma (arr a c))) := by
  unfold records
  iintro ⟨H, -⟩
  iapply (show (bigSep (barCells ∪ scCells) fun g => (cellInv ER (sch A) (K g) g : sProp 𝕄)) ⊢ cellInv ER (sch A) (K (cell d (.dma (arr a c)))) (cell d (.dma (arr a c))) from
    BI.bigSep_elim (Finset.mem_union_right _ (Finset.mem_map_of_mem scEmb (Finset.mem_univ (d, a, c))))) $$ H
theorem reached_bar (d : Dev nD) : records A K ⊢ reached ER (cell d (.reg bs)) 0 := by
  unfold records
  iintro ⟨-, H⟩
  iapply (show (bigSep barCells fun g => (reached ER g 0 : sProp 𝕄)) ⊢ reached ER (cell d (.reg bs)) 0 from
    BI.bigSep_elim (Finset.mem_map_of_mem barEmb (Finset.mem_univ d))) $$ H

/-- What a device owes, with the waits it has recorded. -/
abbrev debt (d : Dev nD) (O : CellTallies nD τ sig Unit) : sProp 𝕄 := iprop(∃ W, owes (d : Thread nD τ) O W)
/-- The credit a device waits with on a chunk's semaphore. -/
abbrev due (d : Dev nD) (sm : SemLoc sig) : sProp 𝕄 := cred (tallyAt (cell d sm) () NB)

/-- A wait for a chunk: what its cell was paid comes back. -/
theorem wait_spec {sp sp' : Space} {s s' : Shape} {e e' : EltTy} (d : Dev nD) (a : Fin 4) (c : Fin 8) (sm : DmaSem sig) (hsm : sm = arr a c) (O : CellTallies nD τ sig Unit)
    (hO : Above (lv (cell d (.dma sm)) ()) O) (src : Memref sig .tc sp' s' e') (dst : Memref sig .tc sp s e)
    (hs : src.view.WordExact) (hd : dst.view.WordExact) (hc : dst.view.dmaCredit = NB) (k : P F) (Q : PUnit → sProp 𝕄) :
    iprop(records A K ∗ levAts L lv ∗ due d (.dma sm) ∗ debt d O ∗ atPos ER (cell d (.dma sm)) 0 ∅ 0
        ∗ ((debt d O ∗ atPos ER (cell d (.dma sm)) 1 ∅ 0 ∗ (sch A).payload (cell d (.dma sm)) 0 false) -∗ WP d k Q))
      ⊢ WP d (.op (.waitDma2 sm src dst hs hd) fun _ => k) Q := by
  subst hsm
  iintro ⟨#HR, #HL, Hc, ⟨%W, Ho⟩, Ha, Hk⟩
  iapply (Rounds.wp_wait_rest_token 𝒱₀ ER (sch A) (d : Thread nD τ) none (κ := K (cell d (.dma (arr a c))))
      (wpE_waitDma2_eq 𝒱₀ (d : Thread nD τ) none Set.univ) (Set.mem_univ _) () (O := O) (W := W) (R := 0) (m := 0) (T := ∅)
      ((Nat.zero_add _).trans (hc.trans (expect_of A d (arr_mid a c)).symm))) $$ [Hc Ho Ha]
  · isplitr; · iapply (inv_arr A K d a c) $$ HR
    isplitl [Hc]; · rw [hc]; iexact Hc
    isplitl [Ho]; · iexact Ho
    isplitr; · iapply (mayWait d (.dma (arr a c)) O hO) $$ HL
    iexact Ha
  iintro ⟨Ho, Ha, -, Hp⟩
  iapply Hk
  isplitl [Ho]; · iexists _; iexact Ho
  isplitl [Ha]; · iexact Ha
  iapply (Entails.of_eq (rest_of A d (arr_mid a c))) $$ Hp

/-! ## The first stretch's step -/

/-- The column of row numbers. -/
abbrev colP (d : Dev nD) : sProp 𝕄 := mCol.view.loc (d : Thread nD τ) ↦{fullShare} (A d).col

/-- What chunk `c`'s send along z needs: the chunk of the sending buffer, the neighbour's chunk to land in, and the rights
    to pay both semaphores. -/
def zIn (d : Dev nD) (c : Fin 8) : sProp 𝕄 :=
  iprop((∃ f, zsP d c fullShare f) ∗ (∃ f, zrP (pz d) c f) ∗ dutyTok ER (cell d (.dma (zs c))) 0 false ∗ reached ER (cell d (.dma (zs c))) 0
    ∗ dutyTok ER (cell (pz d) (.dma (zr c))) 0 false ∗ reached ER (cell (pz d) (.dma (zr c))) 0)
/-- What is kept while the send is under way: half of the sent chunk, to read, and the credit to wait with. -/
def zOut (d : Dev nD) (c : Fin 8) : sProp 𝕄 := iprop(zsP d c qL (zsd d (A d)) ∗ due d (.dma (zs c)))

theorem zSend_spec (d : Dev nD) (c : Fin 8) (O : CellTallies nD τ sig Unit) (k : P F) (Q : PUnit → sProp 𝕄) :
    iprop(records A K ∗ (zsP d c fullShare (zsd d (A d)) ∗ (∃ f, zrP (pz d) c f) ∗ dutyTok ER (cell d (.dma (zs c))) 0 false ∗ reached ER (cell d (.dma (zs c))) 0
          ∗ dutyTok ER (cell (pz d) (.dma (zr c))) 0 false ∗ reached ER (cell (pz d) (.dma (zr c))) 0)
        ∗ debt d (O + tallyAt (cell (pz d) (.dma (zr c))) () NB) ∗ ((zOut A d c ∗ debt d O) -∗ WP d k Q))
      ⊢ WP d (.op (.enqueueDma (ch mZs c) (.remote (Dev.tc (pz d)) (ch mZr c) (.dma (zs c))) (.dma (zr c))
      ((Memref.isWhole_whole cc0_scratch1).wordExact_slice rfl _ (ch_words c)) ((Memref.isWhole_whole cc0_scratch2).wordExact_slice rfl _ (ch_words c))
      ⟨⟨rfl, Or.inl rfl⟩, trivial⟩) fun _ => k) Q := by
  have hs : (ch mZs c : Memref sig .tc .vmem S128x1024 .bf16).view.set = chunk c := (View.set_slice_whole _ _).trans (chR_set c)
  have hr : (ch mZr c : Memref sig .tc .vmem S128x1024 .bf16).view.set = chunk c := (View.set_slice_whole _ _).trans (chR_set c)
  iintro ⟨#HR, ⟨Hz, ⟨%g, Hr⟩, Ht, #Hre, Ht', #Hre'⟩, ⟨%W, Ho⟩, Hk⟩
  ihave Hz' := (pointsTo_share (PosShare.mem_left_op_right fullShare)).1 $$ Hz
  icases Hz' with ⟨HzL, HzR⟩
  iapply (Rounds.wp_send_pointsTo 𝒱₀ ER (sch A) (d : Thread nD τ) none (c' := (pz d : Thread nD τ)) (src := ch mZs c) (dst := ch mZr c)
      (sS := .dma (zs c)) (sem := .dma (zr c)) (q := qR) (fs := zsd d (A d)) (κ₁ := K (cell d (.dma (zs c)))) (κ₂ := K (cell (pz d) (.dma (zr c))))
      (r₁ := 0) (r₂ := 0) (d₁ := false) (d₂ := false) (fd := g)
      (by rw [duties_of A d (zs_mid c)]; exact Finset.mem_singleton_self _) (by rw [duties_of A (pz d) (zr_mid c)]; exact Finset.mem_singleton_self _)
      () () NB rfl (amount_of A d (zs_mid c) false) (amount_of A (pz d) (zr_mid c) false) O rfl (W := W)
      (by rw [payload_zs, hs]) (by
        rw [payload_zr, pz_pz, hr]
        exact wrote_on (pz d) (ch mZr c).view hr fullShare g (zsd d (A d)) _ rfl)) $$ [HzR Hr Ho Ht Ht']
  · isplitr; · iapply (inv_arr A K d 0 c) $$ HR
    isplitr; · iapply (inv_arr A K (pz d) 1 c) $$ HR
    isplitl [HzR]; · iapply (Entails.of_eq (by rw [hs])) $$ HzR
    isplitl [Hr]; · iapply (Entails.of_eq (by rw [hr])) $$ Hr
    isplitl [Ho]; · iexact Ho
    isplitl [Ht]; · iexact Ht
    isplitr; · iexact Hre
    isplitl [Ht']; · iexact Ht'
    iexact Hre'
  iintro ⟨Hc, Ho⟩
  iapply Hk
  unfold zOut
  isplitl [HzL Hc]
  · isplitl [HzL] <;> iassumption
  iexists _; iexact Ho

theorem zStep_spec (d : Dev nD) (c : Fin 8) (O : CellTallies nD τ sig Unit) (k : P F) (Q : PUnit → sProp 𝕄) :
    iprop(records A K ∗ zIn d c ∗ gatP d (chunk c) (gat d (A d)) ∗ colP A d ∗ debt d (O + tallyAt (cell (pz d) (.dma (zr c))) () NB)
        ∗ ((zOut A d c ∗ gatP d (chunk c) (gat d (A d)) ∗ colP A d ∗ debt d O) -∗ WP d k Q))
      ⊢ WP d (zStep d c k) Q := by
  have hg : (mGat.access (chR c) : View sig .tc _ _ _).set = chunk c := (View.set_slice_whole _ _).trans (chR_set c)
  have hz : (mZs.access (chR c) : View sig .tc _ _ _).set = chunk c := (View.set_slice_whole _ _).trans (chR_set c)
  unfold zStep loadCh zIn
  iintro ⟨#HR, ⟨⟨%f, Hz⟩, Hr, Ht, #Hre, Ht', #Hre'⟩, Hg, Hc, Ho, Hk⟩
  iapply (wp_load_rect 𝒱₀ (d : Thread nD τ) none Set.univ (m := mCol) (r := colR d c) (S := Finset.univ) (q := fullShare) (f := (A d).col) (Finset.subset_univ _)) $$ Hc
  iintro Hc
  iapply (wp_load_rect 𝒱₀ (d : Thread nD τ) none Set.univ (m := mGat) (r := chR c) (S := chunk c) (q := fullShare) (f := gat d (A d)) (by rw [hg])) $$ Hg
  iintro Hg
  iapply (wp_load_rect 𝒱₀ (d : Thread nD τ) none Set.univ (m := mZs) (r := chR c) (S := chunk c) (q := fullShare) (f := f) (by rw [hz])) $$ Hz
  iintro Hz
  iapply (wp_store 𝒱₀ (d : Thread nD τ) none Set.univ (m := mZs) (r := chR c) (S := chunk c) (f := f) (by rw [View.setOn_univ, hz])) $$ Hz
  iintro Hz
  ihave Hz := (wrote_on d (mZs.access (chR c)) hz fullShare f (zsd d (A d))
    (k0_pay1 (v0W d) ((mCol.access (colR d c)).read (Elt F) (A d).col) ((mGat.access (chR c)).read (Elt F) (gat d (A d)))) (blk_zsd d (A d) c).symm) $$ Hz
  iapply (zSend_spec A K d c O k Q)
  isplitr; · iexact HR
  isplitl [Hz Hr Ht Ht']
  · isplitl [Hz]; · iexact Hz
    isplitl [Hr]; · iexact Hr
    isplitl [Ht]; · iexact Ht
    isplitr; · iexact Hre
    isplitl [Ht']; · iexact Ht'
    iexact Hre'
  isplitl [Ho]; · iexact Ho
  iintro ⟨Hz, Ho⟩
  iapply Hk
  isplitl [Hz]; · iexact Hz
  isplitl [Hg]; · iexact Hg
  isplitl [Hc] <;> iassumption

/-! ## The second stretch's step -/

/-- The output's band `k`. -/
abbrev outP (d : Dev nD) (k : Fin 16) (f : S2048x1024.Idx → Elt F .f32) : sProp 𝕄 := mOut.view.loc (d : Thread nD τ) ↦[band k]{fullShare} f

/-- What chunk `c`'s sum and its send along x need: the arrival along z to wait for, the half of the sent chunk, a band of
    the output, and what a send needs. -/
def redIn (d : Dev nD) (c : Fin 8) : sProp 𝕄 :=
  iprop(due d (.dma (zr c)) ∗ atPos ER (cell d (.dma (zr c))) 0 ∅ 0 ∗ zsP d c qL (zsd d (A d)) ∗ (∃ f, outP d (lowB d c) f)
    ∗ (∃ f, xsP d c fullShare f) ∗ (∃ f, xrP (px d) c f) ∗ dutyTok ER (cell d (.dma (xs c))) 0 false ∗ reached ER (cell d (.dma (xs c))) 0
    ∗ dutyTok ER (cell (px d) (.dma (xr c))) 0 false ∗ reached ER (cell (px d) (.dma (xr c))) 0)
/-- What is held after it. -/
def redOut (d : Dev nD) (c : Fin 8) : sProp 𝕄 :=
  iprop(atPos ER (cell d (.dma (zr c))) 1 ∅ 0 ∗ zrP d c (zsd (pz d) (A (pz d))) ∗ zsP d c qL (zsd d (A d)) ∗ outP d (lowB d c) (outv A d)
    ∗ xsP d c qL (xsd A d) ∗ due d (.dma (xs c)))

theorem xSend_spec (d : Dev nD) (c : Fin 8) (O : CellTallies nD τ sig Unit) (k : P F) (Q : PUnit → sProp 𝕄) :
    iprop(records A K ∗ (xsP d c fullShare (xsd A d) ∗ (∃ f, xrP (px d) c f) ∗ dutyTok ER (cell d (.dma (xs c))) 0 false ∗ reached ER (cell d (.dma (xs c))) 0
          ∗ dutyTok ER (cell (px d) (.dma (xr c))) 0 false ∗ reached ER (cell (px d) (.dma (xr c))) 0)
        ∗ debt d (O + tallyAt (cell (px d) (.dma (xr c))) () NB) ∗ (((xsP d c qL (xsd A d) ∗ due d (.dma (xs c))) ∗ debt d O) -∗ WP d k Q))
      ⊢ WP d (.op (.enqueueDma (ch mXs c) (.remote (Dev.tc (px d)) (ch mXr c) (.dma (xs c))) (.dma (xr c))
      ((Memref.isWhole_whole cc0_scratch3).wordExact_slice rfl _ (ch_words c)) ((Memref.isWhole_whole cc0_scratch4).wordExact_slice rfl _ (ch_words c))
      ⟨⟨rfl, Or.inl rfl⟩, trivial⟩) fun _ => k) Q := by
  have hs : (ch mXs c : Memref sig .tc .vmem S128x1024 .bf16).view.set = chunk c := (View.set_slice_whole _ _).trans (chR_set c)
  have hr : (ch mXr c : Memref sig .tc .vmem S128x1024 .bf16).view.set = chunk c := (View.set_slice_whole _ _).trans (chR_set c)
  iintro ⟨#HR, ⟨Hz, ⟨%g, Hr⟩, Ht, #Hre, Ht', #Hre'⟩, ⟨%W, Ho⟩, Hk⟩
  ihave Hz' := (pointsTo_share (PosShare.mem_left_op_right fullShare)).1 $$ Hz
  icases Hz' with ⟨HzL, HzR⟩
  iapply (Rounds.wp_send_pointsTo 𝒱₀ ER (sch A) (d : Thread nD τ) none (c' := (px d : Thread nD τ)) (src := ch mXs c) (dst := ch mXr c)
      (sS := .dma (xs c)) (sem := .dma (xr c)) (q := qR) (fs := xsd A d) (κ₁ := K (cell d (.dma (xs c)))) (κ₂ := K (cell (px d) (.dma (xr c))))
      (r₁ := 0) (r₂ := 0) (d₁ := false) (d₂ := false) (fd := g)
      (by rw [duties_of A d (xs_mid c)]; exact Finset.mem_singleton_self _) (by rw [duties_of A (px d) (xr_mid c)]; exact Finset.mem_singleton_self _)
      () () NB rfl (amount_of A d (xs_mid c) false) (amount_of A (px d) (xr_mid c) false) O rfl (W := W)
      (by rw [payload_xs, hs]) (by
        rw [payload_xr, px_px, hr]
        exact wrote_on (px d) (ch mXr c).view hr fullShare g (xsd A d) _ rfl)) $$ [HzR Hr Ho Ht Ht']
  · isplitr; · iapply (inv_arr A K d 2 c) $$ HR
    isplitr; · iapply (inv_arr A K (px d) 3 c) $$ HR
    isplitl [HzR]; · iapply (Entails.of_eq (by rw [hs])) $$ HzR
    isplitl [Hr]; · iapply (Entails.of_eq (by rw [hr])) $$ Hr
    isplitl [Ho]; · iexact Ho
    isplitl [Ht]; · iexact Ht
    isplitr; · iexact Hre
    isplitl [Ht']; · iexact Ht'
    iexact Hre'
  iintro ⟨Hc, Ho⟩
  iapply Hk
  isplitl [HzL Hc]
  · isplitl [HzL] <;> iassumption
  iexists _; iexact Ho

theorem redStep_spec (d : Dev nD) (c : Fin 8) (O : CellTallies nD τ sig Unit) (hO : Above 2 (O + tallyAt (cell (px d) (.dma (xr c))) () NB)) (k : P F) (Q : PUnit → sProp 𝕄) :
    iprop(records A K ∗ levAts L lv ∗ redIn A d c ∗ debt d (O + tallyAt (cell (px d) (.dma (xr c))) () NB)
        ∗ ((redOut A d c ∗ debt d O) -∗ WP d k Q))
      ⊢ WP d (redStep d c k) Q := by
  have hzs : (mZs.access (chR c) : View sig .tc _ _ _).set = chunk c := (View.set_slice_whole _ _).trans (chR_set c)
  have hzr : (mZr.access (chR c) : View sig .tc _ _ _).set = chunk c := (View.set_slice_whole _ _).trans (chR_set c)
  have hxs : (mXs.access (chR c) : View sig .tc _ _ _).set = chunk c := (View.set_slice_whole _ _).trans (chR_set c)
  have ho : (mOut.access (lowR d c) : View sig .tc _ _ _).set = band (lowB d c) := (View.set_slice_whole _ _).trans (lowR_set d c)
  unfold redStep loadCh redIn redOut
  iintro ⟨#HR, #HL, ⟨Hcr, Ha, Hzs, ⟨%fo, Hout⟩, ⟨%fx, Hxs⟩, Hxr, Ht, #Hre, Ht', #Hre'⟩, Ho, Hk⟩
  iapply (wait_spec A K d 1 c (zr c) rfl _ (by rw [lv_zr]; exact hO) (ch mZs c) (ch mZr c) _ _ rfl _ Q)
  isplitr; · iexact HR
  isplitr; · iexact HL
  isplitl [Hcr]; · iexact Hcr
  isplitl [Ho]; · iexact Ho
  isplitl [Ha]; · iexact Ha
  iintro ⟨Ho, Ha, Hp⟩
  ihave Hzr := (Entails.of_eq (payload_zr A d c)) $$ Hp
  iapply (wp_load_rect 𝒱₀ (d : Thread nD τ) none Set.univ (m := mZs) (r := chR c) (S := chunk c) (q := qL) (f := zsd d (A d)) (by rw [hzs])) $$ Hzs
  iintro Hzs
  iapply (wp_load_rect 𝒱₀ (d : Thread nD τ) none Set.univ (m := mZr) (r := chR c) (S := chunk c) (q := fullShare) (f := zsd (pz d) (A (pz d))) (by rw [hzr])) $$ Hzr
  iintro Hzr
  iapply (wp_load_rect 𝒱₀ (d : Thread nD τ) none Set.univ (m := mOut) (r := lowR d c) (S := band (lowB d c)) (q := fullShare) (f := fo) (by rw [ho])) $$ Hout
  iintro Hout
  iapply (wp_store 𝒱₀ (d : Thread nD τ) none Set.univ (m := mOut) (r := lowR d c) (S := band (lowB d c)) (f := fo) (by rw [View.setOn_univ, ho])) $$ Hout
  iintro Hout
  ihave Hout := (wrote_on d (mOut.access (lowR d c)) ho fullShare fo (outv A d)
    (k0_pay9 ((mZs.access (chR c)).read (Elt F) (zsd d (A d))) ((mZr.access (chR c)).read (Elt F) (zsd (pz d) (A (pz d))))) (funext fun x => (outv_low A d c x).symm)) $$ Hout
  iapply (wp_load_rect 𝒱₀ (d : Thread nD τ) none Set.univ (m := mXs) (r := chR c) (S := chunk c) (q := fullShare) (f := fx) (by rw [hxs])) $$ Hxs
  iintro Hxs
  iapply (wp_store 𝒱₀ (d : Thread nD τ) none Set.univ (m := mXs) (r := chR c) (S := chunk c) (f := fx) (by rw [View.setOn_univ, hxs])) $$ Hxs
  iintro Hxs
  ihave Hxs := (wrote_on d (mXs.access (chR c)) hxs fullShare fx (xsd A d)
    (k0_pay11 (k0_pay10 ((mZs.access (chR c)).read (Elt F) (zsd d (A d))) ((mZr.access (chR c)).read (Elt F) (zsd (pz d) (A (pz d)))))) (blk_xsd A d c).symm) $$ Hxs
  iapply (xSend_spec A K d c O k Q)
  isplitr; · iexact HR
  isplitl [Hxs Hxr Ht Ht']
  · isplitl [Hxs]; · iexact Hxs
    isplitl [Hxr]; · iexact Hxr
    isplitl [Ht]; · iexact Ht
    isplitr; · iexact Hre
    isplitl [Ht']; · iexact Ht'
    iexact Hre'
  isplitl [Ho]; · iexact Ho
  iintro ⟨⟨Hxs, Hc⟩, Ho⟩
  iapply Hk
  isplitr [Ho]
  · isplitl [Ha]; · iexact Ha
    isplitl [Hzr]; · iexact Hzr
    isplitl [Hzs]; · iexact Hzs
    isplitl [Hout]; · iexact Hout
    isplitl [Hxs] <;> iassumption
  iexact Ho

/-! ## The third stretch's step -/

/-- What chunk `c`'s arrival along x needs, -/
def outIn (d : Dev nD) (c : Fin 8) : sProp 𝕄 :=
  iprop(due d (.dma (xr c)) ∗ atPos ER (cell d (.dma (xr c))) 0 ∅ 0 ∗ ∃ f, outP d (highB d c) f)
/-- and leaves. -/
def outOut (d : Dev nD) (c : Fin 8) : sProp 𝕄 :=
  iprop(atPos ER (cell d (.dma (xr c))) 1 ∅ 0 ∗ xrP d c (xsd A (px d)) ∗ outP d (highB d c) (outv A d))

theorem outStep_spec (d : Dev nD) (c : Fin 8) (k : P F) (Q : PUnit → sProp 𝕄) :
    iprop(records A K ∗ levAts L lv ∗ outIn d c ∗ debt d 0 ∗ ((outOut A d c ∗ debt d 0) -∗ WP d k Q)) ⊢ WP d (outStep d c k) Q := by
  have hxr : (mXr.access (chR c) : View sig .tc _ _ _).set = chunk c := (View.set_slice_whole _ _).trans (chR_set c)
  have ho : (mOut.access (highR d c) : View sig .tc _ _ _).set = band (highB d c) := (View.set_slice_whole _ _).trans (highR_set d c)
  unfold outStep loadCh outIn outOut
  iintro ⟨#HR, #HL, ⟨Hcr, Ha, ⟨%fo, Hout⟩⟩, Ho, Hk⟩
  iapply (wait_spec A K d 3 c (xr c) rfl 0 (above_zero _) (ch mXs c) (ch mXr c) _ _ rfl _ Q)
  isplitr; · iexact HR
  isplitr; · iexact HL
  isplitl [Hcr]; · iexact Hcr
  isplitl [Ho]; · iexact Ho
  isplitl [Ha]; · iexact Ha
  iintro ⟨Ho, Ha, Hp⟩
  ihave Hxr := (Entails.of_eq (payload_xr A d c)) $$ Hp
  iapply (wp_load_rect 𝒱₀ (d : Thread nD τ) none Set.univ (m := mXr) (r := chR c) (S := chunk c) (q := fullShare) (f := xsd A (px d)) (by rw [hxr])) $$ Hxr
  iintro Hxr
  iapply (wp_load_rect 𝒱₀ (d : Thread nD τ) none Set.univ (m := mOut) (r := highR d c) (S := band (highB d c)) (q := fullShare) (f := fo) (by rw [ho])) $$ Hout
  iintro Hout
  iapply (wp_store 𝒱₀ (d : Thread nD τ) none Set.univ (m := mOut) (r := highR d c) (S := band (highB d c)) (f := fo) (by rw [View.setOn_univ, ho])) $$ Hout
  iintro Hout
  ihave Hout := (wrote_on d (mOut.access (highR d c)) ho fullShare fo (outv A d)
    (k0_pay27 ((mXr.access (chR c)).read (Elt F) (xsd A (px d)))) (funext fun x => (outv_high A d c x).symm)) $$ Hout
  iapply Hk
  isplitr [Ho]
  · isplitl [Ha]; · iexact Ha
    isplitl [Hxr] <;> iassumption
  iexact Ho

/-! ## The last stretch's step -/

/-- What the waits for chunk `c`'s two sends need, -/
def drainIn (d : Dev nD) (c : Fin 8) : sProp 𝕄 :=
  iprop((due d (.dma (zs c)) ∗ atPos ER (cell d (.dma (zs c))) 0 ∅ 0) ∗ due d (.dma (xs c)) ∗ atPos ER (cell d (.dma (xs c))) 0 ∅ 0)
/-- and leave. -/
def drainOut (d : Dev nD) (c : Fin 8) : sProp 𝕄 :=
  iprop((atPos ER (cell d (.dma (zs c))) 1 ∅ 0 ∗ zsP d c qR (zsd d (A d))) ∗ atPos ER (cell d (.dma (xs c))) 1 ∅ 0 ∗ xsP d c qR (xsd A d))

theorem drainStep_spec (d : Dev nD) (c : Fin 8) (k : P F) (Q : PUnit → sProp 𝕄) :
    iprop(records A K ∗ levAts L lv ∗ drainIn d c ∗ debt d 0 ∗ ((drainOut A d c ∗ debt d 0) -∗ WP d k Q)) ⊢ WP d (drainStep c k) Q := by
  unfold drainStep drainIn drainOut
  iintro ⟨#HR, #HL, ⟨⟨Hcz, Haz⟩, Hcx, Hax⟩, Ho, Hk⟩
  iapply (wait_spec A K d 0 c (zs c) rfl 0 (above_zero _) (ch mZr c) (ch mZs c) _ _ rfl _ Q)
  isplitr; · iexact HR
  isplitr; · iexact HL
  isplitl [Hcz]; · iexact Hcz
  isplitl [Ho]; · iexact Ho
  isplitl [Haz]; · iexact Haz
  iintro ⟨Ho, Haz, Hp⟩
  ihave Hzs := (Entails.of_eq (payload_zs A d c)) $$ Hp
  iapply (wait_spec A K d 2 c (xs c) rfl 0 (above_zero _) (ch mXr c) (ch mXs c) _ _ rfl _ Q)
  isplitr; · iexact HR
  isplitr; · iexact HL
  isplitl [Hcx]; · iexact Hcx
  isplitl [Ho]; · iexact Ho
  isplitl [Hax]; · iexact Hax
  iintro ⟨Ho, Hax, Hp⟩
  ihave Hxs := (Entails.of_eq (payload_xs A d c)) $$ Hp
  iapply Hk
  isplitr [Ho]
  · isplitl [Haz Hzs]
    · isplitl [Haz] <;> iassumption
    isplitl [Hax] <;> iassumption
  iexact Ho

end Cert.KernelIdeal.Lookup

end
-- ==== Proof.KernelIdeal.Pieces.lean ====
/-
  Dividing the buffers into chunks and putting them together again.
-/
module

public import proofs.«01_k».proof.Proof.KernelIdeal.Steps

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Cert.KernelIdeal.Gen

variable {F : FTy → Type} [FloatOps F]

local notation "𝕄" => MT nD τ sig Unit (Elt F) ℕ UU ℕ

variable (A : Dev nD → Given F)

/-! ## Families -/

/-- Two families over the chunks as one. -/
theorem zip {ι : Type} [Fintype ι] {Φ Ψ : ι → sProp 𝕄} :
    iprop(bigSep Finset.univ Φ ∗ bigSep Finset.univ Ψ) ⊢ bigSep Finset.univ (fun c => iprop(Φ c ∗ Ψ c)) :=
  Entails.of_eq (BI.bigSep_sep _ _ _).symm
theorem unzip {ι : Type} [Fintype ι] {Φ Ψ : ι → sProp 𝕄} :
    bigSep Finset.univ (fun c => iprop(Φ c ∗ Ψ c)) ⊢ iprop(bigSep Finset.univ Φ ∗ bigSep Finset.univ Ψ) :=
  Entails.of_eq (BI.bigSep_sep _ _ _)

/-- A buffer whose elements the sets `B` divide. -/
theorem parts {n : ℕ} (ℓ : Loc nD τ sig) (q : PosShare TreeShare) (f : Buf (Elt F) ℓ) (B : Fin n → Finset (Idx ℓ))
    (hu : (Finset.univ : Finset (Idx ℓ)) = Finset.univ.biUnion B) (hd : ∀ i j, i ≠ j → Disjoint (B i) (B j)) :
    (bigSep Finset.univ fun c => (ℓ ↦[B c]{q} f : sProp 𝕄)) = ℓ ↦{q} f := by
  refine Eq.trans ?_ (congrArg (fun S => (ℓ ↦[S]{q} f : sProp 𝕄)) hu.symm)
  exact (pointsTo_biUnion _ _ fun i _ j _ hij => hd i j hij).symm

/-! ## The buffers of 1024 rows -/

theorem chunks_all : (Finset.univ : Finset S1024x1024.Idx) = Finset.univ.biUnion chunk := by
  have h := rows_bands 1024 1024 0 128 8
  rw [show 0 + 128 * 8 = 1024 from rfl, rows_all] at h
  exact h
theorem chunks_apart (i j : Fin 8) (h : i ≠ j) : Disjoint (chunk i) (chunk j) := rows_apart 1024 1024 0 128 8 i j h

/-- A buffer at some contents, as chunks at some contents. -/
theorem split_any (ℓ : Loc nD τ sig) (B : Fin 8 → Finset (Idx ℓ)) (hu : (Finset.univ : Finset (Idx ℓ)) = Finset.univ.biUnion B)
    (hd : ∀ i j, i ≠ j → Disjoint (B i) (B j)) :
    iprop(∃ f, ℓ ↦{fullShare} f) ⊢ (bigSep Finset.univ fun c => iprop(∃ f, ℓ ↦[B c]{fullShare} f) : sProp 𝕄) := by
  iintro ⟨%f, H⟩
  iapply (show (bigSep Finset.univ fun c => (ℓ ↦[B c]{fullShare} f : sProp 𝕄)) ⊢ bigSep Finset.univ fun c => iprop(∃ f, ℓ ↦[B c]{fullShare} f) from
    BI.bigSep_mono fun c _ => exists_intro (Φ := fun f => (ℓ ↦[B c]{fullShare} f : sProp 𝕄)) f)
  iapply (Entails.of_eq (parts ℓ fullShare f B hu hd).symm) $$ H

/-! ## The output -/

/-- The device's own half of the output, -/
def lowH (d : Dev nD) : Finset S2048x1024.Idx := Finset.univ.biUnion fun c : Fin 8 => band (lowB d c)
/-- and the other half. -/
def highH (d : Dev nD) : Finset S2048x1024.Idx := Finset.univ.biUnion fun c : Fin 8 => band (highB d c)

theorem mem_band {k : Fin 16} {x : S2048x1024.Idx} : x ∈ band k ↔ (x 0).val / 128 = k.val := by
  refine mem_rows.trans ?_; omega

theorem half_01 (d : Dev nD) : d.val / 4 = 0 ∨ d.val / 4 = 1 := by have := d.isLt; simp only [nD] at this; omega

theorem mem_lowH {d : Dev nD} {x : S2048x1024.Idx} : x ∈ lowH d ↔ (x 0).val / 1024 = d.val / 4 := by
  have hx : (x 0).val < 2048 := (x 0).isLt
  have hd := half_01 d
  unfold lowH
  rw [Finset.mem_biUnion]
  constructor
  · rintro ⟨c, -, h⟩
    have h := mem_band.mp h
    have := c.isLt
    simp only [lowB] at h
    omega
  · intro h
    refine ⟨⟨(x 0).val / 128 % 8, Nat.mod_lt _ (by decide)⟩, Finset.mem_univ _, mem_band.mpr ?_⟩
    simp only [lowB]
    omega
theorem mem_highH {d : Dev nD} {x : S2048x1024.Idx} : x ∈ highH d ↔ (x 0).val / 1024 = 1 - d.val / 4 := by
  have hx : (x 0).val < 2048 := (x 0).isLt
  have hd := half_01 d
  unfold highH
  rw [Finset.mem_biUnion]
  constructor
  · rintro ⟨c, -, h⟩
    have h := mem_band.mp h
    have := c.isLt
    simp only [highB] at h
    omega
  · intro h
    refine ⟨⟨(x 0).val / 128 % 8, Nat.mod_lt _ (by decide)⟩, Finset.mem_univ _, mem_band.mpr ?_⟩
    simp only [highB]
    omega

theorem halves_all (d : Dev nD) : (Finset.univ : Finset S2048x1024.Idx) = lowH d ∪ highH d := by
  ext x
  have hx : (x 0).val < 2048 := (x 0).isLt
  have hd := half_01 d
  rw [Finset.mem_union, mem_lowH, mem_highH]
  exact iff_of_true (Finset.mem_univ x) (by omega)
theorem halves_apart (d : Dev nD) : Disjoint (lowH d) (highH d) := by
  rw [Finset.disjoint_left]
  intro x h h'
  have h := mem_lowH.mp h
  have h' := mem_highH.mp h'
  have hd := half_01 d
  omega

theorem bands_apart (k l : Fin 16) (h : k ≠ l) : Disjoint (band k) (band l) := rows_apart 2048 1024 0 128 16 k l h

/-- The output, as the bands of the two halves. -/
theorem out_parts (d : Dev nD) (f : S2048x1024.Idx → Elt F .f32) :
    (mOut.view.loc (d : Thread nD τ) ↦{fullShare} f : sProp 𝕄)
      = iprop((bigSep Finset.univ fun c => outP d (lowB d c) f) ∗ bigSep Finset.univ fun c => outP d (highB d c) f) := by
  refine (congrArg (fun S => (mOut.view.loc (d : Thread nD τ) ↦[S]{fullShare} f : sProp 𝕄)) (halves_all d)).trans ?_
  have h := pointsTo_union (ℓ := mOut.view.loc (d : Thread nD τ)) (q := fullShare) (f := f) (Ix := Unit) (Name := ℕ) (U := UU) (Lvl := ℕ) (halves_apart d)
  refine (BI.Entails.antisymm h.1 h.2).trans ?_
  have h₁ : (mOut.view.loc (d : Thread nD τ) ↦[lowH d]{fullShare} f : sProp 𝕄) = bigSep Finset.univ fun c => outP d (lowB d c) f :=
    pointsTo_biUnion _ _ fun i _ j _ hij => bands_apart _ _ fun h => hij (by have h := congrArg Fin.val h; simp only [lowB] at h; exact Fin.ext (by omega))
  have h₂ : (mOut.view.loc (d : Thread nD τ) ↦[highH d]{fullShare} f : sProp 𝕄) = bigSep Finset.univ fun c => outP d (highB d c) f :=
    pointsTo_biUnion _ _ fun i _ j _ hij => bands_apart _ _ fun h => hij (by have h := congrArg Fin.val h; simp only [highB] at h; exact Fin.ext (by omega))
  rw [h₁, h₂]

/-! ## The table -/

/-- The table, as the chunks' shares and what is left. -/
theorem tab_parts (d : Dev nD) : tabP A d Finset.univ fullShare
    ⊣⊢ iprop(tabP A d Finset.univ (Transfers.shareDrop fullShare 8) ∗ bigSep Finset.univ fun c => tabP A d Finset.univ (qE c)) :=
  Transfers.pointsTo_toks (ℓ := mTab.view.loc (d : Thread nD τ)) (S := Finset.univ) (f := (A d).tab)
    (Ix := Unit) (Name := ℕ) (U := UU) (Lvl := ℕ) fullShare 8

end Cert.KernelIdeal.Lookup

end
-- ==== Proof.KernelIdeal.Stretches.lean ====
/-
  The body after the barrier: four stretches, each taking all chunks one step further.
-/
module

public import proofs.«01_k».proof.Proof.KernelIdeal.Pieces

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Cert.KernelIdeal.Gen

variable {F : FTy → Type} [FloatOps F]

local notation "𝕄" => MT nD τ sig Unit (Elt F) ℕ UU ℕ

variable (A : Dev nD → Given F) (K : GSem nD τ sig → ℕ)

/-! ## A chunk's state between the stretches -/

/-- What chunk `c` holds until it is summed. -/
def later (d : Dev nD) (c : Fin 8) : sProp 𝕄 :=
  iprop((due d (.dma (zr c)) ∗ atPos ER (cell d (.dma (zr c))) 0 ∅ 0 ∗ (∃ f, outP d (lowB d c) f)
      ∗ (∃ f, xsP d c fullShare f) ∗ (∃ f, xrP (px d) c f) ∗ dutyTok ER (cell d (.dma (xs c))) 0 false ∗ reached ER (cell d (.dma (xs c))) 0
      ∗ dutyTok ER (cell (px d) (.dma (xr c))) 0 false ∗ reached ER (cell (px d) (.dma (xr c))) 0)
    ∗ outIn d c ∗ atPos ER (cell d (.dma (zs c))) 0 ∅ 0 ∗ atPos ER (cell d (.dma (xs c))) 0 ∅ 0)

/-- At the start, -/
def st₀ (d : Dev nD) (c : Fin 8) : sProp 𝕄 := iprop(zIn d c ∗ later d c)
/-- sent along z, -/
def st₁ (d : Dev nD) (c : Fin 8) : sProp 𝕄 := iprop((zOut A d c ∗ gatPost A d c) ∗ later d c)
/-- summed and sent along x, -/
def st₂ (d : Dev nD) (c : Fin 8) : sProp 𝕄 :=
  iprop(redOut A d c ∗ outIn d c ∗ (due d (.dma (zs c)) ∗ atPos ER (cell d (.dma (zs c))) 0 ∅ 0) ∗ atPos ER (cell d (.dma (xs c))) 0 ∅ 0 ∗ gatPost A d c)
/-- received along x, -/
def st₃ (d : Dev nD) (c : Fin 8) : sProp 𝕄 :=
  iprop(redOut A d c ∗ outOut A d c ∗ (due d (.dma (zs c)) ∗ atPos ER (cell d (.dma (zs c))) 0 ∅ 0) ∗ atPos ER (cell d (.dma (xs c))) 0 ∅ 0 ∗ gatPost A d c)
/-- and with nothing under way. -/
def st₄ (d : Dev nD) (c : Fin 8) : sProp 𝕄 :=
  iprop(drainOut A d c ∗ (atPos ER (cell d (.dma (zr c))) 1 ∅ 0 ∗ zrP d c (zsd (pz d) (A (pz d))) ∗ zsP d c qL (zsd d (A d)) ∗ outP d (lowB d c) (outv A d)
    ∗ xsP d c qL (xsd A d)) ∗ outOut A d c ∗ gatPost A d c)

/-! ## The gather, one chunk ahead -/

/-- Chunk `n`'s copies are in the air, if there is such a chunk. -/
def mid (d : Dev nD) (n : ℕ) : sProp 𝕄 := if h : n < 8 then gatMid A d ⟨n, h⟩ else iprop(emp)

theorem mid_lt (d : Dev nD) (c : Fin 8) : mid A d c.val = gatMid A d c := dif_pos c.isLt
theorem pending_over (n : ℕ) (h : 8 ≤ n) : (pending n : Finset (Fin 8)) = ∅ := Finset.filter_eq_empty_iff.mpr fun i _ => by have := i.isLt; omega

theorem take_next (Φ : Fin 8 → sProp 𝕄) (n : ℕ) (h : n < 8) : bigSep (pending n) Φ ⊢ iprop(Φ ⟨n, h⟩ ∗ bigSep (pending (n + 1)) Φ) :=
  Entails.of_eq (Transfers.bigSep_pending_step Φ n h)

/-- What the first stretch shares: the chunks not started, the one in the air, the operands and the debt. -/
def ahead (d : Dev nD) (n : ℕ) : sProp 𝕄 :=
  iprop(bigSep (pending (n + 1)) (gatPre A d) ∗ mid A d n ∗ idsP A d ∗ colP A d ∗ debt d (owX d 0 + owZ d n))

theorem await_z (d : Dev nD) (c : Fin 8) (k : P F) (Q : PUnit → sProp 𝕄) :
    iprop(records A K ∗ levAts L lv ∗ st₀ d c ∗ gatMid A d c ∗ colP A d ∗ debt d (owX d 0 + owZ d c.val)
        ∗ ((st₁ A d c ∗ colP A d ∗ debt d (owX d 0 + owZ d (c.val + 1))) -∗ WP d k Q))
      ⊢ WP d (await c (zStep d c k)) Q := by
  unfold st₀ st₁
  iintro ⟨#HR, #HL, ⟨Hz, Hl⟩, Hm, Hc, Ho, Hk⟩
  iapply (await_spec A d c _ (above_add (above_owX (by decide) d 0) (above_owZ (by decide) d c.val)) _ Q)
  isplitr; · iexact HL
  isplitl [Hm]; · iexact Hm
  isplitl [Ho]; · iexact Ho
  unfold gatPost
  iintro ⟨⟨Hg, Ht, Hs⟩, Ho⟩
  iapply (zStep_spec A K d c (owX d 0 + owZ d (c.val + 1)) k Q)
  isplitr; · iexact HR
  isplitl [Hz]; · iexact Hz
  isplitl [Hg]; · iexact Hg
  isplitl [Hc]; · iexact Hc
  isplitl [Ho]; · iapply (Entails.of_eq (by rw [owZ_step, ← add_assoc])) $$ Ho
  iintro ⟨Hz, Hg, Hc, Ho⟩
  iapply Hk
  isplitr [Hc Ho]
  · isplitr [Hl]
    · isplitl [Hz]; · iexact Hz
      isplitl [Hg]; · iexact Hg
      isplitl [Ht] <;> iassumption
    iexact Hl
  isplitl [Hc] <;> iassumption

theorem gatherStep_spec (d : Dev nD) (c : Fin 8) (k : P F) (Q : PUnit → sProp 𝕄) :
    iprop(records A K ∗ levAts L lv ∗ st₀ d c ∗ ahead A d c.val ∗ ((st₁ A d c ∗ ahead A d (c.val + 1)) -∗ WP d k Q)) ⊢ WP d (gatherStep d c k) Q := by
  unfold gatherStep ahead
  rw [mid_lt]
  iintro ⟨#HR, #HL, Hs, ⟨Hp, Hm, Hi, Hc, Ho⟩, Hk⟩
  by_cases h : c.val + 1 < 8
  · rw [dif_pos h]
    have e : mid A d (c.val + 1) = gatMid A d ⟨c.val + 1, h⟩ := dif_pos h
    rw [e]
    ihave Hp := (take_next (gatPre A d) (c.val + 1) h) $$ Hp
    icases Hp with ⟨Hn, Hp⟩
    iapply (issue_spec A d ⟨c.val + 1, h⟩ _ Q)
    isplitl [Hn]; · iexact Hn
    isplitl [Hi]; · iexact Hi
    iintro ⟨Hn, Hi⟩
    iapply (await_z A K d c k Q)
    isplitr; · iexact HR
    isplitr; · iexact HL
    isplitl [Hs]; · iexact Hs
    isplitl [Hm]; · iexact Hm
    isplitl [Hc]; · iexact Hc
    isplitl [Ho]; · iexact Ho
    iintro ⟨Hs, Hc, Ho⟩
    iapply Hk
    isplitl [Hs]; · iexact Hs
    isplitl [Hp]; · iexact Hp
    isplitl [Hn]; · iexact Hn
    isplitl [Hi]; · iexact Hi
    isplitl [Hc] <;> iassumption
  · rw [dif_neg h]
    have e : mid A d (c.val + 1) = iprop(emp) := dif_neg h
    rw [e, pending_over (c.val + 1) (by omega), pending_over (c.val + 1 + 1) (by omega)]
    iapply (await_z A K d c k Q)
    isplitr; · iexact HR
    isplitr; · iexact HL
    isplitl [Hs]; · iexact Hs
    isplitl [Hm]; · iexact Hm
    isplitl [Hc]; · iexact Hc
    isplitl [Ho]; · iexact Ho
    iintro ⟨Hs, Hc, Ho⟩
    iapply Hk
    isplitl [Hs]; · iexact Hs
    isplitl [Hp]; · iexact Hp
    isplitr; · iempintro
    isplitl [Hi]; · iexact Hi
    isplitl [Hc] <;> iassumption

/-! ## The four stretches -/

/-- A stretch of eight steps, each taking its chunk from one state to another. -/
theorem stretch (d : Dev nD) (f : Fin 8 → P F → P F) (X Y : Fin 8 → sProp 𝕄) (I : ℕ → sProp 𝕄) (Q : PUnit → sProp 𝕄)
    (h : ∀ (c : Fin 8) (k : P F), iprop(records A K ∗ levAts L lv ∗ X c ∗ I c.val ∗ ((Y c ∗ I (c.val + 1)) -∗ WP d k Q)) ⊢ WP d (f c k) Q) (k : P F) :
    iprop(records A K ∗ levAts L lv ∗ bigSep Finset.univ X ∗ I 0 ∗ ((bigSep Finset.univ Y ∗ I 8) -∗ WP d k Q)) ⊢ WP d (eight f k) Q := by
  iintro ⟨#HR, #HL, HX, HI, Hk⟩
  iapply (wp_eight_each d f X Y (fun n => iprop(records A K ∗ levAts L lv ∗ I n)) Q ?_ k)
  · intro c k
    iintro ⟨HX, ⟨#HR, #HL, HI⟩, Hk⟩
    iapply (h c k)
    isplitr; · iexact HR
    isplitr; · iexact HL
    isplitl [HX]; · iexact HX
    isplitl [HI]; · iexact HI
    iintro ⟨HY, HI⟩
    iapply Hk
    isplitl [HY]; · iexact HY
    isplitr; · iexact HR
    isplitr; · iexact HL
    iexact HI
  isplitl [HX]; · iexact HX
  isplitl [HI]
  · isplitr; · iexact HR
    isplitr; · iexact HL
    iexact HI
  iintro ⟨HY, -, -, HI⟩
  iapply Hk
  isplitl [HY] <;> iassumption

theorem sum_spec (d : Dev nD) (c : Fin 8) (k : P F) (Q : PUnit → sProp 𝕄) :
    iprop(records A K ∗ levAts L lv ∗ st₁ A d c ∗ debt d (owX d c.val) ∗ ((st₂ A d c ∗ debt d (owX d (c.val + 1))) -∗ WP d k Q)) ⊢ WP d (redStep d c k) Q := by
  unfold st₁ st₂ later zOut
  iintro ⟨#HR, #HL, ⟨⟨⟨Hz, Hdz⟩, Hg⟩, ⟨Hdr, Har, Hout, Hxs, Hxr, Ht, #Hre, Ht', #Hre'⟩, Hin, Haz, Hax⟩, Ho, Hk⟩
  iapply (redStep_spec A K d c (owX d (c.val + 1)) (by rw [← owX_step]; exact above_owX (by decide) d c.val) k Q)
  isplitr; · iexact HR
  isplitr; · iexact HL
  isplitl [Hdr Har Hz Hout Hxs Hxr Ht Ht']
  · unfold redIn
    isplitl [Hdr]; · iexact Hdr
    isplitl [Har]; · iexact Har
    isplitl [Hz]; · iexact Hz
    isplitl [Hout]; · iexact Hout
    isplitl [Hxs]; · iexact Hxs
    isplitl [Hxr]; · iexact Hxr
    isplitl [Ht]; · iexact Ht
    isplitr; · iexact Hre
    isplitl [Ht']; · iexact Ht'
    iexact Hre'
  isplitl [Ho]; · iapply (Entails.of_eq (by rw [owX_step])) $$ Ho
  iintro ⟨Hred, Ho⟩
  iapply Hk
  isplitr [Ho]
  · isplitl [Hred]; · iexact Hred
    isplitl [Hin]; · iexact Hin
    isplitl [Hdz Haz]
    · isplitl [Hdz] <;> iassumption
    isplitl [Hax] <;> iassumption
  iexact Ho

theorem recv_spec (d : Dev nD) (c : Fin 8) (k : P F) (Q : PUnit → sProp 𝕄) :
    iprop(records A K ∗ levAts L lv ∗ st₂ A d c ∗ debt d 0 ∗ ((st₃ A d c ∗ debt d 0) -∗ WP d k Q)) ⊢ WP d (outStep d c k) Q := by
  unfold st₂ st₃
  iintro ⟨#HR, #HL, ⟨Hred, Hin, Hrest⟩, Ho, Hk⟩
  iapply (outStep_spec A K d c k Q)
  isplitr; · iexact HR
  isplitr; · iexact HL
  isplitl [Hin]; · iexact Hin
  isplitl [Ho]; · iexact Ho
  iintro ⟨Hout, Ho⟩
  iapply Hk
  isplitr [Ho]
  · isplitl [Hred]; · iexact Hred
    isplitl [Hout] <;> iassumption
  iexact Ho

theorem drain_spec (d : Dev nD) (c : Fin 8) (k : P F) (Q : PUnit → sProp 𝕄) :
    iprop(records A K ∗ levAts L lv ∗ st₃ A d c ∗ debt d 0 ∗ ((st₄ A d c ∗ debt d 0) -∗ WP d k Q)) ⊢ WP d (drainStep c k) Q := by
  unfold st₃ st₄ redOut
  iintro ⟨#HR, #HL, ⟨⟨Har, Hzr, Hz, Hlow, Hx, Hdx⟩, Hout, Hz', Hax, Hg⟩, Ho, Hk⟩
  iapply (drainStep_spec A K d c k Q)
  isplitr; · iexact HR
  isplitr; · iexact HL
  isplitl [Hz' Hdx Hax]
  · unfold drainIn
    isplitl [Hz']; · iexact Hz'
    isplitl [Hdx] <;> iassumption
  isplitl [Ho]; · iexact Ho
  iintro ⟨Hdr, Ho⟩
  iapply Hk
  isplitr [Ho]
  · isplitl [Hdr]; · iexact Hdr
    isplitl [Har Hzr Hz Hlow Hx]
    · isplitl [Har]; · iexact Har
      isplitl [Hzr]; · iexact Hzr
      isplitl [Hz]; · iexact Hz
      isplitl [Hlow] <;> iassumption
    isplitl [Hout] <;> iassumption
  iexact Ho

/-- The body after the barrier takes every chunk from its first state to its last. -/
theorem main_spec (d : Dev nD) (Q : PUnit → sProp 𝕄) :
    iprop(records A K ∗ levAts L lv ∗ bigSep Finset.univ (st₀ (F := F) d) ∗ bigSep Finset.univ (gatPre A d) ∗ idsP A d ∗ colP A d ∗ debt d (owX d 0 + owZ d 0)
        ∗ ((bigSep Finset.univ (st₄ A d) ∗ idsP A d ∗ colP A d ∗ debt d 0) -∗ WP d (Prog.ret ⟨⟩) Q))
      ⊢ WP d (main₁ d) Q := by
  unfold main₁
  iintro ⟨#HR, #HL, Hs, Hp, Hi, Hc, Ho, Hk⟩
  ihave Hp := ((Entails.of_eq (by rw [Transfers.pending_zero])).trans (take_next (gatPre A d) 0 (by decide))) $$ Hp
  icases Hp with ⟨H0, Hp⟩
  iapply (issue_spec A d 0 _ Q)
  isplitl [H0]; · iexact H0
  isplitl [Hi]; · iexact Hi
  iintro ⟨Hm, Hi⟩
  iapply (stretch A K d (gatherStep d) (st₀ d) (st₁ A d) (ahead A d) Q (fun c k => gatherStep_spec A K d c k Q) _)
  isplitr; · iexact HR
  isplitr; · iexact HL
  isplitl [Hs]; · iexact Hs
  isplitr [Hk]
  · unfold ahead
    isplitl [Hp]; · iexact Hp
    isplitl [Hm]; · iapply (show gatMid A d 0 ⊢ mid A d 0 from Entails.of_eq (mid_lt A d 0).symm) $$ Hm
    isplitl [Hi]; · iexact Hi
    isplitl [Hc] <;> iassumption
  unfold ahead
  rw [owZ_end, add_zero]
  iintro ⟨Hs, -, -, Hi, Hc, Ho⟩
  iapply (stretch A K d (redStep d) (st₁ A d) (st₂ A d) (fun n => debt d (owX d n)) Q (fun c k => sum_spec A K d c k Q) _)
  isplitr; · iexact HR
  isplitr; · iexact HL
  isplitl [Hs]; · iexact Hs
  isplitl [Ho]; · iexact Ho
  rw [owX_end]
  iintro ⟨Hs, Ho⟩
  iapply (stretch A K d (outStep d) (st₂ A d) (st₃ A d) (fun _ => debt d 0) Q (fun c k => recv_spec A K d c k Q) _)
  isplitr; · iexact HR
  isplitr; · iexact HL
  isplitl [Hs]; · iexact Hs
  isplitl [Ho]; · iexact Ho
  iintro ⟨Hs, Ho⟩
  iapply (stretch A K d drainStep (st₃ A d) (st₄ A d) (fun _ => debt d 0) Q (fun c k => drain_spec A K d c k Q) _)
  isplitr; · iexact HR
  isplitr; · iexact HL
  isplitl [Hs]; · iexact Hs
  isplitl [Ho]; · iexact Ho
  iintro ⟨Hs, Ho⟩
  iapply Hk
  isplitl [Hs]; · iexact Hs
  isplitl [Hi]; · iexact Hi
  isplitl [Hc] <;> iassumption

end Cert.KernelIdeal.Lookup

end
-- ==== Proof.KernelIdeal.Start.lean ====
/-
  What the body starts from, and how it makes every chunk's first state.
-/
module

public import proofs.«01_k».proof.Proof.KernelIdeal.Stretches

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Cert.KernelIdeal.Gen

variable {F : FTy → Type} [FloatOps F]

local notation "𝕄" => MT nD τ sig Unit (Elt F) ℕ UU ℕ

variable (A : Dev nD → Given F) (K : GSem nD τ sig → ℕ)

/-! ## What the body starts from and ends with -/

/-- A buffer at some contents. -/
abbrev someOf (d : Dev nD) (b : Ref sig .tc) : sProp 𝕄 := iprop(∃ f : Buf (Elt F) ((d : Thread nD τ).loc b), ((d : Thread nD τ).loc b) ↦{fullShare} f)

/-- The five scratch buffers, at some contents. -/
def scratch (d : Dev nD) : sProp 𝕄 :=
  iprop(someOf d cc0_scratch0 ∗ someOf d cc0_scratch1 ∗ someOf d cc0_scratch2 ∗ someOf d cc0_scratch3 ∗ someOf d cc0_scratch4)

/-- The device's place in chunk `c`'s cells, and the rights to pay what it pays. -/
def placeC (d : Dev nD) (c : Fin 8) : sProp 𝕄 :=
  iprop((atPos ER (cell d (.dma (zs c))) 0 ∅ 0 ∗ atPos ER (cell d (.dma (zr c))) 0 ∅ 0 ∗ atPos ER (cell d (.dma (xs c))) 0 ∅ 0 ∗ atPos ER (cell d (.dma (xr c))) 0 ∅ 0)
    ∗ (dutyTok ER (cell d (.dma (zs c))) 0 false ∗ dutyTok ER (cell (pz d) (.dma (zr c))) 0 false
      ∗ dutyTok ER (cell d (.dma (xs c))) 0 false ∗ dutyTok ER (cell (px d) (.dma (xr c))) 0 false)
    ∗ due d (.dma (zr c)) ∗ due d (.dma (xr c)))
/-- Chunk `c`'s cells are open. -/
def openC (d : Dev nD) (c : Fin 8) : sProp 𝕄 :=
  iprop(reached ER (cell d (.dma (zs c))) 0 ∗ reached ER (cell d (.dma (zr c))) 0 ∗ reached ER (cell d (.dma (xs c))) 0 ∗ reached ER (cell d (.dma (xr c))) 0)
instance openC_persistent (d : Dev nD) (c : Fin 8) : BI.Persistent (openC (F := F) d c) := by unfold openC; infer_instance

/-- The counters of the row copies. -/
def gSems (d : Dev nD) : sProp 𝕄 := bigSep Finset.univ fun c : Fin 8 => semVal (cell d (.dma (gs c))) 0
/-- The counters of the sends and arrivals. -/
def zxSems (d : Dev nD) (c : Fin 8) : sProp 𝕄 :=
  iprop(semVal (cell d (.dma (zs c))) 0 ∗ semVal (cell d (.dma (zr c))) 0 ∗ semVal (cell d (.dma (xs c))) 0 ∗ semVal (cell d (.dma (xr c))) 0)

/-- The device's place at the barrier, the rights to pay its neighbours', and the credit to wait with. -/
def placeBar (d : Dev nD) : sProp 𝕄 :=
  iprop(atPos ER (cell d (.reg bs)) 0 ∅ 0 ∗ dutyTok ER (cell (pz d) (.reg bs)) 0 false ∗ dutyTok ER (cell (px d) (.reg bs)) 0 true
    ∗ cred (tallyAt (cell d (.reg bs)) () 2))

/-- The operands. -/
abbrev opnds (d : Dev nD) : sProp 𝕄 := iprop(idsP A d ∗ colP A d ∗ tabP A d Finset.univ fullShare)

/-! ## Putting the chunks together at the start -/

theorem lendZ_intro (d : Dev nD) : iprop(someOf (F := F) d cc0_scratch2 ∗ bigSep Finset.univ (openC d)) ⊢ lendZ (F := F) d := by
  unfold lendZ openC
  iintro ⟨H, #Ho⟩
  isplitl [H]
  · iapply (split_any ((d : Thread nD τ).loc cc0_scratch2) chunk chunks_all chunks_apart) $$ H
  ihave H := unzip $$ Ho
  icases H with ⟨-, H⟩
  ihave H := unzip $$ H
  icases H with ⟨H, -⟩
  iexact H
theorem lendX_intro (d : Dev nD) : iprop(someOf (F := F) d cc0_scratch4 ∗ bigSep Finset.univ (openC d)) ⊢ lendX (F := F) d := by
  unfold lendX openC
  iintro ⟨H, #Ho⟩
  isplitl [H]
  · iapply (split_any ((d : Thread nD τ).loc cc0_scratch4) chunk chunks_all chunks_apart) $$ H
  ihave H := unzip $$ Ho
  icases H with ⟨-, H⟩
  ihave H := unzip $$ H
  icases H with ⟨-, H⟩
  ihave H := unzip $$ H
  icases H with ⟨-, H⟩
  iexact H

/-- One chunk's first state. -/
theorem st₀_intro (d : Dev nD) (c : Fin 8) :
    iprop(((∃ f, zsP d c fullShare f) ∗ (∃ f, xsP d c fullShare f) ∗ ((∃ f, zrP (pz d) c f) ∗ reached ER (cell (pz d) (.dma (zr c))) 0)
        ∗ ((∃ f, xrP (px d) c f) ∗ reached ER (cell (px d) (.dma (xr c))) 0) ∗ (∃ f, outP d (lowB d c) f) ∗ (∃ f, outP d (highB d c) f))
      ∗ placeC d c ∗ openC d c) ⊢ st₀ (F := F) d c := by
  unfold placeC openC st₀ zIn later outIn
  iintro ⟨⟨Hzs, Hxs, ⟨Hzr, #Hrz⟩, ⟨Hxr, #Hrx⟩, Hlow, Hhigh⟩, ⟨⟨Pzs, Pzr, Pxs, Pxr⟩, ⟨Tzs, Tzr, Txs, Txr⟩, Dz, Dx⟩, #Ozs, -, #Oxs, -⟩
  isplitl [Hzs Hzr Tzs Tzr]
  · isplitl [Hzs]; · iexact Hzs
    isplitl [Hzr]; · iexact Hzr
    isplitl [Tzs]; · iexact Tzs
    isplitr; · iexact Ozs
    isplitl [Tzr]; · iexact Tzr
    iexact Hrz
  isplitl [Dz Pzr Hlow Hxs Hxr Txs Txr]
  · isplitl [Dz]; · iexact Dz
    isplitl [Pzr]; · iexact Pzr
    isplitl [Hlow]; · iexact Hlow
    isplitl [Hxs]; · iexact Hxs
    isplitl [Hxr]; · iexact Hxr
    isplitl [Txs]; · iexact Txs
    isplitr; · iexact Oxs
    isplitl [Txr]; · iexact Txr
    iexact Hrx
  isplitl [Dx Pxr Hhigh]
  · isplitl [Dx]; · iexact Dx
    isplitl [Pxr] <;> iassumption
  isplitl [Pzs] <;> iassumption

/-- Every chunk's first state. -/
theorem starts (d : Dev nD) (f : S2048x1024.Idx → Elt F .f32) :
    iprop(someOf d cc0_scratch1 ∗ someOf d cc0_scratch3 ∗ lendZ (pz d) ∗ lendX (px d) ∗ (mOut.view.loc (d : Thread nD τ) ↦{fullShare} f)
      ∗ bigSep Finset.univ (placeC d) ∗ bigSep Finset.univ (openC d)) ⊢ bigSep Finset.univ (st₀ (F := F) d) := by
  unfold lendZ lendX
  iintro ⟨Hzs, Hxs, ⟨Hzr, Hrz⟩, ⟨Hxr, Hrx⟩, Ho, Hp, Hopen⟩
  ihave Ho := (Entails.of_eq (out_parts d f)) $$ Ho
  icases Ho with ⟨Hl, Hh⟩
  iapply (show (bigSep Finset.univ fun c => _) ⊢ bigSep Finset.univ (st₀ (F := F) d) from BI.bigSep_mono fun c _ => st₀_intro d c)
  iapply zip
  isplitr [Hp Hopen]
  · iapply zip; isplitl [Hzs]; · iapply (split_any ((d : Thread nD τ).loc cc0_scratch1) chunk chunks_all chunks_apart) $$ Hzs
    iapply zip; isplitl [Hxs]; · iapply (split_any ((d : Thread nD τ).loc cc0_scratch3) chunk chunks_all chunks_apart) $$ Hxs
    iapply zip; isplitl [Hzr Hrz]
    · iapply zip; isplitl [Hzr] <;> iassumption
    iapply zip; isplitl [Hxr Hrx]
    · iapply zip; isplitl [Hxr] <;> iassumption
    iapply zip; isplitl [Hl]
    · iapply (show (bigSep Finset.univ fun c => (outP d (lowB d c) f : sProp 𝕄)) ⊢ bigSep Finset.univ fun c => iprop(∃ f, outP d (lowB d c) f) from
        BI.bigSep_mono fun c _ => exists_intro (Φ := fun f => (outP d (lowB d c) f : sProp 𝕄)) f) $$ Hl
    iapply (show (bigSep Finset.univ fun c => (outP d (highB d c) f : sProp 𝕄)) ⊢ bigSep Finset.univ fun c => iprop(∃ f, outP d (highB d c) f) from
      BI.bigSep_mono fun c _ => exists_intro (Φ := fun f => (outP d (highB d c) f : sProp 𝕄)) f) $$ Hh
  iapply zip
  isplitl [Hp] <;> iassumption

/-- One chunk's gather, not started. -/
theorem gatPre_intro (d : Dev nD) (c : Fin 8) :
    iprop((∃ f, gatP d (chunk c) f) ∗ tabP A d Finset.univ (qE c) ∗ semVal (cell d (.dma (gs c))) 0) ⊢ gatPre A d c := by
  unfold gatPre
  iintro H
  iexact H
/-- Every chunk's gather, not started. -/
theorem gathers (d : Dev nD) :
    iprop(someOf d cc0_scratch0 ∗ (bigSep Finset.univ fun c => tabP A d Finset.univ (qE c)) ∗ gSems d) ⊢ bigSep Finset.univ (gatPre A d) := by
  unfold gSems
  iintro ⟨Hg, Ht, Hs⟩
  iapply (show (bigSep Finset.univ fun c => iprop((∃ f, gatP d (chunk c) f) ∗ tabP A d Finset.univ (qE c) ∗ semVal (cell d (.dma (gs c))) 0)) ⊢ bigSep Finset.univ (gatPre A d) from
    BI.bigSep_mono fun c _ => gatPre_intro A d c)
  iapply zip; isplitl [Hg]; · iapply (split_any ((d : Thread nD τ).loc cc0_scratch0) chunk chunks_all chunks_apart) $$ Hg
  iapply zip; isplitl [Ht] <;> iassumption

end Cert.KernelIdeal.Lookup

end
-- ==== Proof.KernelIdeal.Body.lean ====
/-
  The whole body: the barrier, the four stretches, and every cell closed.
-/
module

public import proofs.«01_k».proof.Proof.KernelIdeal.Start

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Cert.KernelIdeal.Gen

variable {F : FTy → Type} [FloatOps F]

local notation "𝕄" => MT nD τ sig Unit (Elt F) ℕ UU ℕ

variable (A : Dev nD → Given F) (K : GSem nD τ sig → ℕ)

/-! ## The barrier -/

/-- A device tells a neighbour that it is in the kernel. -/
theorem signal_spec (d e : Dev nD) (b : Bool) (O : CellTallies nD τ sig Unit) (k : P F) (Q : PUnit → sProp 𝕄) :
    iprop(records A K ∗ dutyTok ER (cell e (.reg bs)) 0 b ∗ (sch A).payload (cell e (.reg bs)) 0 b ∗ debt d (O + tallyAt (cell e (.reg bs)) () 1)
        ∗ (debt d O -∗ WP d k Q))
      ⊢ WP d (semSignalWord e bs 1#32 >>= fun _ => k) Q := by
  iintro ⟨#HR, Ht, Hp, ⟨%W, Ho⟩, Hk⟩
  iapply (Rounds.wp_signal 𝒱₀ ER (sch A) (d : Thread nD τ) none (dst := (e : Thread nD τ)) (sem := bs) (r := 0) (d := b) (κ := K (cell e (.reg bs)))
    (by rw [duties_bar]; cases b <;> decide) (amount_bar A e b) () O rfl) $$ [Ht Hp Ho]
  · isplitr; · iapply (inv_bar A K e) $$ HR
    isplitl [Ho]; · iexact Ho
    isplitl [Ht]; · iexact Ht
    isplitl [Hp]; · iexact Hp
    iapply (reached_bar A K e) $$ HR
  iintro Ho
  iapply Hk
  iexists W
  iexact Ho

/-- A device waits until both neighbours are in the kernel. -/
theorem barrier_spec (d : Dev nD) (O : CellTallies nD τ sig Unit) (hO : Above 1 O) (k : P F) (Q : PUnit → sProp 𝕄) :
    iprop(records A K ∗ levAts L lv ∗ cred (tallyAt (cell d (.reg bs)) () 2) ∗ atPos ER (cell d (.reg bs)) 0 ∅ 0 ∗ debt d O
        ∗ ((debt d O ∗ atPos ER (cell d (.reg bs)) 1 ∅ 0 ∗ lendZ (pz d) ∗ lendX (px d)) -∗ WP d k Q))
      ⊢ WP d (semWaitWord bs 2#32 >>= fun _ => k) Q := by
  iintro ⟨#HR, #HL, Hc, Ha, ⟨%W, Ho⟩, Hk⟩
  iapply (Rounds.wp_wait_rest_token 𝒱₀ ER (sch A) (d : Thread nD τ) none (κ := K (cell d (.reg bs)))
    (wpE_semWait_eq 𝒱₀ (d : Thread nD τ) none Set.univ) (Set.mem_univ _) () (O := O) (W := W) (R := 0) (m := 0) (T := ∅)
    ((Nat.zero_add 2).trans (expect_bar A d).symm)) $$ [Hc Ho Ha]
  · isplitr; · iapply (inv_bar A K d) $$ HR
    isplitl [Hc]; · iexact Hc
    isplitl [Ho]; · iexact Ho
    isplitr; · iapply (mayWait d (.reg bs) O (by rw [lv_bar]; exact hO)) $$ HL
    iexact Ha
  iintro ⟨Ho, Ha, -, Hp⟩
  iapply Hk
  isplitl [Ho]; · iexists _; iexact Ho
  isplitl [Ha]; · iexact Ha
  iapply (Entails.of_eq (rest_bar A d)) $$ Hp

/-! ## Closing the cells -/

/-- A cell whose round is over is closed: its counter is back, at zero. -/
theorem close_arr (d : Dev nD) (a : Fin 4) (c : Fin 8) (sm : DmaSem sig) (hsm : sm = arr a c) :
    iprop(records A K ∗ atPos ER (cell d (.dma sm)) 1 ∅ 0) ⊢ iprop(|={Set.univ}=> semVal (cell d (.dma sm)) 0) := by
  subst hsm
  iintro ⟨#HR, Ha⟩
  iapply (Rounds.cell_close ER (sch A) (g := cell d (.dma (arr a c))) (κ := K (cell d (.dma (arr a c)))) (Set.mem_univ _) id (duties_later A _))
  isplitr; · iapply (inv_arr A K d a c) $$ HR
  iexact Ha
theorem close_bar (d : Dev nD) :
    iprop(records A K ∗ atPos ER (cell d (.reg bs)) 1 ∅ 0) ⊢ iprop(|={Set.univ}=> semVal (cell d (.reg bs)) 0) := by
  iintro ⟨#HR, Ha⟩
  iapply (Rounds.cell_close ER (sch A) (g := cell d (.reg bs)) (κ := K (cell d (.reg bs))) (Set.mem_univ _) id (duties_later A _))
  isplitr; · iapply (inv_bar A K d) $$ HR
  iexact Ha

/-- What one chunk leaves, its cells closed. -/
def st₅ (d : Dev nD) (c : Fin 8) : sProp 𝕄 :=
  iprop(zxSems d c ∗ zsP d c fullShare (zsd d (A d)) ∗ xsP d c fullShare (xsd A d) ∗ zrP d c (zsd (pz d) (A (pz d))) ∗ xrP d c (xsd A (px d))
    ∗ outP d (lowB d c) (outv A d) ∗ outP d (highB d c) (outv A d) ∗ gatPost A d c)

theorem st₅_intro (d : Dev nD) (c : Fin 8) : iprop(records A K ∗ st₄ A d c) ⊢ iprop(|={Set.univ}=> st₅ A d c) := by
  unfold st₄ st₅ drainOut outOut zxSems
  iintro ⟨#HR, ⟨⟨Azs, zR⟩, Axs, xR⟩, ⟨Azr, Hzr, zL, Hlow, xL⟩, ⟨Axr, Hxr, Hhigh⟩, Hg⟩
  imod (close_arr A K d 0 c (zs c) rfl) $$ [Azs] with Szs
  · isplitr; · iexact HR
    iexact Azs
  imod (close_arr A K d 1 c (zr c) rfl) $$ [Azr] with Szr
  · isplitr; · iexact HR
    iexact Azr
  imod (close_arr A K d 2 c (xs c) rfl) $$ [Axs] with Sxs
  · isplitr; · iexact HR
    iexact Axs
  imod (close_arr A K d 3 c (xr c) rfl) $$ [Axr] with Sxr
  · isplitr; · iexact HR
    iexact Axr
  imodintro
  isplitl [Szs Szr Sxs Sxr]
  · isplitl [Szs]; · iexact Szs
    isplitl [Szr]; · iexact Szr
    isplitl [Sxs] <;> iassumption
  isplitl [zL zR]
  · iapply (pointsTo_share (PosShare.mem_left_op_right fullShare)).2
    isplitl [zL] <;> iassumption
  isplitl [xL xR]
  · iapply (pointsTo_share (PosShare.mem_left_op_right fullShare)).2
    isplitl [xL] <;> iassumption
  isplitl [Hzr]; · iexact Hzr
  isplitl [Hxr]; · iexact Hxr
  isplitl [Hlow]; · iexact Hlow
  isplitl [Hhigh] <;> iassumption

/-! ## Putting the chunks together at the end -/

/-- The chunks of a buffer are the buffer. -/
theorem join_chunks (d : Dev nD) (b : Ref sig .tc) (B : Fin 8 → Finset (Idx ((d : Thread nD τ).loc b)))
    (hu : (Finset.univ : Finset (Idx ((d : Thread nD τ).loc b))) = Finset.univ.biUnion B) (hd : ∀ i j, i ≠ j → Disjoint (B i) (B j))
    (f : Buf (Elt F) ((d : Thread nD τ).loc b)) :
    (bigSep Finset.univ fun c => (((d : Thread nD τ).loc b) ↦[B c]{fullShare} f : sProp 𝕄)) ⊢ someOf d b := by
  iintro H
  iexists f
  iapply (Entails.of_eq (parts ((d : Thread nD τ).loc b) fullShare f B hu hd)) $$ H

/-- What the body leaves: the operands as they were, the output with the device's result in it, and every counter at zero. -/
def bodyPost (d : Dev nD) : sProp 𝕄 :=
  iprop(opnds A d ∗ (mOut.view.loc (d : Thread nD τ) ↦{fullShare} outv A d) ∗ scratch d ∗ gSems d ∗ (bigSep Finset.univ (zxSems d)) ∗ semVal (cell d (.reg bs)) 0 ∗ debt d 0)

theorem finish (d : Dev nD) :
    iprop((bigSep Finset.univ (st₅ A d)) ∗ idsP A d ∗ colP A d ∗ tabP A d Finset.univ (Transfers.shareDrop fullShare 8) ∗ semVal (cell d (.reg bs)) 0 ∗ debt d 0)
      ⊢ bodyPost A d := by
  unfold st₅ gatPost bodyPost scratch gSems
  iintro ⟨H, Hi, Hc, Ht, Hb, Ho⟩
  ihave H := unzip $$ H; icases H with ⟨Hs, H⟩
  ihave H := unzip $$ H; icases H with ⟨Hzs, H⟩
  ihave H := unzip $$ H; icases H with ⟨Hxs, H⟩
  ihave H := unzip $$ H; icases H with ⟨Hzr, H⟩
  ihave H := unzip $$ H; icases H with ⟨Hxr, H⟩
  ihave H := unzip $$ H; icases H with ⟨Hl, H⟩
  ihave H := unzip $$ H; icases H with ⟨Hh, H⟩
  ihave H := unzip $$ H; icases H with ⟨Hg, H⟩
  ihave H := unzip $$ H; icases H with ⟨Hq, Hgs⟩
  isplitl [Hi Hc Ht Hq]
  · isplitl [Hi]; · iexact Hi
    isplitl [Hc]; · iexact Hc
    iapply (tab_parts A d).2
    isplitl [Ht] <;> iassumption
  isplitl [Hl Hh]
  · iapply (Entails.of_eq (out_parts d (outv A d)).symm)
    isplitl [Hl] <;> iassumption
  isplitl [Hzs Hxs Hzr Hxr Hg]
  · isplitl [Hg]; · iapply (join_chunks d cc0_scratch0 chunk chunks_all chunks_apart (gat d (A d))) $$ Hg
    isplitl [Hzs]; · iapply (join_chunks d cc0_scratch1 chunk chunks_all chunks_apart (zsd d (A d))) $$ Hzs
    isplitl [Hzr]; · iapply (join_chunks d cc0_scratch2 chunk chunks_all chunks_apart (zsd (pz d) (A (pz d)))) $$ Hzr
    isplitl [Hxs]; · iapply (join_chunks d cc0_scratch3 chunk chunks_all chunks_apart (xsd A d)) $$ Hxs
    iapply (join_chunks d cc0_scratch4 chunk chunks_all chunks_apart (xsd A (px d))) $$ Hxr
  isplitl [Hgs]; · iexact Hgs
  isplitl [Hs]; · iexact Hs
  isplitl [Hb] <;> iassumption

/-! ## The body -/

/-- The device's number is read for nothing. -/
theorem device_spec (d : Dev nD) (k : Dev nD → P F) (Q : PUnit → sProp 𝕄) : WP d (k d) Q ⊢ WP d (.op .deviceId k) Q := by
  unfold WP
  rw [wp_deviceId]
/-- At the end an update may be made. -/
theorem wp_done_upd (d : Dev nD) (Q : PUnit → sProp 𝕄) : iprop(|={Set.univ}=> Q ⟨⟩) ⊢ WP d (Prog.ret ⟨⟩) Q := by
  unfold WP
  rw [wp_ret]

/-- What the body starts from. -/
def bodyPre (d : Dev nD) : sProp 𝕄 :=
  iprop(opnds A d ∗ (∃ f : S2048x1024.Idx → Elt F .f32, mOut.view.loc (d : Thread nD τ) ↦{fullShare} f) ∗ scratch d ∗ gSems d
    ∗ (bigSep Finset.univ (placeC d)) ∗ (bigSep Finset.univ (openC d)) ∗ placeBar d ∗ debt d (owe₀ d))

theorem body_spec (d : Dev nD) (Q : PUnit → sProp 𝕄) :
    iprop(records A K ∗ levAts L lv ∗ bodyPre A d ∗ (bodyPost A d -∗ Q ⟨⟩)) ⊢ WP d body Q := by
  unfold bodyPre scratch placeBar
  iintro ⟨#HR, #HL, ⟨⟨Hi, Hc, Ht⟩, ⟨%fo, Hout⟩, ⟨Hg, Hzs, Hzr, Hxs, Hxr⟩, Hgs, Hp, #Hop, ⟨Hba, Hbz, Hbx, Hbc⟩, Ho⟩, HQ⟩
  unfold body
  iapply (device_spec d _ Q)
  iapply (signal_spec A K d (pz d) false ((owX d 0 + owZ d 0) + tallyAt (cell (px d) (.reg bs)) () 1) _ Q)
  isplitr; · iexact HR
  isplitl [Hbz]; · iexact Hbz
  isplitl [Hzr]
  · iapply (Entails.of_eq ((payload_barZ A (pz d)).trans (congrArg lendZ (pz_pz d))).symm)
    iapply (lendZ_intro d)
    isplitl [Hzr]; · iexact Hzr
    iexact Hop
  isplitl [Ho]; · iexact Ho
  iintro Ho
  iapply (signal_spec A K d (px d) true (owX d 0 + owZ d 0) _ Q)
  isplitr; · iexact HR
  isplitl [Hbx]; · iexact Hbx
  isplitl [Hxr]
  · iapply (Entails.of_eq ((payload_barX A (px d)).trans (congrArg lendX (px_px d))).symm)
    iapply (lendX_intro d)
    isplitl [Hxr]; · iexact Hxr
    iexact Hop
  isplitl [Ho]; · iexact Ho
  iintro Ho
  iapply (barrier_spec A K d (owX d 0 + owZ d 0) (above_add (above_owX (by decide) d 0) (above_owZ (by decide) d 0)) _ Q)
  isplitr; · iexact HR
  isplitr; · iexact HL
  isplitl [Hbc]; · iexact Hbc
  isplitl [Hba]; · iexact Hba
  isplitl [Ho]; · iexact Ho
  iintro ⟨Ho, Hba, Hlz, Hlx⟩
  ihave Ht := (tab_parts A d).1 $$ Ht
  icases Ht with ⟨Ht, Hq⟩
  iapply (main_spec A K d Q)
  isplitr; · iexact HR
  isplitr; · iexact HL
  isplitl [Hzs Hxs Hlz Hlx Hout Hp]
  · iapply (starts d fo)
    isplitl [Hzs]; · iexact Hzs
    isplitl [Hxs]; · iexact Hxs
    isplitl [Hlz]; · iexact Hlz
    isplitl [Hlx]; · iexact Hlx
    isplitl [Hout]; · iexact Hout
    isplitl [Hp]; · iexact Hp
    iexact Hop
  isplitl [Hg Hq Hgs]
  · iapply (gathers A d)
    isplitl [Hg]; · iexact Hg
    isplitl [Hq] <;> iassumption
  isplitl [Hi]; · iexact Hi
  isplitl [Hc]; · iexact Hc
  isplitl [Ho]; · iexact Ho
  iintro ⟨H, Hi, Hc, Ho⟩
  iapply (wp_done_upd d Q)
  imod (close_bar A K d) $$ [Hba] with Hb
  · isplitr; · iexact HR
    iexact Hba
  ihave H := (show iprop(records A K ∗ bigSep Finset.univ (st₄ A d)) ⊢ bigSep Finset.univ fun c => iprop(|={Set.univ}=> st₅ A d c) from
    BI.bigSep_with_persistent fun c _ => st₅_intro A K d c) $$ [H]
  · isplitr; · iexact HR
    iexact H
  imod (BI.bigSep_fupd Finset.univ (st₅ A d)) $$ H with H
  imodintro
  iapply HQ
  iapply (finish A d)
  isplitl [H]; · iexact H
  isplitl [Hi]; · iexact Hi
  isplitl [Hc]; · iexact Hc
  isplitl [Ht]; · iexact Ht
  isplitl [Hb] <;> iassumption

end Cert.KernelIdeal.Lookup

end
-- ==== Proof.KernelIdeal.TextEq.lean ====
/-
  The printed body is `Lookup.body`.
-/
module

public import proofs.«01_k».proof.Proof.KernelIdeal.Text

@[expose] public section

set_option maxRecDepth 65536

noncomputable section

namespace Cert.KernelIdeal.Lookup

open Idealize.ShloMosaic Idealize.ShloMosaic.TcCoe Idealize.SL.Sem
open Cert.KernelIdeal.Gen

variable {F : FTy → Type} [FloatOps F]

set_option maxHeartbeats 0 in
/-- The printed body, on this kernel's operands, is `body`. -/
theorem body_eq : cc0_body (F := F) mIds (Memref.isWhole_whole _) mCol (Memref.isWhole_whole _) mTab (Memref.isWhole_whole _) mOut (Memref.isWhole_whole _)
    mGat (Memref.isWhole_whole _) mZs (Memref.isWhole_whole _) mZr (Memref.isWhole_whole _) mXs (Memref.isWhole_whole _) mXr (Memref.isWhole_whole _)
    cc0_scratch5 cc0_scratch6 cc0_scratch7 cc0_scratch8 cc0_scratch9 = body := by
  rw [cc0_body_eq_skeleton]
  unfold cc0_body_skel
  simp only [k0_part41_eq_skeleton, k0_part41_skel,k0_part42_eq_skeleton, k0_part42_skel,k0_part43_eq_skeleton, k0_part43_skel,k0_part44_eq_skeleton, k0_part44_skel,k0_part45_eq_skeleton, k0_part45_skel,k0_part46_eq_skeleton, k0_part46_skel,k0_part47_eq_skeleton, k0_part47_skel,k0_part48_eq_skeleton, k0_part48_skel,k0_part49_eq_skeleton, k0_part49_skel,k0_part50_eq_skeleton, k0_part50_skel,k0_part51_eq_skeleton, k0_part51_skel,k0_part52_eq_skeleton, k0_part52_skel,k0_part53_eq_skeleton, k0_part53_skel,k0_part54_eq_skeleton, k0_part54_skel,k0_part55_eq_skeleton, k0_part55_skel,k0_part56_eq_skeleton, k0_part56_skel,k0_part57_eq_skeleton, k0_part57_skel,k0_part58_eq_skeleton, k0_part58_skel,k0_part59_eq_skeleton, k0_part59_skel,k0_part60_eq_skeleton, k0_part60_skel,k0_part61_eq_skeleton, k0_part61_skel,k0_part62_eq_skeleton, k0_part62_skel,k0_part63_eq_skeleton, k0_part63_skel,k0_part64_eq_skeleton, k0_part64_skel,k0_part65_eq_skeleton, k0_part65_skel,
    Prog.lift, Prog.bind_op, Prog.bind_ret, Prog.pure_eq_ret, Prog.bind_assoc]
  rfl

end Cert.KernelIdeal.Lookup

end
-- ==== Proof.KernelIdeal.Region.lean ====
/-
  The region that runs the body: what enters it, what leaves it, and its proof data.
-/
module

public import proofs.«01_k».proof.Proof.KernelIdeal.Body
public import proofs.«01_k».proof.Proof.KernelIdeal.TextEq
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Harness.Basic

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## The memory around the region -/

/-- A device's buffers at launch, -/
abbrev V₀ (c : Dev nD) : Valuation τ sig (Elt F) := fun b => m (c, b)
/-- after the host's operation, -/
abbrev V₁ (c : Dev nD) : Valuation τ sig (Elt F) := StableHlo.after hostOps0 (V₀ m c)
/-- What each device finds in its operands. -/
def given (c : Dev nD) : Given F where
  ids := V₁ m c (Proc.devRef .tc main_arg0)
  col := V₁ m c (Proc.devRef .tc main_v1)
  tab := V₁ m c (Proc.devRef .tc main_arg1)
/-- and after the region. -/
abbrev V₂ (c : Dev nD) : Valuation τ sig (Elt F) := Function.update (V₁ m c) (Proc.devRef .tc main_v2) (outv (given m) c)

/-- A buffer no thread scopes. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The buffer the region's body addresses itself: the table. -/
abbrev tabRef : Finset (DevRef τ sig) := {Proc.devRef .tc main_arg1}
theorem arr_union : bufs = Pipeline.arrRefs (τ := τ) spec0 ∪ tabRef := by decide
theorem arr_apart : Disjoint (Pipeline.arrRefs (τ := τ) spec0) (tabRef : Finset (DevRef τ sig)) := by decide

/-- All buffers are the region's arrays and the table. -/
theorem held_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) tabRef W) := by
  rw [arr_union]
  unfold StableHlo.held
  exact BI.bigSep_union arr_apart
theorem held_tab (c : Dev nD) (W : Valuation τ sig (Elt F)) : (StableHlo.held (c : Thread nD τ) tabRef W : sProp 𝕄)
    = mTab.view.loc (c : Thread nD τ) ↦{fullShare} W (Proc.devRef .tc main_arg1) := by
  unfold StableHlo.held
  exact BI.bigSep_singleton

theorem V₂_out (c : Dev nD) : V₂ m c (Proc.devRef .tc main_v2) = outv (given m) c := Function.update_self ..
theorem V₂_ne (c : Dev nD) (b : Ref sig .tc) (h : Proc.devRef (τ := τ) .tc b ≠ Proc.devRef .tc main_v2) :
    V₂ m c (Proc.devRef .tc b) = V₁ m c (Proc.devRef .tc b) := Function.update_of_ne h ..

/-! ## What enters the region and leaves it -/

/-- The region's own semaphores: five for every chunk. -/
def osem : Fin 8 × Fin 5 → SemLoc sig := fun p => if h : p.2.val = 0 then .dma (gs p.1) else .dma (arr ⟨p.2.val - 1, by have := p.2.isLt; omega⟩ p.1)

theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem ownSems (c : Dev nD) : (Pipeline.ownSems0 osem c : sProp 𝕄) = bigSep Finset.univ fun k : Fin 8 => iprop(semVal (cell c (.dma (gs k))) 0 ∗ zxSems c k) := by
  unfold Pipeline.ownSems0
  rw [BI.bigSep_univ_prod]
  exact BI.bigSep_congr fun k _ => by rw [fin5]; rfl

/-- The rights to open chunk `k`'s cells. -/
def rightsC (c : Dev nD) (k : Fin 8) : sProp 𝕄 :=
  iprop(openTok ER (cell c (.dma (zs k))) ∗ openTok ER (cell c (.dma (zr k))) ∗ openTok ER (cell c (.dma (xs k))) ∗ openTok ER (cell c (.dma (xr k))))
/-- The rights to pay for chunk `k`. -/
def toksC (c : Dev nD) (k : Fin 8) : sProp 𝕄 :=
  iprop(dutyTok ER (cell c (.dma (zs k))) 0 false ∗ dutyTok ER (cell (pz c) (.dma (zr k))) 0 false
    ∗ dutyTok ER (cell c (.dma (xs k))) 0 false ∗ dutyTok ER (cell (px c) (.dma (xr k))) 0 false)
/-- The credits for chunk `k`'s arrivals. -/
def duesC (c : Dev nD) (k : Fin 8) : sProp 𝕄 := iprop(due c (.dma (zr k)) ∗ due c (.dma (xr k)))

/-- What launch keeps for the region. -/
def Tk (c : Dev nD) : sProp 𝕄 :=
  iprop((∃ K, records (given m) K) ∗ (bigSep Finset.univ (rightsC c)) ∗ (bigSep Finset.univ (toksC c)) ∗ (bigSep Finset.univ (duesC c)) ∗ placeBar c)
/-- The same with the cells open. -/
def Xk (c : Dev nD) : sProp 𝕄 :=
  iprop((∃ K, records (given m) K) ∗ levAts L lv ∗ gSems c ∗ (bigSep Finset.univ (placeC c)) ∗ (bigSep Finset.univ (openC c)) ∗ placeBar c)
/-- What the region gives back of it. -/
def Yk (c : Dev nD) : sProp 𝕄 := semVal (cell c (.reg bs)) 0

/-- Chunk `k`'s cells are opened. -/
theorem open_chunk (A : Dev nD → Given F) (K : GSem nD τ sig → ℕ) (c : Dev nD) (k : Fin 8) :
    iprop(records A K ∗ (rightsC c k ∗ zxSems c k ∗ toksC c k ∗ duesC c k)) ⊢ iprop(|={Set.univ}=> (placeC c k ∗ openC c k)) := by
  unfold rightsC zxSems toksC duesC placeC openC
  iintro ⟨#HR, ⟨R1, R2, R3, R4⟩, ⟨S1, S2, S3, S4⟩, Ht, Hd⟩
  imod (Rounds.cell_open ER (sch A) (g := cell c (.dma (zs k))) (Set.mem_univ (K (cell c (.dma (zs k)))))) $$ [R1 S1] with ⟨P1, #O1⟩
  · isplitr; · iapply (inv_arr A K c 0 k) $$ HR
    isplitl [R1] <;> iassumption
  imod (Rounds.cell_open ER (sch A) (g := cell c (.dma (zr k))) (Set.mem_univ (K (cell c (.dma (zr k)))))) $$ [R2 S2] with ⟨P2, #O2⟩
  · isplitr; · iapply (inv_arr A K c 1 k) $$ HR
    isplitl [R2] <;> iassumption
  imod (Rounds.cell_open ER (sch A) (g := cell c (.dma (xs k))) (Set.mem_univ (K (cell c (.dma (xs k)))))) $$ [R3 S3] with ⟨P3, #O3⟩
  · isplitr; · iapply (inv_arr A K c 2 k) $$ HR
    isplitl [R3] <;> iassumption
  imod (Rounds.cell_open ER (sch A) (g := cell c (.dma (xr k))) (Set.mem_univ (K (cell c (.dma (xr k)))))) $$ [R4 S4] with ⟨P4, #O4⟩
  · isplitr; · iapply (inv_arr A K c 3 k) $$ HR
    isplitl [R4] <;> iassumption
  imodintro
  isplitl [P1 P2 P3 P4 Ht Hd]
  · isplitl [P1 P2 P3 P4]
    · isplitl [P1]; · iexact P1
      isplitl [P2]; · iexact P2
      isplitl [P3] <;> iassumption
    isplitl [Ht]; · iexact Ht
    iexact Hd
  isplitr; · iexact O1
  isplitr; · iexact O2
  isplitr; · iexact O3
  iexact O4

theorem hopen (c : Dev nD) : iprop(Tk m c ∗ Pipeline.ownSems0 osem c ∗ levAts L lv) ⊢ (|={Set.univ}=> Xk m c : sProp 𝕄) := by
  unfold Tk Xk gSems
  iintro ⟨⟨⟨%K, #HR⟩, Hr, Ht, Hd, Hb⟩, Hs, #HL⟩
  ihave Hs := (Entails.of_eq (ownSems c)) $$ Hs
  ihave Hs := unzip $$ Hs
  icases Hs with ⟨Hg, Hs⟩
  ihave H := (show iprop(records (given m) K ∗ bigSep Finset.univ fun k => iprop(rightsC c k ∗ zxSems c k ∗ toksC c k ∗ duesC c k))
      ⊢ bigSep Finset.univ fun k => iprop(|={Set.univ}=> (placeC c k ∗ openC c k)) from
    BI.bigSep_with_persistent fun k _ => open_chunk (given m) K c k) $$ [Hr Hs Ht Hd]
  · isplitr; · iexact HR
    iapply zip; isplitl [Hr]; · iexact Hr
    iapply zip; isplitl [Hs]; · iexact Hs
    iapply zip; isplitl [Ht] <;> iassumption
  imod (BI.bigSep_fupd Finset.univ fun k => iprop(placeC c k ∗ openC c k)) $$ H with H
  ihave H := unzip $$ H
  icases H with ⟨Hp, Ho⟩
  imodintro
  isplitr; · iexists K; iexact HR
  isplitr; · iexact HL
  isplitl [Hg]; · iexact Hg
  isplitl [Hp]; · iexact Hp
  isplitl [Ho] <;> iassumption

/-! ## The region's proof data -/

/-- Before the region's one point, and after it. -/
def Φ (c : Dev nD) (n : ℕ) : sProp 𝕄 :=
  if n = 0 then iprop(Xk m c ∗ tabP (given m) c Finset.univ fullShare ∗ scratch c ∗ ∃ r, prngReg c r)
  else iprop(Yk c ∗ tabP (given m) c Finset.univ fullShare ∗ scratch c ∗ (gSems c ∗ bigSep Finset.univ (zxSems c)) ∗ ∃ r, prngReg c r)

/-- The windows' arrays are the two forms of the row numbers and the output, which ends at the device's result. -/
def dat (c : Dev nD) : Dat τ (Elt F) Unit ℕ UU ℕ cfg0 c where
  A w := V₁ m c (Proc.devRef .tc (Pipeline.arrRef spec0 w))
  after
    | 0 => fun _ => (given m c).ids
    | 1 => fun _ => (given m c).col
    | 2 => fun _ => outv (given m) c
    | ⟨_ + 3, h⟩ => absurd h (Nat.not_lt.2 (Nat.le_add_left _ _))
  Φ t := Φ m c t.val
  q _ := fullShare
  owed t := if t.val = 0 then owe₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owesAt_intro (c : Dev nD) (t : Fin (cfg0.N + 1)) (O : CellTallies nD τ sig Unit) (h : (dat m c).owed t = O) :
    debt c O ⊢ ((dat m c).owesAt () t : sProp 𝕄) := by
  unfold Dat.owesAt Pipeline.owesWithin Dat.bound
  rw [h]
  iintro ⟨%W, Ho⟩
  iexists W
  isplitr; · ipureintro; exact fun _ _ => Or.inl trivial
  iexact Ho
theorem owesAt_elim (c : Dev nD) (t : Fin (cfg0.N + 1)) (O : CellTallies nD τ sig Unit) (h : (dat m c).owed t = O) :
    ((dat m c).owesAt () t : sProp 𝕄) ⊢ debt c O := by
  unfold Dat.owesAt Pipeline.owesWithin
  rw [h]
  iintro ⟨%W, -, Ho⟩
  iexists W
  iexact Ho

theorem owed_first (c : Dev nD) : (dat m c).owed t0_0.castSucc = owe₀ c := by
  show (if (t0_0.castSucc : Fin (cfg0.N + 1)).val = 0 then owe₀ c else 0) = owe₀ c
  exact if_pos rfl
theorem owed_last (c : Dev nD) : (dat m c).owed t0_0.succ = 0 := by
  show (if (t0_0.succ : Fin (cfg0.N + 1)).val = 0 then owe₀ c else 0) = 0
  exact if_neg (by decide)

/-- The two input windows' blocks are their arrays. -/
theorem blk_ids (c : Dev nD) : (dat m c).blockOf 0 t0_0 = (given m c).ids := by
  funext j
  unfold Dat.blockOf
  blk_simp
  show V₁ m c (Proc.devRef .tc main_arg0) _ = V₁ m c (Proc.devRef .tc main_arg0) _
  refine congrArg _ (funext fun a => Fin.ext ?_)
  fin_cases a
  blk_simp
  simp
  rfl
theorem blk_col (c : Dev nD) : (dat m c).blockOf 1 t0_0 = (given m c).col := by
  funext j
  unfold Dat.blockOf
  blk_simp
  show V₁ m c (Proc.devRef .tc main_v1) _ = V₁ m c (Proc.devRef .tc main_v1) _
  refine congrArg _ (funext fun a => Fin.ext ?_)
  fin_cases a
  · blk_simp
    simp
    rfl
  · have h : (j 1).val < 1 := (j 1).isLt
    blk_simp
    rfl
/-- They hold their arrays when the body begins. -/
theorem before_ids (c : Dev nD) (d) : (dat m c).before 0 t0_0 d = (given m c).ids :=
  ((dat m c).before_in_eq_fetched 0 rfl (fun _ => rfl) (fun _ _ _ => rfl) (fun t => by obtain rfl := fin_N0 t; exact (blk_ids m c).symm) t0_0 d).trans (blk_ids m c)
theorem before_col (c : Dev nD) (d) : (dat m c).before 1 t0_0 d = (given m c).col :=
  ((dat m c).before_in_eq_fetched 1 rfl (fun _ => rfl) (fun _ _ _ => rfl) (fun t => by obtain rfl := fin_N0 t; exact (blk_col m c).symm) t0_0 d).trans (blk_col m c)
/-- And at the end the output's array is the device's result. -/
theorem final_out (c : Dev nD) : (dat m c).arrAt 2 cfg0.N = outv (given m) c := by
  refine (dat m c).arrAt_eq_of_after_last 2 t0_0 (by decide +kernel) _ fun j => ?_
  blk_simp
  rfl

/-- The region's body meets its obligation. -/
theorem body_obligation (c : Dev nD) : BodyObligation (dat m c) defs₀ 𝒱₀ () Set.univ := fun t => by
  obtain rfl := fin_N0 t
  rw [bigSep_W0, bigSep_W0]
  show iprop(Φ m c 0 ∗ (dat m c).owesAt () t0_0.castSucc
      ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d)))
    ⊢ WP c (cc0_body mIds (Memref.isWhole_whole _) mCol (Memref.isWhole_whole _) mTab (Memref.isWhole_whole _) mOut (Memref.isWhole_whole _)
        mGat (Memref.isWhole_whole _) mZs (Memref.isWhole_whole _) mZr (Memref.isWhole_whole _) mXs (Memref.isWhole_whole _) mXr (Memref.isWhole_whole _)
        cc0_scratch5 cc0_scratch6 cc0_scratch7 cc0_scratch8 cc0_scratch9) fun _ =>
      iprop(Φ m c 1 ∗ (dat m c).owesAt () t0_0.succ
        ∗ owns (c : Thread nD τ) (Memref.whole cc0_stg0_0) fullShare (given m c).ids
        ∗ owns (c : Thread nD τ) (Memref.whole cc0_stg1_0) fullShare (given m c).col
        ∗ owns (c : Thread nD τ) (Memref.whole cc0_stg2_0) fullShare (outv (given m) c))
  rw [body_eq]
  unfold Φ
  rw [if_pos rfl, if_neg (by decide)]
  unfold Xk
  iintro ⟨⟨⟨⟨%K, #HR⟩, #HL, Hg, Hp, Ho, Hb⟩, Ht, Hs, Hr⟩, Hd, ⟨%d₀, Hi⟩, ⟨%d₁, Hc⟩, ⟨%d₂, Hout⟩⟩
  iapply (body_spec (given m) K c _)
  isplitr; · iexact HR
  isplitr; · iexact HL
  isplitl [Hg Hp Ho Hb Ht Hs Hd Hi Hc Hout]
  · unfold bodyPre
    isplitl [Hi Hc Ht]
    · isplitl [Hi]
      · iapply (Entails.of_eq ((owns_whole (c : Thread nD τ) cc0_stg0_0 fullShare _).trans (congrArg (fun f => (mIds.view.loc (c : Thread nD τ) ↦{fullShare} f : sProp 𝕄)) (before_ids m c d₀)))) $$ Hi
      isplitl [Hc]
      · iapply (Entails.of_eq ((owns_whole (c : Thread nD τ) cc0_stg1_0 fullShare _).trans (congrArg (fun f => (mCol.view.loc (c : Thread nD τ) ↦{fullShare} f : sProp 𝕄)) (before_col m c d₁)))) $$ Hc
      iexact Ht
    isplitl [Hout]
    · iexists ((dat m c).before 2 t0_0 d₂)
      iapply (Entails.of_eq (owns_whole (c : Thread nD τ) cc0_stg2_0 fullShare _)) $$ Hout
    isplitl [Hs]; · iexact Hs
    isplitl [Hg]; · iexact Hg
    isplitl [Hp]; · iexact Hp
    isplitl [Ho]; · iexact Ho
    isplitl [Hb]; · iexact Hb
    iapply (owesAt_elim m c _ (owe₀ c) (owed_first m c)) $$ Hd
  unfold bodyPost Yk
  iintro ⟨⟨Hi, Hc, Ht⟩, Hout, Hs, Hg, Hz, Hb, Hd⟩
  isplitl [Ht Hs Hg Hz Hb Hr]
  · isplitl [Hb]; · iexact Hb
    isplitl [Ht]; · iexact Ht
    isplitl [Hs]; · iexact Hs
    isplitl [Hg Hz]
    · isplitl [Hg] <;> iassumption
    iexact Hr
  isplitl [Hd]; · iapply (owesAt_intro m c _ 0 (owed_last m c)) $$ Hd
  isplitl [Hi]; · iapply (Entails.of_eq (owns_whole (c : Thread nD τ) cc0_stg0_0 fullShare (given m c).ids).symm) $$ Hi
  isplitl [Hc]; · iapply (Entails.of_eq (owns_whole (c : Thread nD τ) cc0_stg1_0 fullShare (given m c).col).symm) $$ Hc
  iapply (Entails.of_eq (owns_whole (c : Thread nD τ) cc0_stg2_0 fullShare (outv (given m) c)).symm) $$ Hout

end Cert.KernelIdeal.Lookup

end
-- ==== Proof.KernelIdeal.Segments.lean ====
/-
  The program as the host's operation and the region.
-/
module

public import proofs.«01_k».proof.Proof.KernelIdeal.Region

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The segments of the program -/

theorem scoped_rest (c : Dev nD) : (Pipeline.scopedRest (Ix := Unit) (Name := ℕ) (U := UU) (Lvl := ℕ) (Val := Elt F) spec0 c : sProp 𝕄) = scratch c :=
  scopedRest0_eq c

/-- Into the region's invariant, -/
theorem hin (c : Dev nD) : iprop(Pipeline.scopedRest (Pipeline.pin (pcfgs (F := F)) adm 0).spec c ∗ (∃ r, prngReg c r)
      ∗ StableHlo.held (c.tc : Thread nD τ) tabRef (V₁ m c) ∗ Xk m c) ⊢ (pdats m 0 c).Φ 0 := by
  rw [show (pdats m 0 c).Φ 0 = Φ m c 0 from rfl]
  unfold Φ
  rw [if_pos rfl, held_tab]
  iintro ⟨Hs, Hr, Ht, Hx⟩
  isplitl [Hx]; · iexact Hx
  isplitl [Ht]; · iexact Ht
  isplitl [Hs]; · iapply (Entails.of_eq (scoped_rest c)) $$ Hs
  iexact Hr
/-- and out of it. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) tabRef (V₂ m c) ∗ Pipeline.ownSems0 osem c ∗ Yk c) := by
  rw [show (pdats m 0 c).Φ (Fin.last _) = Φ m c 1 from rfl]
  unfold Φ
  rw [if_neg (by decide), held_tab, V₂_ne m c main_arg1 (by decide)]
  iintro ⟨Hy, Ht, Hs, ⟨Hg, Hz⟩, Hr⟩
  isplitl [Hs]; · iapply (Entails.of_eq (scoped_rest c).symm) $$ Hs
  isplitl [Hr]; · iexact Hr
  isplitl [Ht]; · iexact Ht
  isplitl [Hg Hz]
  · iapply (Entails.of_eq (ownSems c).symm)
    unfold gSems
    iapply zip
    isplitl [Hg] <;> iassumption
  iexact Hy

/-- Everything owed at launch lies above level zero, and so does what is owed at every point. -/
theorem owe_above (c : Dev nD) : Above 0 (owe₀ c) :=
  above_add (above_add (above_add (above_owX (by decide) c 0) (above_owZ (by decide) c 0)) (above_tally (by rw [lv_bar]; decide))) (above_tally (by rw [lv_bar]; decide))
theorem owed_above (c : Dev nD) (t : Fin (cfg0.N + 1)) : Above 0 ((dat m c).owed t) := by
  show Above 0 (if t.val = 0 then owe₀ c else 0)
  split
  · exact owe_above c
  · exact above_zero 0

/-- The staging semaphores are none of the protocol's. -/
theorem stage_lv : ∀ (w : Fin 3) (s : Fin (spec0 w).nbuf), role (.dma ((spec0 w).sem s)) = 0 := by decide

theorem share_full (c : Dev nD) (w : Fin cfg0.W) : (pdats m 0 c).share w = fullShare := by unfold Dat.share; split <;> rfl

/-- The arrays at the region's end. -/
theorem final_at (c : Dev nD) : ∀ w : Fin 3, (dat m c).arrAt w cfg0.N = V₂ m c (Proc.devRef .tc (Pipeline.arrRef spec0 w))
  | 0 => ((dat m c).arrAt_in 0 rfl _).trans (V₂_ne m c main_arg0 (by decide)).symm
  | 1 => ((dat m c).arrAt_in 1 rfl _).trans (V₂_ne m c main_v1 (by decide)).symm
  | 2 => (final_out m c).trans (V₂_out m c).symm
  | ⟨_ + 3, h⟩ => absurd h (Nat.not_lt.2 (Nat.le_add_left _ _))

set_option backward.isDefEq.respectTransparency.types false in
/-- The region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    tabRef tabRef (Finset.Subset.refl _) launch0.toP rfl (fun c => (body_obligation m c).loose)
    (fun _ => 0) owe₀ (fun c => (owed_first m c).trans (zero_add _).symm) (fun c => owed_last m c) (fun _ => rfl) (share_full m)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun _ _ _ => by rw [L_tc]; exact Finset.mem_singleton_self _,
      fun _ w s => by
        have h := stage_lv w s
        show lv _ () ≤ 0
        unfold lv
        dsimp only
        rw [if_neg (by rw [show role _ = 0 from h]; decide), if_neg (by rw [show role _ = 0 from h]; decide), if_neg (by rw [show role _ = 0 from h]; decide)],
      fun c t g i h => owed_above m c t g i h⟩
    (fun _ => iprop(emp))
    (fun _ _ => rfl) (final_at m)

/-- What rides beside the buffers from launch to the region. -/
def R (c : Dev nD) : sProp 𝕄 := iprop(Tk m c ∗ (∃ r, prngReg c r) ∗ debt c (owe₀ c))

/-- The host's operation. -/
def host : Pipeline.HostSeg (Name := ℕ) (U := UU) (pcfgs (F := F)) defs₀ 𝒱₀ L lv :=
  Pipeline.HostSeg.ofOps _ _ _ _ _ bufs hostOps0
    (fun op h => by
      simp only [List.mem_singleton] at h; subst h
      show ({Proc.devRef .tc main_arg0, Proc.devRef .tc main_v1} : Finset (DevRef τ sig)) ⊆ bufs
      decide)
    (fun op h => by simp only [List.mem_singleton] at h; subst h; rfl) (V₀ m) (R m)

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) tabRef (V₁ m c) ∗ emp) ∗ Tk m c ∗ ∃ Wd, owes (c : Thread nD τ) (0 + owe₀ c) Wd)
  rw [zero_add, held_split]
  unfold R
  iintro ⟨⟨Ha, Ht⟩, HT, Hr, Ho⟩
  isplitl [Ha]; · iexact Ha
  isplitl [Hr]; · iexact Hr
  isplitl [Ht]
  · isplitl [Ht]; · iexact Ht
    iempintro
  isplitl [HT] <;> iassumption

theorem reg_post (c : Dev nD) : (reg m).post c
    ⊢ iprop((StableHlo.held (c : Thread nD τ) bufs (V₂ m c) ∗ Yk c) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) tabRef (V₂ m c) ∗ emp) ∗ Yk c ∗ ∃ Wd, owes (c : Thread nD τ) (0 : CellTallies nD τ sig Unit) Wd) ⊢ _
  rw [held_split]
  iintro ⟨Ha, -, ⟨Ht, -⟩, Hy, Ho⟩
  isplitl [Ha Ht Hy]
  · isplitl [Ha Ht]
    · isplitl [Ha] <;> iassumption
    iexact Hy
  iexact Ho

/-- The program as its segments. -/
def segs : List (Pipeline.Seg (pcfgs (F := F)) adm (pdats m) () defs₀ 𝒱₀ L lv) := [.host (host m), .region (reg m)]

theorem main_eq (c : Dev nD) : main (F := F) c = Pipeline.Seg.run (segs m) :=
  main_segs adm (pdats m) () 𝒱₀ L lv (host m) (reg m) rfl c

end Cert.KernelIdeal.Lookup

end
-- ==== Proof.KernelIdeal.Deal.lean ====
/-
  What the launch deals: the rights to pay, the rights to open, and the credits.
-/
module

public import proofs.«01_k».proof.Proof.KernelIdeal.Segments

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Idealize.ShloMosaic.Pipeline (Dat BodyObligation)
open Cert.KernelIdeal.Gen

variable {F : FTy → Type} [FloatOps F]

local notation "𝕄" => MT nD τ sig Unit (Elt F) ℕ UU ℕ

/-! ## The rights to pay -/

def barTok : Dev nD × Bool ↪ GSem nD τ sig × ℕ × Bool :=
  ⟨fun p => (cell p.1 (.reg bs), 0, p.2), fun _ _ h =>
    Prod.ext (congrArg (fun x : GSem nD τ sig × ℕ × Bool => x.1.1.1) h) (congrArg (fun x : GSem nD τ sig × ℕ × Bool => x.2.2) h)⟩
def arrTok : Dev nD × (Fin 4 × Fin 8) ↪ GSem nD τ sig × ℕ × Bool :=
  ⟨fun p => (scEmb p, 0, false), fun _ _ h => scEmb.injective (congrArg Prod.fst h)⟩

theorem bs_ne_arr (d d' : Dev nD) (a : Fin 4) (c : Fin 8) : cell d (.reg bs) ≠ cell d' (.dma (arr a c)) := fun h =>
  absurd (congrArg Prod.snd h) (by simp)

/-- Every right to pay: two to each barrier, one to each cell that counts a chunk. -/
def allToks : Finset (GSem nD τ sig × ℕ × Bool) := Finset.univ.map barTok ∪ Finset.univ.map arrTok

theorem toks_disjoint : Disjoint (Finset.univ.map barTok) (Finset.univ.map arrTok) := by
  refine Finset.disjoint_left.mpr fun x hx hy => ?_
  obtain ⟨p, -, rfl⟩ := Finset.mem_map.mp hx
  obtain ⟨q, -, h⟩ := Finset.mem_map.mp hy
  exact bs_ne_arr p.1 q.1 q.2.1 q.2.2 (congrArg Prod.fst h).symm

theorem cells_disjoint : Disjoint barCells scCells := by
  refine Finset.disjoint_left.mpr fun x hx hy => ?_
  obtain ⟨p, -, rfl⟩ := Finset.mem_map.mp hx
  obtain ⟨q, -, h⟩ := Finset.mem_map.mp hy
  exact bs_ne_arr p q.1 q.2.1 q.2.2 h.symm

abbrev tokB (d : Dev nD) (b : Bool) : sProp 𝕄 := dutyTok ER (cell d (.reg bs)) 0 b
abbrev tokA (a : Fin 4) (d : Dev nD) : sProp 𝕄 := bigSep Finset.univ fun c : Fin 8 => dutyTok ER (cell d (.dma (arr a c))) 0 false
abbrev openA (a : Fin 4) (d : Dev nD) : sProp 𝕄 := bigSep Finset.univ fun c : Fin 8 => openTok ER (cell d (.dma (arr a c)))

theorem four (Φ : Fin 4 → sProp 𝕄) : bigSep Finset.univ Φ = iprop(Φ 0 ∗ Φ 1 ∗ Φ 2 ∗ Φ 3) := by
  rw [BI.bigSep_univ_eq_bigSepL [0, 1, 2, 3] (by decide) (by decide) Φ]; rfl
theorem two (Φ : Bool → sProp 𝕄) : bigSep Finset.univ Φ = iprop(Φ false ∗ Φ true) := by
  rw [BI.bigSep_univ_eq_bigSepL [false, true] (by decide) (by decide) Φ]; rfl

/-- The rights to pay, listed by the device paid. -/
theorem toks_eq : bigSep allToks (fun x => (dutyTok ER x.1 x.2.1 x.2.2 : sProp 𝕄))
    = iprop((bigSep Finset.univ fun d => iprop(tokB d false ∗ tokB d true))
      ∗ bigSep Finset.univ fun d => iprop(tokA 0 d ∗ tokA 1 d ∗ tokA 2 d ∗ tokA 3 d)) := by
  unfold allToks
  rw [BI.bigSep_union toks_disjoint, BI.bigSep_map, BI.bigSep_map, BI.bigSep_univ_prod, BI.bigSep_univ_prod]
  refine congrArg₂ _ (BI.bigSep_congr fun d _ => two _) (BI.bigSep_congr fun d _ => ?_)
  rw [BI.bigSep_univ_prod]
  exact four _

theorem opens_eq : bigSep scCells (fun g => (openTok ER g : sProp 𝕄))
    = bigSep Finset.univ fun d => iprop(openA 0 d ∗ openA 1 d ∗ openA 2 d ∗ openA 3 d) := by
  rw [BI.bigSep_map, BI.bigSep_univ_prod]
  refine BI.bigSep_congr fun d _ => ?_
  rw [BI.bigSep_univ_prod]
  exact four _

/-- Four families of chunks, chunk by chunk. -/
theorem zip4 {Φ₀ Φ₁ Φ₂ Φ₃ : Fin 8 → sProp 𝕄} :
    iprop(bigSep Finset.univ Φ₀ ∗ bigSep Finset.univ Φ₁ ∗ bigSep Finset.univ Φ₂ ∗ bigSep Finset.univ Φ₃)
      ⊢ bigSep Finset.univ fun k => iprop(Φ₀ k ∗ Φ₁ k ∗ Φ₂ k ∗ Φ₃ k) := by
  iintro ⟨H0, H1, H2, H3⟩
  iapply zip; isplitl [H0]; · iexact H0
  iapply zip; isplitl [H1]; · iexact H1
  iapply zip; isplitl [H2] <;> iassumption

theorem rights_intro (d : Dev nD) : iprop(openA 0 d ∗ openA 1 d ∗ openA 2 d ∗ openA 3 d) ⊢ (bigSep Finset.univ (rightsC d) : sProp 𝕄) :=
  zip4
theorem toks_intro (d : Dev nD) : iprop(tokA 0 d ∗ tokA 1 (pz d) ∗ tokA 2 d ∗ tokA 3 (px d)) ⊢ (bigSep Finset.univ (toksC d) : sProp 𝕄) :=
  zip4

def zSwap : Dev nD ≃ Dev nD := ⟨pz, pz, pz_pz, pz_pz⟩
def xSwap : Dev nD ≃ Dev nD := ⟨px, px, px_px, px_px⟩

/-- What every device has, every device's neighbour has. -/
theorem around (e : Dev nD ≃ Dev nD) (Φ : Dev nD → sProp 𝕄) : bigSep Finset.univ Φ ⊢ bigSep Finset.univ fun d => Φ (e d) :=
  Entails.of_eq (BI.bigSep_univ_equiv e Φ)

/-- The barriers' rights go to the neighbours that pay them. -/
theorem bar_around : (bigSep Finset.univ fun d => iprop(tokB d false ∗ tokB d true))
    ⊢ (bigSep Finset.univ fun d => iprop(tokB (pz d) false ∗ tokB (px d) true) : sProp 𝕄) := by
  iintro H
  ihave H := unzip $$ H
  icases H with ⟨Hz, Hx⟩
  iapply zip
  isplitl [Hz]
  · iapply (around zSwap fun d => tokB d false) $$ Hz
  · iapply (around xSwap fun d => tokB d true) $$ Hx

/-- The arrivals' rights go to the neighbours that pay them. -/
theorem toks_around : (bigSep Finset.univ fun d => iprop(tokA 0 d ∗ tokA 1 d ∗ tokA 2 d ∗ tokA 3 d))
    ⊢ (bigSep Finset.univ fun d => bigSep Finset.univ (toksC d) : sProp 𝕄) := by
  refine BIBase.Entails.trans ?_ (BI.bigSep_mono fun d _ => toks_intro d)
  iintro H
  ihave H := unzip $$ H; icases H with ⟨H0, H⟩
  ihave H := unzip $$ H; icases H with ⟨H1, H⟩
  ihave H := unzip $$ H; icases H with ⟨H2, H3⟩
  iapply zip; isplitl [H0]; · iexact H0
  iapply zip; isplitl [H1]; · iapply (around zSwap fun d => tokA 1 d) $$ H1
  iapply zip; isplitl [H2]; · iexact H2
  iapply (around xSwap fun d => tokA 3 d) $$ H3

/-! ## The credits -/

/-- One unit owed, read at a cell. -/
theorem tally_cell (e c : Dev nD) (s s' : SemLoc sig) (n : ℕ) :
    (tallyAt (cell e s) () n : CellTallies nD τ sig Unit) (cell c s') () = if e = c ∧ s = s' then n else 0 := by
  rw [tallyAt_apply]
  refine if_congr ⟨fun h => ⟨(congrArg (fun g : GSem nD τ sig => g.1.1) h.1).symm, (congrArg Prod.snd h.1).symm⟩, fun h => ⟨?_, rfl⟩⟩ rfl rfl
  rw [h.1, h.2]

theorem tally_miss (e c : Dev nD) (s s' : SemLoc sig) (n : ℕ) (h : s ≠ s') :
    (tallyAt (cell e s) () n : CellTallies nD τ sig Unit) (cell c s') () = 0 := by
  rw [tally_cell]; exact if_neg fun hk => h hk.2

theorem sum_cell (e c : Dev nD) (f : Fin 8 → SemLoc sig) (s' : SemLoc sig) :
    (∑ k ∈ (pending 0 : Finset (Fin 8)), tallyAt (cell e (f k)) () NB : CellTallies nD τ sig Unit) (cell c s') ()
      = ∑ k : Fin 8, if e = c ∧ f k = s' then NB else 0 := by
  rw [show (pending 0 : Finset (Fin 8)) = Finset.univ by decide, Finset.sum_apply, Finsupp.finset_sum_apply]
  exact Finset.sum_congr rfl fun k _ => tally_cell e c (f k) s' NB

/-- A sum of debts at cells of other semaphores owes this cell nothing, -/
theorem sum_miss (e c : Dev nD) (f : Fin 8 → SemLoc sig) (s' : SemLoc sig) (h : ∀ k, f k ≠ s') :
    (∑ k ∈ (pending 0 : Finset (Fin 8)), tallyAt (cell e (f k)) () NB : CellTallies nD τ sig Unit) (cell c s') () = 0 := by
  rw [sum_cell]
  exact Finset.sum_eq_zero fun k _ => if_neg fun hk => h k hk.2
/-- and one that has a term at this cell owes it that term. -/
theorem sum_hit (e c : Dev nD) (f : Fin 8 → SemLoc sig) (hf : Function.Injective f) (k : Fin 8) :
    (∑ k ∈ (pending 0 : Finset (Fin 8)), tallyAt (cell e (f k)) () NB : CellTallies nD τ sig Unit) (cell c (f k)) () = if e = c then NB else 0 := by
  rw [sum_cell]
  by_cases he : e = c
  · rw [if_pos he]
    refine (Finset.sum_eq_single k (fun j _ hj => if_neg fun h => hj (hf h.2)) fun h => absurd (Finset.mem_univ k) h).trans (if_pos ⟨he, rfl⟩)
  · rw [if_neg he]
    exact Finset.sum_eq_zero fun j _ => if_neg fun h => he h.1

theorem role_ne {s s' : SemLoc sig} (h : role s ≠ role s') : s ≠ s' := fun e => h (congrArg role e)
theorem zr_inj : Function.Injective fun k : Fin 8 => (SemLoc.dma (zr k) : SemLoc sig) := by decide
theorem xr_inj : Function.Injective fun k : Fin 8 => (SemLoc.dma (xr k) : SemLoc sig) := by decide

theorem owe_apply (d : Dev nD) (g : GSem nD τ sig) :
    owe₀ d g () = ((owX d 0 g () + owZ d 0 g ()) + (tallyAt (cell (px d) (.reg bs)) () 1 : CellTallies nD τ sig Unit) g ())
      + (tallyAt (cell (pz d) (.reg bs)) () 1 : CellTallies nD τ sig Unit) g () := rfl

theorem owe_bar (d c : Dev nD) : owe₀ d (cell c (.reg bs)) () = (if px d = c then 1 else 0) + (if pz d = c then 1 else 0) := by
  rw [owe_apply, owX, owZ, sum_miss _ _ (fun k => .dma (xr k)) _ (fun k => role_ne (by rw [role_xr, role_bs]; decide)),
    sum_miss _ _ (fun k => .dma (zr k)) _ (fun k => role_ne (by rw [role_zr, role_bs]; decide)), tally_cell, tally_cell]
  simp
theorem owe_zr (d c : Dev nD) (k : Fin 8) : owe₀ d (cell c (.dma (zr k))) () = if pz d = c then NB else 0 := by
  rw [owe_apply, owX, owZ, sum_miss _ _ (fun k => .dma (xr k)) _ (fun k => role_ne (by rw [role_xr, role_zr]; decide)),
    sum_hit _ _ (fun k => .dma (zr k)) zr_inj k, tally_miss _ _ _ _ _ (role_ne (by rw [role_zr, role_bs]; decide)), tally_miss _ _ _ _ _ (role_ne (by rw [role_zr, role_bs]; decide))]
  simp
theorem owe_xr (d c : Dev nD) (k : Fin 8) : owe₀ d (cell c (.dma (xr k))) () = if px d = c then NB else 0 := by
  rw [owe_apply, owX, owZ, sum_miss _ _ (fun k => .dma (zr k)) _ (fun k => role_ne (by rw [role_xr, role_zr]; decide)),
    sum_hit _ _ (fun k => .dma (xr k)) xr_inj k, tally_miss _ _ _ _ _ (role_ne (by rw [role_xr, role_bs]; decide)), tally_miss _ _ _ _ _ (role_ne (by rw [role_xr, role_bs]; decide))]
  simp

/-- One device owes each cell of a neighbour. -/
theorem sum_swap (p : Dev nD → Dev nD) (hp : ∀ d, p (p d) = d) (c : Dev nD) (n : ℕ) : (∑ d : Dev nD, if p d = c then n else 0) = n := by
  refine (Finset.sum_eq_single (p c) (fun d _ hd => if_neg fun h => hd (by rw [← h, hp])) fun h => absurd (Finset.mem_univ _) h).trans (if_pos (hp c))

theorem dealt (c : Dev nD) (sm : SemLoc sig) (n : ℕ) (h : (∑ d : Dev nD, owe₀ d (cell c sm) ()) = n) :
    tallyOn (cell c sm) (launchCredit (Pipeline.owing owe₀) 0 (cell c sm)) = (tallyAt (cell c sm) () n : CellTallies nD τ sig Unit) := by
  unfold tallyAt; refine congrArg _ (Finsupp.ext fun u => ?_); cases u
  rw [Pipeline.launchCredit_owing, Finsupp.single_eq_same, h]

theorem dealt_bar (c : Dev nD) :
    tallyOn (cell c (.reg bs)) (launchCredit (Pipeline.owing owe₀) 0 (cell c (.reg bs))) = (tallyAt (cell c (.reg bs)) () 2 : CellTallies nD τ sig Unit) :=
  dealt c _ 2 (by rw [Finset.sum_congr rfl fun d _ => owe_bar d c, Finset.sum_add_distrib, sum_swap px px_px, sum_swap pz pz_pz])
theorem dealt_zr (c : Dev nD) (k : Fin 8) :
    tallyOn (cell c (.dma (zr k))) (launchCredit (Pipeline.owing owe₀) 0 (cell c (.dma (zr k)))) = (tallyAt (cell c (.dma (zr k))) () NB : CellTallies nD τ sig Unit) :=
  dealt c _ NB (by rw [Finset.sum_congr rfl fun d _ => owe_zr d c k, sum_swap pz pz_pz])
theorem dealt_xr (c : Dev nD) (k : Fin 8) :
    tallyOn (cell c (.dma (xr k))) (launchCredit (Pipeline.owing owe₀) 0 (cell c (.dma (xr k)))) = (tallyAt (cell c (.dma (xr k))) () NB : CellTallies nD τ sig Unit) :=
  dealt c _ NB (by rw [Finset.sum_congr rfl fun d _ => owe_xr d c k, sum_swap px px_px])

/-- The semaphores on whose cells a device waits with a neighbour's credit. -/
def creditSems : Finset (SemLoc sig) := {.reg bs} ∪ (Finset.univ.map ⟨_, zr_inj⟩ ∪ Finset.univ.map ⟨_, xr_inj⟩)

theorem credits (c : Dev nD) : (Pipeline.launchCred owe₀ c : sProp 𝕄)
    ⊢ iprop(cred (tallyAt (cell c (.reg bs)) () 2) ∗ bigSep Finset.univ (duesC c)) := by
  unfold Pipeline.launchCred
  refine BIBase.Entails.trans (BI.bigSep_subset (Finset.subset_univ creditSems)) (Entails.of_eq ?_)
  unfold creditSems
  rw [BI.bigSep_union (by decide), BI.bigSep_union (by decide), BI.bigSep_singleton, BI.bigSep_map, BI.bigSep_map]
  refine congrArg₂ _ (congrArg _ (dealt_bar c)) ?_
  refine Eq.trans (congrArg₂ _ (BI.bigSep_congr fun k _ => congrArg _ (dealt_zr c k)) (BI.bigSep_congr fun k _ => congrArg _ (dealt_xr c k))) ?_
  exact (BI.bigSep_sep _ _ _).symm

end Cert.KernelIdeal.Lookup

end
-- ==== Proof.KernelIdeal.Run.lean ====
/-
  The program runs from every memory: it ends, its operands are unchanged and its output is the result.
-/
module

public import proofs.«01_k».proof.Proof.KernelIdeal.Deal

@[expose] public section

set_option maxRecDepth 16384

noncomputable section

namespace Cert.KernelIdeal.Lookup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.SL.ExclCount (Counters)
open Idealize.ShloMosaic.Pipeline (Dat BodyObligation)
open Cert.KernelIdeal.Gen

variable {F : FTy → Type} [FloatOps F]

variable (m : (ℓ : Loc nD τ sig) → Buf (Elt F) ℓ) (ρ : Dev nD → PrngReg)

local notation "𝕄" => MT nD τ sig Unit (Elt F) ℕ UU ℕ

/-! ## The ghost state at launch -/

abbrev atStart : Rounds.URounds (GSem nD τ sig) Bool := launchOf barCells scCells allToks

def u₀ : UU :=
  (initOf (Pipeline.cells (Pipeline.pin (pcfgs (F := F)) adm) cellOf_inj) (Pipeline.launchToks (Pipeline.pin (pcfgs (F := F)) adm) cellOf_inj),
    (atStart, 1))

/-- The protocol's ghost state waits with device 0 until the devices meet. -/
def G (d : Dev nD) : sProp 𝕄 := if d = 0 then BI.own (ER atStart) else iprop(emp)

theorem G_eq : bigSep Finset.univ (G (F := F)) = BI.own (ER atStart) := by
  rw [BI.bigSep_univ_at _ (0 : Dev nD), BI.bigSep_congr (s := Finset.univ.erase (0 : Dev nD)) (Ψ := fun _ => (BI.emp : sProp 𝕄))
      fun d hd => by unfold G; exact if_neg (Finset.ne_of_mem_erase hd), BI.bigSep_emp_const]
  exact (BI.equiv_iff.mp sep_emp).trans (by unfold G; exact if_pos rfl)

theorem u₀_deals : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ G) := by
  rw [G_eq]
  unfold u₀
  iintro H
  ihave H := (ownU_pair _ _) $$ H
  icases H with ⟨HP, HX⟩
  ihave HX := (own_pair_emb embR atStart (1 : Counters)) $$ HX
  icases HX with ⟨HX, -⟩
  imodintro
  isplitl [HP] <;> iassumption

theorem unscoped_sem (c : Dev nD) : (unscopedSems0 c : sProp 𝕄) = semVal (cell c (.reg bs)) 0 := by
  unfold unscopedSems0
  rw [show (Finset.univ.filter fun sm : SemLoc sig => ¬ sm.isScoped .tc) = {SemLoc.reg bs} from by decide, BI.bigSep_singleton]

/-! ## The first state of every device -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ Yk c)

/-- What a device has at launch besides the protocol's ghost state, -/
def own₀ (c : Dev nD) : sProp 𝕄 :=
  iprop(StableHlo.held (c : Thread nD τ) bufs (V₀ m c) ∗ (cred (tallyAt (cell c (.reg bs)) () 2) ∗ bigSep Finset.univ (duesC c))
    ∗ owes (c : Thread nD τ) (owe₀ c) ∅ ∗ prngReg c (ρ c))
/-- and its part of that state. -/
def share₀ (c : Dev nD) : sProp 𝕄 :=
  iprop(atPos ER (cell c (.reg bs)) 0 ∅ 0 ∗ (openA 0 c ∗ openA 1 c ∗ openA 2 c ∗ openA 3 c)
    ∗ (tokB (pz c) false ∗ tokB (px c) true) ∗ bigSep Finset.univ (toksC c))

theorem T₀_intro (K : GSem nD τ sig → ℕ) (c : Dev nD) : iprop(records (given m) K ∗ (share₀ c ∗ own₀ m ρ c)) ⊢ T₀ m c := by
  unfold share₀ own₀ T₀ R Tk placeBar
  iintro ⟨#HR, ⟨Ha, Ho, ⟨Hz, Hx⟩, Ht⟩, Hh, ⟨Hb, Hd⟩, HO, Hp⟩
  isplitl [Hh]; · iexact Hh
  isplitr [HO Hp]
  · isplitr; · iexists K; iexact HR
    isplitl [Ho]; · iapply (rights_intro c) $$ Ho
    isplitl [Ht]; · iexact Ht
    isplitl [Hd]; · iexact Hd
    isplitl [Ha]; · iexact Ha
    isplitl [Hz]; · iexact Hz
    isplitl [Hx] <;> iassumption
  isplitl [Hp]; · iexists (ρ c); iexact Hp
  iexists ∅; iexact HO

theorem core_intro (c : Dev nD) : iprop(unscopedBufs c (fun b => m ((c : Thread nD τ).loc b)) ∗ unscopedSems0 c
      ∗ owes (c : Thread nD τ) (owe₀ c) ∅ ∗ Pipeline.launchCred owe₀ c ∗ prngReg c (ρ c) ∗ G c)
    ⊢ (iprop(own₀ m ρ c ∗ (semVal (cell c (.reg bs)) 0 ∗ G c)) : sProp 𝕄) := by
  rw [show unscopedBufs c (fun b => m ((c : Thread nD τ).loc b)) = StableHlo.held (c : Thread nD τ) bufs (V₀ m c) from unscopedBufs_held c (V₀ m c),
    unscoped_sem]
  unfold own₀
  iintro ⟨Hh, Hs, HO, Hc, Hp, HG⟩
  ihave Hc := (credits (F := F) c) $$ Hc
  isplitr [Hs HG]
  · isplitl [Hh]; · iexact Hh
    isplitl [Hc]; · iexact Hc
    isplitl [HO] <;> iassumption
  isplitl [Hs] <;> iassumption

theorem bars_eq (Φ : GSem nD τ sig → sProp 𝕄) : bigSep barCells Φ = bigSep Finset.univ fun c : Dev nD => Φ (cell c (.reg bs)) :=
  BI.bigSep_map (s := Finset.univ) barEmb

theorem init :
    iprop((bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ G c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ G c))
      ⊢ (bigSep Finset.univ fun c : Dev nD => iprop(own₀ m ρ c ∗ (semVal (cell c (.reg bs)) 0 ∗ G c)) : sProp 𝕄) from
    BI.bigSep_mono fun c _ => core_intro m ρ c) $$ H
  ihave H := unzip $$ H; icases H with ⟨HB, H⟩
  ihave H := unzip $$ H; icases H with ⟨Hv, HG⟩
  ihave Hu := (Entails.of_eq (G_eq (F := F))) $$ HG
  ihave Hv := (Entails.of_eq (bars_eq fun g => (semVal g 0 : sProp 𝕄)).symm) $$ Hv
  imod (Rounds.fund_launch ER (sch (given m)) cells_disjoint (fun g _ h => h) allToks) $$ [Hv Hu] with ⟨%K, -, #Hinv, #Hr, Ha, Ho, Ht⟩
  · isplitl [Hv] <;> iassumption
  imodintro
  ihave Ha := (Entails.of_eq (bars_eq fun g => (atPos ER g 0 ∅ 0 : sProp 𝕄))) $$ Ha
  ihave Ho := (Entails.of_eq (opens_eq (F := F))) $$ Ho
  ihave Ht := (Entails.of_eq (toks_eq (F := F))) $$ Ht
  icases Ht with ⟨Hb, Ht⟩
  ihave Hb := (bar_around (F := F)) $$ Hb
  ihave Ht := (toks_around (F := F)) $$ Ht
  iapply (BI.bigSep_with_persistent (R := records (given m) K) (Φ := fun c => iprop(share₀ c ∗ own₀ m ρ c)) fun c _ => T₀_intro m ρ K c)
  isplitr
  · unfold records
    isplitr; · iexact Hinv
    iexact Hr
  iapply zip
  isplitr [HB]
  · unfold share₀
    iapply zip; isplitl [Ha]; · iexact Ha
    iapply zip; isplitl [Ho]; · iexact Ho
    iapply zip; isplitl [Hb] <;> iassumption
  · iexact HB

/-! ## The run -/

/-- A buffer of a device, whole. -/
abbrev pt (c : Dev nD) (b : Ref sig .tc) (f : b.ty.Contents (Elt F)) : sProp 𝕄 := (Memref.whole b).view.loc (c : Thread nD τ) ↦{fullShare} f

theorem bufs_eq (c : Dev nD) (W : Valuation τ sig (Elt F)) : (StableHlo.held (c : Thread nD τ) bufs W : sProp 𝕄)
    = iprop(pt c main_arg0 (W (Proc.devRef .tc main_arg0))
        ∗ pt c main_arg1 (W (Proc.devRef .tc main_arg1))
        ∗ pt c main_v1 (W (Proc.devRef .tc main_v1))
        ∗ pt c main_v2 (W (Proc.devRef .tc main_v2))) := by
  unfold StableHlo.held
  rw [BI.bigSep_eq_bigSepL_of_eq [Proc.devRef .tc main_arg0, Proc.devRef .tc main_arg1, Proc.devRef .tc main_v1, Proc.devRef .tc main_v2]
    (by decide) (by decide)]
  rfl

theorem only_bar : ∀ sm : SemLoc sig, sm.isScoped .tc = false → sm = .reg bs := by decide

set_option backward.isDefEq.respectTransparency.types false in
/-- From any memory with its counters at zero, the program ends on every device with the operands unchanged, the output
    holding the device's result, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outv (given m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owe₀) (hL := L_of_ne) (G := G) (u₀ := u₀ (F := F)) (hu₀ := u₀_deals)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_v2) = V₂ m c (Proc.devRef .tc main_v2)) ∧ s.sem (cell c (.reg bs)) = 0)
    (hfin := fun c s' => by
      dsimp only [Tₙ, Yk]; rw [bufs_eq]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_ne m c main_arg0 (by decide)] at h0
        rw [V₂_ne m c main_arg1 (by decide)] at h1
        rw [V₂_out] at h2
        exact ⟨h0, h1, h2⟩,
      sem_eq_zero hs fun c sm hsm => by
        obtain rfl := only_bar sm hsm
        exact (h c).2⟩)

end Cert.KernelIdeal.Lookup

end
-- ==== Proof.Value.Words.lean ====
/-
  The row numbers as words: which half of the table a number falls in, and the row of that half it names.
-/
module

public import proofs.«01_k».proof.Proof.KernelIdeal.Values
public import Idealize.ShloMosaic.Lib.WordArith

@[expose] public section

noncomputable section

namespace Cert.KernelIdeal.Lookup

open Idealize.ShloMosaic Idealize.ShloMosaic.WordArith Idealize.SL.Sem
open Cert.KernelIdeal.Gen

/-- A device's z coordinate is the parity of its number; its base row is 16384 times that. -/
theorem v0W_eq : ∀ d : Dev nD, v0W d = BitVec.ofNat 32 (16384 * (d.val % 2)) := by decide +kernel

/-- The z neighbour has the other parity and is in the same half by x; -/
theorem pz_place : ∀ d : Dev nD, (pz d).val % 2 = 1 - d.val % 2 ∧ (pz d).val / 4 = d.val / 4 := by decide +kernel
/-- the x neighbour is in the other half by x. -/
theorem px_place : ∀ d : Dev nD, (px d).val / 4 = 1 - d.val / 4 := by decide +kernel

theorem base_cases (d : Dev nD) : (v0W d = 0#32 ∧ d.val % 2 = 0) ∨ (v0W d = 16384#32 ∧ d.val % 2 = 1) := by
  have h := v0W_eq d
  rcases Nat.mod_two_eq_zero_or_one d.val with e | e
  · exact Or.inl ⟨by rw [h, e], e⟩
  · exact Or.inr ⟨by rw [h, e], e⟩

/-- The test that a row number falls in the device's half of the table. -/
def inHalf (w v : BitVec 32) : BitVec 1 :=
  IntOp.andi (IntOp.cmpi .sge v w) (IntOp.cmpi .slt v (IntOp.addi w 16384#32))

theorem inHalf_eq (d : Dev nD) (v : BitVec 32) (hv : v.toNat < 32768) :
    inHalf (v0W d) v = if v.toNat / 16384 = d.val % 2 then 1#1 else 0#1 := by
  unfold inHalf
  have hi : v.toInt = (v.toNat : ℤ) := by rw [BitVec.toInt_eq_toNat_cond]; split <;> omega
  have ha : ∀ a b : Bool, IntOp.andi (BitVec.ofBool a) (BitVec.ofBool b) = if a = true ∧ b = true then 1#1 else 0#1 := by decide
  unfold IntOp.cmpi
  rw [ha]
  refine if_congr ?_ rfl rfl
  dsimp only
  rw [BitVec.sle_iff_toInt_le, BitVec.slt_iff_toInt_lt, hi]
  rcases base_cases d with ⟨h, e⟩ | ⟨h, e⟩ <;> rw [h, e]
  · rw [show (0#32 : BitVec 32).toInt = 0 by decide, show (IntOp.addi 0#32 16384#32).toInt = 16384 by decide]; omega
  · rw [show (16384#32 : BitVec 32).toInt = 16384 by decide, show (IntOp.addi 16384#32 16384#32).toInt = 32768 by decide]; omega

/-- The row of the device's half that a row number in that half names. -/
theorem row_eq (d : Dev nD) (v : BitVec 32) (hv : v.toNat < 32768) (h : v.toNat / 16384 = d.val % 2) :
    k0_off3 d v 0 = v.toNat % 16384 := by
  show (IntOp.minsi 16383#32 (IntOp.maxsi 0#32 (IntOp.subi v (v0W d)))).toNat = _
  have hs : (IntOp.subi v (v0W d)).toInt = ((v.toNat % 16384 : ℕ) : ℤ) := by
    show (v - v0W d).toInt = _
    rcases base_cases d with ⟨hw, e⟩ | ⟨hw, e⟩ <;> rw [hw] <;> rw [e] at h <;> rw [BitVec.toInt_eq_toNat_cond, BitVec.toNat_sub] <;> simp <;> omega
  have hm : (IntOp.maxsi 0#32 (IntOp.subi v (v0W d))).toNat = v.toNat % 16384 := by rw [toNat_maxsi_zero, hs, Int.toNat_natCast]
  rw [toNat_minsi_of_lt _ _ (by decide) (by rw [hm]; omega), hm]
  simp
  omega

end Cert.KernelIdeal.Lookup

end
-- ==== Proof.Value.Rows.lean ====
/-
  Over the extended reals every device's output is the table's rows that the row numbers name.
-/
module

public import proofs.«01_k».proof.Proof.Value.Words
public import Idealize.ShloMosaic.PureOps.Ideal
public import Idealize.ShloMosaic.PureOps.Ideal.Laws
public import Idealize.ShloMosaic.Lib.Pipeline.Value

@[expose] public section

noncomputable section

namespace Cert.KernelIdeal.Lookup

open Idealize.ShloMosaic Idealize.SL.Sem
open Cert.KernelIdeal.Gen

/-- The index of a list at `i`. -/
def ix1 {n : ℕ} (i : Fin n) : (⟨1, ![n]⟩ : Shape).Idx := fun | 0 => i

/-- The whole table's rows that the row numbers `I` name. -/
def look (E : (Sh 32768 1024).Idx → EReal) (I : S2048.Idx → BitVec 32) (hI : ∀ x, (I x).toNat < 32768) : S2048x1024.Idx → EReal :=
  fun y => E (ix2 ⟨(I (ix1 (n := 2048) (y 0))).toNat, hI _⟩ (y 1))

/-- The devices are given the row numbers `I`, twice, and their halves of the table `E`. -/
structure Halves (A : Dev nD → Given Ideal) (E : (Sh 32768 1024).Idx → EReal) (I : S2048.Idx → BitVec 32) : Prop where
  ids : ∀ d, (A d).ids = I
  col : ∀ d (i : Fin 2048) (j : Fin 1), (A d).col (ix2 (n := 2048) (m := 1) i j) = I (ix1 i)
  tab : ∀ (d : Dev nD) (i : Fin 16384) (j : Fin 1024),
    (A d).tab (ix2 (n := 16384) (m := 1024) i j) = E (ix2 ⟨16384 * (d.val % 2) + i.val, by have := i.isLt; omega⟩ j)

/-- The select of a chunk, at one place: the element if its row number is in the half, and zero if not. -/
theorem pay1_at (w : BitVec 32) (v : Vec Ideal S128x1 .i32) (g : Vec Ideal S128x1024 .f32) (x : S128x1024.Idx) :
    k0_pay1 w v g x = if inHalf w (v (ix2 (n := 128) (m := 1) (x 0) 0)) = 1#1 then (g x : EReal) else 0 := by
  unfold k0_pay1
  rw [shapeCast_self]
  show Scalar.select (broadcastTo S128x1024 _ broadcasts_S128x1_S128x1024 x) (g x : EReal) (Ideal.ofBits .f32 0#32) = _
  rw [shapeCast_self, shapeCast_self, show Ideal.ofBits .f32 0#32 = 0 from Ideal.ofBits_zero_f32]
  have e : ∀ f : IVec S128x1 1, broadcastTo S128x1024 f broadcasts_S128x1_S128x1024 x = f (ix2 (n := 128) (m := 1) (x 0) 0) := fun f => by
    unfold broadcastTo
    refine congrArg f (funext fun a => ?_)
    fin_cases a <;> rfl
  rw [e]
  rfl

theorem pay9_at (a b : Vec Ideal S128x1024 .bf16) (x : S128x1024.Idx) : k0_pay9 a b x = (a x + b x : EReal) := rfl
theorem pay27_at (a : Vec Ideal S128x1024 .bf16) (x : S128x1024.Idx) : k0_pay27 a x = (a x : EReal) := rfl
theorem pay11_at (a b : Vec Ideal S128x1024 .bf16) (x : S128x1024.Idx) : k0_pay11 (k0_pay10 a b) x = (a x + b x : EReal) := by
  unfold k0_pay11
  rw [shapeCast_self]
  rfl

variable {A : Dev nD → Given Ideal} {E : (Sh 32768 1024).Idx → EReal} {I : S2048.Idx → BitVec 32} (H : Halves A E I) (hI : ∀ x, (I x).toNat < 32768)

/-- The row of the output where half `h`'s chunk `c` has its row `i`. -/
def place (h : ℕ) (hh : h < 2) (c : Fin 8) (i : Fin 128) : Fin 2048 := ⟨1024 * h + 128 * c.val + i.val, by have := c.isLt; have := i.isLt; omega⟩

theorem side (d : Dev nD) : d.val / 4 < 2 := by have := d.isLt; simp only [nD] at this; omega

/-- What the table holds for the row number at `place`. -/
abbrev found (E : (Sh 32768 1024).Idx → EReal) (I : S2048.Idx → BitVec 32) (hI : ∀ x, (I x).toNat < 32768) (d : Dev nD) (c : Fin 8) (x : S128x1024.Idx) : EReal :=
  look E I hI (ix2 (n := 2048) (m := 1024) (place (d.val / 4) (side d) c (x 0)) (x 1))

include H

/-- What a device sends along z is, at each place, the row found if it is in its half of the table, and zero if not. -/
theorem part_at (d : Dev nD) (c : Fin 8) (x : S128x1024.Idx) : blk (zsd d (A d)) c x
    = if (I (ix1 (place (d.val / 4) (side d) c (x 0)))).toNat / 16384 = d.val % 2 then found E I hI d c x else 0 := by
  have hx : (x 0).val < 128 := (x 0).isLt
  have hs := side d
  have hc := c.isLt
  rw [blk_zsd, pay1_at]
  have e₁ : (A d).col ((colR d c).emb (ix2 (n := 128) (m := 1) (x 0) 0)) = I (ix1 (place (d.val / 4) (side d) c (x 0))) := by
    rw [← H.col d _ 0]
    exact congrArg (A d).col (rect_rows_emb (off50_eq d c) (colOff_inb d c) (ix2 (n := 128) (m := 1) (x 0) 0) (by show _ + (x 0).val < 2048; omega))
  rw [e₁, inHalf_eq d _ (hI _)]
  set v := I (ix1 (place (d.val / 4) (side d) c (x 0))) with hv
  by_cases h : v.toNat / 16384 = d.val % 2
  · rw [if_pos h, if_pos rfl, if_pos h]
    unfold blk
    rw [chR_emb]
    have e₂ : idAt d (A d) (ix2 (n := 1024) (m := 1024) ⟨128 * c.val + (x 0).val, by omega⟩ (x 1) 0) = v := by
      unfold idAt
      rw [H.ids d, hv]
      refine congrArg I (funext fun a => ?_)
      fin_cases a
      refine Fin.ext ?_
      show 1024 * (d.val / 4) + (128 * c.val + (x 0).val) = 1024 * (d.val / 4) + 128 * c.val + (x 0).val
      omega
    have hr := row_eq d v (hI _) h
    unfold gat found look
    refine (H.tab d _ _).trans (congrArg E ?_)
    refine congrArg₂ ix2 (Fin.ext ?_) rfl
    show 16384 * (d.val % 2) + k0_off3 d (idAt d (A d) _) 0 = v.toNat
    refine (congrArg (fun u => 16384 * (d.val % 2) + k0_off3 d u 0) e₂).trans ?_
    show 16384 * (d.val % 2) + k0_off3 d v 0 = v.toNat
    omega
  · rw [if_neg h, if_neg (by decide), if_neg h]

/-- The two neighbours along z have the whole row between them. -/
theorem whole_at (d : Dev nD) (c : Fin 8) (x : S128x1024.Idx) :
    (blk (zsd d (A d)) c x + blk (zsd (pz d) (A (pz d))) c x : EReal) = found E I hI d c x := by
  have hp := pz_place d
  have e : place ((pz d).val / 4) (side (pz d)) c (x 0) = place (d.val / 4) (side d) c (x 0) := Fin.ext (by unfold place; dsimp only; rw [hp.2])
  rw [part_at H hI, part_at H hI, found, found, e, hp.1]
  have hv := hI (ix1 (place (d.val / 4) (side d) c (x 0)))
  by_cases h : (I (ix1 (place (d.val / 4) (side d) c (x 0)))).toNat / 16384 = d.val % 2
  · rw [if_pos h, if_neg (by omega)]; exact add_zero _
  · rw [if_neg h, if_pos (by omega)]; exact zero_add _

/-- The output of every device is the rows that the row numbers name. -/
theorem outv_eq (d : Dev nD) : outv A d = look E I hI := by
  funext y
  have hs := side d
  have hp := px_place d
  have hi : (y 0).val < 2048 := (y 0).isLt
  unfold outv outAt
  dsimp only
  have hc : (y 0).val % 1024 / 128 < 8 := by omega
  have hx : (y 0).val % 1024 % 128 < 128 := by omega
  have key : ∀ e : Dev nD, e.val / 4 = (y 0).val / 1024 →
      found E I hI e ⟨(y 0).val % 1024 / 128, hc⟩ (ix2 (n := 128) (m := 1024) ⟨(y 0).val % 1024 % 128, hx⟩ (y 1)) = look E I hI y := fun e he => by
    unfold found
    refine congrArg (look E I hI) (Eq.trans (congrArg₂ ix2 (Fin.ext ?_) rfl) (ix2_eta y))
    show 1024 * (e.val / 4) + 128 * ((y 0).val % 1024 / 128) + (y 0).val % 1024 % 128 = (y 0).val
    omega
  by_cases h : (y 0).val / 1024 = d.val / 4
  · rw [if_pos h, pay9_at, whole_at H hI]
    exact key d h.symm
  · rw [if_neg h, pay27_at, blk_xsd, pay11_at, whole_at H hI]
    exact key (px d) (by omega)

end Cert.KernelIdeal.Lookup

end
-- ==== Proof.Value.Given.lean ====
/-
  What the devices are given, when each one holds the row numbers and its half of the table.
-/
module

public import proofs.«01_k».proof.Proof.Value.Rows
public import proofs.«01_k».proof.Proof.KernelIdeal.Run
public import proofs.«01_k».proof.Pre_ids_in_range_KernelIdeal
public import proofs.«01_k».proof.Pre_ids_in_range_ReferenceIdeal
public import Idealize.ShloMosaic.Lib.Layout
public import Idealize.ShloMosaic.Lib.ValueLayoutCasts
public import Idealize.ShloMosaic.Lib.IdealHost

@[expose] public section

noncomputable section

/-- The precondition's one shape relation, over a device's blocks, -/
instance Cert.Pre_ids_in_range_KernelIdeal.facts : Cert.Pre_ids_in_range_KernelIdeal.Facts where
  bcast_S_S2048 := by decide
/-- and over the whole arrays. -/
instance Cert.Pre_ids_in_range_ReferenceIdeal.facts : Cert.Pre_ids_in_range_ReferenceIdeal.Facts where
  bcast_S_S2048 := by decide

namespace Cert.KernelIdeal.Lookup

open Idealize.ShloMosaic Idealize.SL.Sem
open Cert.KernelIdeal.Gen

theorem ix2_eq {n m : ℕ} (i : Fin n) (j : Fin m) : ValueIdx.ix2 i j = ix2 i j := by
  funext a
  match a with
  | ⟨0, _⟩ => rfl
  | ⟨1, _⟩ => rfl

theorem ix1_eq {n : ℕ} (i : Fin n) : ValueIdx.ix1 i = ix1 i := by
  funext a
  match a with
  | ⟨0, _⟩ => rfl

/-- The precondition says that every row number is below 32768. -/
theorem in_range (I : IVec S2048 32) (E : FVec Ideal S16384x1024 .f32)
    (h : Cert.Pre_ids_in_range_KernelIdeal.fn (F := Ideal) I E = fun _ => 1#1) (x : S2048.Idx) : (I x).toNat < 32768 := by
  have h' : IntOp.andi (IntOp.cmpi .sge (I x) 0#32) (IntOp.cmpi .slt (I x) 32768#32) = 1#1 := congrFun h x
  have ha : ∀ a b : Bool, IntOp.andi (BitVec.ofBool a) (BitVec.ofBool b) = 1#1 → a = true ∧ b = true := by decide
  unfold IntOp.cmpi at h'
  obtain ⟨h₁, h₂⟩ := ha _ _ h'
  rw [BitVec.sle_iff_toInt_le] at h₁
  rw [BitVec.slt_iff_toInt_lt] at h₂
  rw [show (0#32 : BitVec 32).toInt = 0 by decide] at h₁
  rw [show (32768#32 : BitVec 32).toInt = 32768 by decide] at h₂
  rw [BitVec.toInt_eq_toNat_cond] at h₁ h₂
  have := (I x).isLt
  split at h₁ <;> omega

/-- The half of the table that device `c` of the mesh holds. -/
theorem half_val (c : Dev nD) : Layout.meshLin [2, 2, 2] c.val [2] = c.val % 2 := by
  revert c; decide

/-- Devices that hold the row numbers `I` and their halves of the table `E` are given just these. -/
theorem halves (m : (ℓ : Loc nD τ sig) → Buf (Elt Ideal) ℓ) (I : S2048.Idx → BitVec 32) (E : (Sh 32768 1024).Idx → EReal)
    (h : ∀ c : Dev nD, m ((c.tc : Thread nD τ).loc main_arg0) = I
      ∧ m ((c.tc : Thread nD τ).loc main_arg1) = Layout.blockN ⟨2, ![16384, 1024]⟩ ⟨2, ![32768, 1024]⟩ (Layout.meshBlock [2, 2, 2] ![[2], []] c) E) :
    Halves (given m) E I where
  ids d := (h d).1
  col d i j := by
    have e : (given m d).col = shapeCast S2048x1 (m ((d.tc : Thread nD τ).loc main_arg0)) shapeCasts_S2048_S2048x1 := rfl
    rw [e, (h d).1, ← ix2_eq, ← ix1_eq]
    exact ValueIdx.shapeCast_a_a1_apply I _ i j
  tab d i j := by
    have e : (given m d).tab = m ((d.tc : Thread nD τ).loc main_arg1) := rfl
    rw [e, (h d).2, Layout.blockN_apply]
    refine congrArg E (funext fun a => ?_)
    match a with
    | ⟨0, _⟩ =>
      refine Fin.ext ((Layout.TilesN.idx_val _ _ _ _).trans ?_)
      have hb := half_val d
      show Layout.meshLin [2, 2, 2] d.val [2] * 16384 + i.val = 16384 * (d.val % 2) + i.val
      omega
    | ⟨1, _⟩ =>
      refine Fin.ext ((Layout.TilesN.idx_val _ _ _ _).trans ?_)
      show 0 * 1024 + j.val = j.val
      omega

end Cert.KernelIdeal.Lookup

end
-- ==== Proof.Value.Reference.lean ====
/-
  What the reference computes, when every row number is in the table.
-/
module

public import proofs.«01_k».proof.Proof.Value.Given
public import proofs.«01_k».proof.Proof.Gen.ReferenceIdeal
public import Idealize.ShloMosaic.Lib.Routing.Ops

@[expose] public section

noncomputable section

namespace Cert.ReferenceIdeal.Lookup

open Idealize.ShloMosaic Idealize.SL.Sem
open Cert.ReferenceIdeal Cert.ReferenceIdeal.Gen
open Cert.KernelIdeal.Lookup (look ix2_eq)

/-- The row numbers as the reference reads them: counted from the end if negative. -/
def wrapped (I : IVec S2048 32) : IVec S2048 32 :=
  select (cmpi .slt I (broadcastInDim S2048 ![] bcast_S_S2048 (constantI S_ 32 0#32)))
    (addi I (broadcastInDim S2048 ![] bcast_S_S2048 (constantI S_ 32 32768#32))) I

/-- A row number in the table is read as it is. -/
theorem wrapped_at (I : IVec S2048 32) (x : S2048.Idx) (h : (I x).toNat < 32768) : wrapped I x = I x := by
  show Scalar.select (IntOp.cmpi .slt (I x) 0#32) (IntOp.addi (I x) 32768#32) (I x) = I x
  have hn : IntOp.cmpi .slt (I x) 0#32 = 0#1 := by
    have e : (I x).slt 0#32 = false := by
      rw [Bool.eq_false_iff, Ne, BitVec.slt_iff_toInt_lt, show (0#32 : BitVec 32).toInt = 0 by decide, BitVec.toInt_eq_toNat_cond]
      split <;> omega
    show BitVec.ofBool ((I x).slt 0#32) = 0#1
    rw [e]; rfl
  rw [hn]; rfl

/-- The reference's result is the rows that the row numbers name. -/
theorem gather_eq (E : FVec Ideal S32768x1024 .f32) (I : IVec S2048 32) (hI : ∀ x, (I x).toNat < 32768) :
    Host.gather gather_S32768x1024_S2048x1_S2048x1024_1_0_n_n_0_1_11024 E (broadcastInDim S2048x1 ![0] bcast_S2048_S2048x1_0 (wrapped I))
      = look E I hI := by
  funext y
  have hy : y = ValueIdx.ix2 (n0 := 2048) (n1 := 1024) (y 0) (y 1) := by
    funext a
    match a with
    | ⟨0, _⟩ => rfl
    | ⟨1, _⟩ => rfl
  have hb : broadcastInDim S2048x1 ![0] bcast_S2048_S2048x1_0 (wrapped I) (ValueIdx.ix2 (n0 := 2048) (n1 := 1) (y 0) 0)
      = BitVec.ofNat 32 (I (KernelIdeal.Lookup.ix1 (n := 2048) (y 0))).toNat := by
    rw [BitVec.ofNat_toNat, BitVec.setWidth_eq]
    refine Eq.trans ?_ (wrapped_at I _ (hI _))
    refine congrArg (wrapped I) (funext fun a => ?_)
    match a with
    | ⟨0, _⟩ => rfl
  rw [hy]
  refine (Routing.gather_row _ rfl rfl rfl rfl rfl E _ (y 0) (y 1) ⟨(I (KernelIdeal.Lookup.ix1 (n := 2048) (y 0))).toNat, hI _⟩ hb (by decide)).trans ?_
  exact congrArg E (ix2_eq _ _)

end Cert.ReferenceIdeal.Lookup

end
-- ==== Proof.lean ====
/-
  The claims together: each program runs, leaves its operands unchanged and every counter at zero; the idealised
  kernel is the kernel's own text; and over the extended reals every device ends with the reference's result, when every
  row number is in the table.
-/
module

public import proofs.«01_k».proof.Defs
public import proofs.«01_k».proof.Proof.Kernel.Run
public import proofs.«01_k».proof.Proof.KernelIdeal.Run
public import proofs.«01_k».proof.Proof.Value.Given
public import proofs.«01_k».proof.Proof.Value.Reference
public import Idealize.ShloMosaic.Lib.Claim
public import Idealize.ShloMosaic.Adequacy
public import Idealize.ShloMosaic.Init

@[expose] public section

noncomputable section

namespace Cert.Proof

open Idealize.ShloMosaic Idealize.SL.Sem

/-- The kernel runs, and ends with its operands unchanged and every counter at zero. -/
theorem frame_kernel : Cert.quiescent_Kernel := fun m g _ =>
  θ_run_mono (Cert.Kernel.Lookup.run_main (F := Bits) m g) fun _ h => ⟨fun c => ⟨(h.1 c).1, (h.1 c).2.1⟩, h.2⟩

/-- So does the idealised kernel. -/
theorem frame_kernel_ideal : Cert.quiescent_KernelIdeal := fun m g _ =>
  θ_run_mono (Cert.KernelIdeal.Lookup.run_main (F := Ideal) m g) fun _ h => ⟨fun c => ⟨(h.1 c).1, (h.1 c).2.1⟩, h.2⟩

/-- So does the reference. -/
theorem frame_reference : Cert.quiescent_ReferenceIdeal := by
  intro m g _
  hlo_run
  · exact fun _ => ⟨trivial, trivial⟩
  · exact sem_eq_zero_of_no_sems (by decide) r.2

/-- Both are so from the memories that meet the precondition. -/
theorem frame_kernel_ideal_pre : Cert.quiescent_KernelIdeal_pre_ids_in_range_KernelIdeal := fun m g _ => frame_kernel_ideal m g trivial
theorem frame_reference_pre : Cert.quiescent_ReferenceIdeal_pre_ids_in_range_ReferenceIdeal := fun m g _ => frame_reference m g trivial

/-- Over the extended reals, when every row number is in the table, every device ends with the reference's result. -/
theorem algebraic : Cert.algebraic_KernelIdeal_ReferenceIdeal_pre_ids_in_range_KernelIdeal := by
  intro m g m' g' hpre hagree
  have hI : ∀ x, (m' (((0 : Dev Cert.ReferenceIdeal.nD).tc : Thread Cert.ReferenceIdeal.nD Cert.ReferenceIdeal.τ).loc Cert.ReferenceIdeal.main_arg0) x).toNat < 32768 := fun x => by
    rw [← (hagree 0).1]
    exact Cert.KernelIdeal.Lookup.in_range _ _ (hpre 0) x
  have H := Cert.KernelIdeal.Lookup.halves m _ _ hagree
  refine ⟨Cert.KernelIdeal.Lookup.look _ _ hI,
    θ_run_mono (Cert.KernelIdeal.Lookup.run_main (F := Ideal) m g) fun _ h c =>
      ⟨(h.1 c).2.2.trans (Cert.KernelIdeal.Lookup.outv_eq H hI c), (h.1 c).1, (h.1 c).2.1⟩, ?_⟩
  hlo_run
  exact Cert.ReferenceIdeal.Lookup.gather_eq _ _ hI

theorem claim : Cert.Claim :=
  ⟨Cert.Kernel.Gen.facts, Cert.KernelIdeal.Gen.facts, Cert.ReferenceIdeal.Gen.facts,
    Cert.Pre_ids_in_range_KernelIdeal.facts, Cert.Pre_ids_in_range_ReferenceIdeal.facts,
    frame_kernel, frame_kernel_ideal, frame_kernel_ideal_pre, frame_reference, frame_reference_pre, trivial, algebraic⟩

end Cert.Proof

end
